-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Thresh (m : (ℓ : Loc Cert.Thresh.nD Cert.Thresh.τ Cert.Thresh.sig) → Buf (Elt Bits) ℓ) : Prop :=
  True

def Pre_ThreshIdeal (m : (ℓ : Loc Cert.ThreshIdeal.nD Cert.ThreshIdeal.τ Cert.ThreshIdeal.sig) → Buf (Elt Ideal) ℓ) : Prop :=
  True

def Pre_ThreshReferenceIdeal (m : (ℓ : Loc Cert.ThreshReferenceIdeal.nD Cert.ThreshReferenceIdeal.τ Cert.ThreshReferenceIdeal.sig) → Buf (Elt Ideal) ℓ) : Prop :=
  True

def Pre_Order (m : (ℓ : Loc Cert.Order.nD Cert.Order.τ Cert.Order.sig) → Buf (Elt Bits) ℓ) : Prop :=
  True

def Pre_OrderIdeal (m : (ℓ : Loc Cert.OrderIdeal.nD Cert.OrderIdeal.τ Cert.OrderIdeal.sig) → Buf (Elt Ideal) ℓ) : Prop :=
  True

def Pre_OrderReferenceIdeal (m : (ℓ : Loc Cert.OrderReferenceIdeal.nD Cert.OrderReferenceIdeal.τ Cert.OrderReferenceIdeal.sig) → Buf (Elt Ideal) ℓ) : Prop :=
  True

def Pre_Nms (m : (ℓ : Loc Cert.Nms.nD Cert.Nms.τ Cert.Nms.sig) → Buf (Elt Bits) ℓ) : Prop :=
  True

def Pre_NmsIdeal (m : (ℓ : Loc Cert.NmsIdeal.nD Cert.NmsIdeal.τ Cert.NmsIdeal.sig) → Buf (Elt Ideal) ℓ) : Prop :=
  True

def Pre_NmsReferenceIdeal (m : (ℓ : Loc Cert.NmsReferenceIdeal.nD Cert.NmsReferenceIdeal.τ Cert.NmsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Thresh [hThresh : Cert.Thresh.Facts] : Prop :=
  ∀ (m : (ℓ : Loc Cert.Thresh.nD Cert.Thresh.τ Cert.Thresh.sig) → Buf (Elt Bits) ℓ) (g : Dev Cert.Thresh.nD → PrngReg), Pre_Thresh m →
    θ_run (Cert.Thresh.defs (F := Bits)) (onTc (τ := Cert.Thresh.τ) (Cert.Thresh.main (F := Bits))) ⟨m, fun _ => 0, g⟩ (fun r => (∀ c : Dev Cert.Thresh.nD,
      r.2.mem ((c.tc : Thread Cert.Thresh.nD Cert.Thresh.τ).loc Cert.Thresh.main_arg0) = m ((c.tc : Thread Cert.Thresh.nD Cert.Thresh.τ).loc Cert.Thresh.main_arg0))
      ∧ r.2.sem = fun _ => 0)

def quiescent_ThreshIdeal [hThreshIdeal : Cert.ThreshIdeal.Facts] : Prop :=
  ∀ (m : (ℓ : Loc Cert.ThreshIdeal.nD Cert.ThreshIdeal.τ Cert.ThreshIdeal.sig) → Buf (Elt Ideal) ℓ) (g : Dev Cert.ThreshIdeal.nD → PrngReg), Pre_ThreshIdeal m →
    θ_run (Cert.ThreshIdeal.defs (F := Ideal)) (onTc (τ := Cert.ThreshIdeal.τ) (Cert.ThreshIdeal.main (F := Ideal))) ⟨m, fun _ => 0, g⟩ (fun r => (∀ c : Dev Cert.ThreshIdeal.nD,
      r.2.mem ((c.tc : Thread Cert.ThreshIdeal.nD Cert.ThreshIdeal.τ).loc Cert.ThreshIdeal.main_arg0) = m ((c.tc : Thread Cert.ThreshIdeal.nD Cert.ThreshIdeal.τ).loc Cert.ThreshIdeal.main_arg0))
      ∧ r.2.sem = fun _ => 0)

def quiescent_ThreshReferenceIdeal [hThreshReferenceIdeal : Cert.ThreshReferenceIdeal.Facts] : Prop :=
  ∀ (m : (ℓ : Loc Cert.ThreshReferenceIdeal.nD Cert.ThreshReferenceIdeal.τ Cert.ThreshReferenceIdeal.sig) → Buf (Elt Ideal) ℓ) (g : Dev Cert.ThreshReferenceIdeal.nD → PrngReg), Pre_ThreshReferenceIdeal m →
    θ_run (Cert.ThreshReferenceIdeal.defs (F := Ideal)) (onTc (τ := Cert.ThreshReferenceIdeal.τ) (Cert.ThreshReferenceIdeal.main (F := Ideal))) ⟨m, fun _ => 0, g⟩ (fun r => (∀ c : Dev Cert.ThreshReferenceIdeal.nD,
      r.2.mem ((c.tc : Thread Cert.ThreshReferenceIdeal.nD Cert.ThreshReferenceIdeal.τ).loc Cert.ThreshReferenceIdeal.main_arg0) = m ((c.tc : Thread Cert.ThreshReferenceIdeal.nD Cert.ThreshReferenceIdeal.τ).loc Cert.ThreshReferenceIdeal.main_arg0))
      ∧ r.2.sem = fun _ => 0)

def quiescent_Order [hOrder : Cert.Order.Facts] : Prop :=
  ∀ (m : (ℓ : Loc Cert.Order.nD Cert.Order.τ Cert.Order.sig) → Buf (Elt Bits) ℓ) (g : Dev Cert.Order.nD → PrngReg), Pre_Order m →
    θ_run (Cert.Order.defs (F := Bits)) (onTc (τ := Cert.Order.τ) (Cert.Order.main (F := Bits))) ⟨m, fun _ => 0, g⟩ (fun r => (∀ c : Dev Cert.Order.nD,
      r.2.mem ((c.tc : Thread Cert.Order.nD Cert.Order.τ).loc Cert.Order.main_arg0) = m ((c.tc : Thread Cert.Order.nD Cert.Order.τ).loc Cert.Order.main_arg0)
      ∧ r.2.mem ((c.tc : Thread Cert.Order.nD Cert.Order.τ).loc Cert.Order.main_arg1) = m ((c.tc : Thread Cert.Order.nD Cert.Order.τ).loc Cert.Order.main_arg1)
      ∧ r.2.mem ((c.tc : Thread Cert.Order.nD Cert.Order.τ).loc Cert.Order.main_arg2) = m ((c.tc : Thread Cert.Order.nD Cert.Order.τ).loc Cert.Order.main_arg2))
      ∧ r.2.sem = fun _ => 0)

def quiescent_OrderIdeal [hOrderIdeal : Cert.OrderIdeal.Facts] : Prop :=
  ∀ (m : (ℓ : Loc Cert.OrderIdeal.nD Cert.OrderIdeal.τ Cert.OrderIdeal.sig) → Buf (Elt Ideal) ℓ) (g : Dev Cert.OrderIdeal.nD → PrngReg), Pre_OrderIdeal m →
    θ_run (Cert.OrderIdeal.defs (F := Ideal)) (onTc (τ := Cert.OrderIdeal.τ) (Cert.OrderIdeal.main (F := Ideal))) ⟨m, fun _ => 0, g⟩ (fun r => (∀ c : Dev Cert.OrderIdeal.nD,
      r.2.mem ((c.tc : Thread Cert.OrderIdeal.nD Cert.OrderIdeal.τ).loc Cert.OrderIdeal.main_arg0) = m ((c.tc : Thread Cert.OrderIdeal.nD Cert.OrderIdeal.τ).loc Cert.OrderIdeal.main_arg0)
      ∧ r.2.mem ((c.tc : Thread Cert.OrderIdeal.nD Cert.OrderIdeal.τ).loc Cert.OrderIdeal.main_arg1) = m ((c.tc : Thread Cert.OrderIdeal.nD Cert.OrderIdeal.τ).loc Cert.OrderIdeal.main_arg1)
      ∧ r.2.mem ((c.tc : Thread Cert.OrderIdeal.nD Cert.OrderIdeal.τ).loc Cert.OrderIdeal.main_arg2) = m ((c.tc : Thread Cert.OrderIdeal.nD Cert.OrderIdeal.τ).loc Cert.OrderIdeal.main_arg2))
      ∧ r.2.sem = fun _ => 0)

def quiescent_OrderReferenceIdeal [hOrderReferenceIdeal : Cert.OrderReferenceIdeal.Facts] : Prop :=
  ∀ (m : (ℓ : Loc Cert.OrderReferenceIdeal.nD Cert.OrderReferenceIdeal.τ Cert.OrderReferenceIdeal.sig) → Buf (Elt Ideal) ℓ) (g : Dev Cert.OrderReferenceIdeal.nD → PrngReg), Pre_OrderReferenceIdeal m →
    θ_run (Cert.OrderReferenceIdeal.defs (F := Ideal)) (onTc (τ := Cert.OrderReferenceIdeal.τ) (Cert.OrderReferenceIdeal.main (F := Ideal))) ⟨m, fun _ => 0, g⟩ (fun r => (∀ c : Dev Cert.OrderReferenceIdeal.nD,
      r.2.mem ((c.tc : Thread Cert.OrderReferenceIdeal.nD Cert.OrderReferenceIdeal.τ).loc Cert.OrderReferenceIdeal.main_arg0) = m ((c.tc : Thread Cert.OrderReferenceIdeal.nD Cert.OrderReferenceIdeal.τ).loc Cert.OrderReferenceIdeal.main_arg0)
      ∧ r.2.mem ((c.tc : Thread Cert.OrderReferenceIdeal.nD Cert.OrderReferenceIdeal.τ).loc Cert.OrderReferenceIdeal.main_arg1) = m ((c.tc : Thread Cert.OrderReferenceIdeal.nD Cert.OrderReferenceIdeal.τ).loc Cert.OrderReferenceIdeal.main_arg1)
      ∧ r.2.mem ((c.tc : Thread Cert.OrderReferenceIdeal.nD Cert.OrderReferenceIdeal.τ).loc Cert.OrderReferenceIdeal.main_arg2) = m ((c.tc : Thread Cert.OrderReferenceIdeal.nD Cert.OrderReferenceIdeal.τ).loc Cert.OrderReferenceIdeal.main_arg2))
      ∧ r.2.sem = fun _ => 0)

def quiescent_Nms [hNms : Cert.Nms.Facts] : Prop :=
  ∀ (m : (ℓ : Loc Cert.Nms.nD Cert.Nms.τ Cert.Nms.sig) → Buf (Elt Bits) ℓ) (g : Dev Cert.Nms.nD → PrngReg), Pre_Nms m →
    θ_run (Cert.Nms.defs (F := Bits)) (onTc (τ := Cert.Nms.τ) (Cert.Nms.main (F := Bits))) ⟨m, fun _ => 0, g⟩ (fun r => (∀ c : Dev Cert.Nms.nD,
      r.2.mem ((c.tc : Thread Cert.Nms.nD Cert.Nms.τ).loc Cert.Nms.main_arg0) = m ((c.tc : Thread Cert.Nms.nD Cert.Nms.τ).loc Cert.Nms.main_arg0)
      ∧ r.2.mem ((c.tc : Thread Cert.Nms.nD Cert.Nms.τ).loc Cert.Nms.main_arg1) = m ((c.tc : Thread Cert.Nms.nD Cert.Nms.τ).loc Cert.Nms.main_arg1)
      ∧ r.2.mem ((c.tc : Thread Cert.Nms.nD Cert.Nms.τ).loc Cert.Nms.main_arg2) = m ((c.tc : Thread Cert.Nms.nD Cert.Nms.τ).loc Cert.Nms.main_arg2))
      ∧ r.2.sem = fun _ => 0)

def quiescent_NmsIdeal [hNmsIdeal : Cert.NmsIdeal.Facts] : Prop :=
  ∀ (m : (ℓ : Loc Cert.NmsIdeal.nD Cert.NmsIdeal.τ Cert.NmsIdeal.sig) → Buf (Elt Ideal) ℓ) (g : Dev Cert.NmsIdeal.nD → PrngReg), Pre_NmsIdeal m →
    θ_run (Cert.NmsIdeal.defs (F := Ideal)) (onTc (τ := Cert.NmsIdeal.τ) (Cert.NmsIdeal.main (F := Ideal))) ⟨m, fun _ => 0, g⟩ (fun r => (∀ c : Dev Cert.NmsIdeal.nD,
      r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
      ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1)
      ∧ r.2.mem ((c.tc : Thread Cert.NmsIdeal.nD Cert.NmsIdeal.τ).loc Cert.NmsIdeal.main_arg2) = m ((c.tc : Thread Cert.NmsIdeal.nD Cert.NmsIdeal.τ).loc Cert.NmsIdeal.main_arg2))
      ∧ r.2.sem = fun _ => 0)

def quiescent_NmsReferenceIdeal [hNmsReferenceIdeal : Cert.NmsReferenceIdeal.Facts] : Prop :=
  ∀ (m : (ℓ : Loc Cert.NmsReferenceIdeal.nD Cert.NmsReferenceIdeal.τ Cert.NmsReferenceIdeal.sig) → Buf (Elt Ideal) ℓ) (g : Dev Cert.NmsReferenceIdeal.nD → PrngReg), Pre_NmsReferenceIdeal m →
    θ_run (Cert.NmsReferenceIdeal.defs (F := Ideal)) (onTc (τ := Cert.NmsReferenceIdeal.τ) (Cert.NmsReferenceIdeal.main (F := Ideal))) ⟨m, fun _ => 0, g⟩ (fun r => (∀ c : Dev Cert.NmsReferenceIdeal.nD,
      r.2.mem ((c.tc : Thread Cert.NmsReferenceIdeal.nD Cert.NmsReferenceIdeal.τ).loc Cert.NmsReferenceIdeal.main_arg0) = m ((c.tc : Thread Cert.NmsReferenceIdeal.nD Cert.NmsReferenceIdeal.τ).loc Cert.NmsReferenceIdeal.main_arg0)
      ∧ r.2.mem ((c.tc : Thread Cert.NmsReferenceIdeal.nD Cert.NmsReferenceIdeal.τ).loc Cert.NmsReferenceIdeal.main_arg1) = m ((c.tc : Thread Cert.NmsReferenceIdeal.nD Cert.NmsReferenceIdeal.τ).loc Cert.NmsReferenceIdeal.main_arg1)
      ∧ r.2.mem ((c.tc : Thread Cert.NmsReferenceIdeal.nD Cert.NmsReferenceIdeal.τ).loc Cert.NmsReferenceIdeal.main_arg2) = m ((c.tc : Thread Cert.NmsReferenceIdeal.nD Cert.NmsReferenceIdeal.τ).loc Cert.NmsReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Thresh_ThreshIdeal : Prop :=
  True

def algebraic_ThreshIdeal_ThreshReferenceIdeal [hThreshIdeal : Cert.ThreshIdeal.Facts] [hThreshReferenceIdeal : Cert.ThreshReferenceIdeal.Facts] : Prop :=
  ∀ (m : (ℓ : Loc Cert.ThreshIdeal.nD Cert.ThreshIdeal.τ Cert.ThreshIdeal.sig) → Buf (Elt Ideal) ℓ) (g : Dev Cert.ThreshIdeal.nD → PrngReg)
    (m' : (ℓ : Loc Cert.ThreshReferenceIdeal.nD Cert.ThreshReferenceIdeal.τ Cert.ThreshReferenceIdeal.sig) → Buf (Elt Ideal) ℓ) (g' : Dev Cert.ThreshReferenceIdeal.nD → PrngReg), Pre_ThreshIdeal m →
    (∀ c : Dev Cert.ThreshIdeal.nD,
      m' ((c.tc : Thread Cert.ThreshReferenceIdeal.nD Cert.ThreshReferenceIdeal.τ).loc Cert.ThreshReferenceIdeal.main_arg0) = m ((c.tc : Thread Cert.ThreshIdeal.nD Cert.ThreshIdeal.τ).loc Cert.ThreshIdeal.main_arg0)) →
    ∃ (v0 : (c : Dev Cert.ThreshIdeal.nD) → Buf (Elt Ideal) ((c.tc : Thread Cert.ThreshIdeal.nD Cert.ThreshIdeal.τ).loc Cert.ThreshIdeal.main_v0)),
      θ_run (Cert.ThreshIdeal.defs (F := Ideal)) (onTc (τ := Cert.ThreshIdeal.τ) (Cert.ThreshIdeal.main (F := Ideal))) ⟨m, fun _ => 0, g⟩ (fun r => ∀ c : Dev Cert.ThreshIdeal.nD,
          r.2.mem ((c.tc : Thread Cert.ThreshIdeal.nD Cert.ThreshIdeal.τ).loc Cert.ThreshIdeal.main_v0) = v0 c
          ∧ r.2.mem ((c.tc : Thread Cert.ThreshIdeal.nD Cert.ThreshIdeal.τ).loc Cert.ThreshIdeal.main_arg0) = m ((c.tc : Thread Cert.ThreshIdeal.nD Cert.ThreshIdeal.τ).loc Cert.ThreshIdeal.main_arg0))
      ∧ θ_run (Cert.ThreshReferenceIdeal.defs (F := Ideal)) (onTc (τ := Cert.ThreshReferenceIdeal.τ) (Cert.ThreshReferenceIdeal.main (F := Ideal))) ⟨m', fun _ => 0, g'⟩ (fun r => ∀ c : Dev Cert.ThreshReferenceIdeal.nD,
          r.2.mem ((c.tc : Thread Cert.ThreshReferenceIdeal.nD Cert.ThreshReferenceIdeal.τ).loc Cert.ThreshReferenceIdeal.main_v13) = v0 c
          ∧ r.2.mem ((c.tc : Thread Cert.ThreshReferenceIdeal.nD Cert.ThreshReferenceIdeal.τ).loc Cert.ThreshReferenceIdeal.main_arg0) = m' ((c.tc : Thread Cert.ThreshReferenceIdeal.nD Cert.ThreshReferenceIdeal.τ).loc Cert.ThreshReferenceIdeal.main_arg0))

def preserves_Order_OrderIdeal : Prop :=
  True

def algebraic_OrderIdeal_OrderReferenceIdeal [hOrderIdeal : Cert.OrderIdeal.Facts] [hOrderReferenceIdeal : Cert.OrderReferenceIdeal.Facts] : Prop :=
  ∀ (m : (ℓ : Loc Cert.OrderIdeal.nD Cert.OrderIdeal.τ Cert.OrderIdeal.sig) → Buf (Elt Ideal) ℓ) (g : Dev Cert.OrderIdeal.nD → PrngReg)
    (m' : (ℓ : Loc Cert.OrderReferenceIdeal.nD Cert.OrderReferenceIdeal.τ Cert.OrderReferenceIdeal.sig) → Buf (Elt Ideal) ℓ) (g' : Dev Cert.OrderReferenceIdeal.nD → PrngReg), Pre_OrderIdeal m →
    (∀ c : Dev Cert.OrderIdeal.nD,
      m' ((c.tc : Thread Cert.OrderReferenceIdeal.nD Cert.OrderReferenceIdeal.τ).loc Cert.OrderReferenceIdeal.main_arg0) = m ((c.tc : Thread Cert.OrderIdeal.nD Cert.OrderIdeal.τ).loc Cert.OrderIdeal.main_arg0)
      ∧ m' ((c.tc : Thread Cert.OrderReferenceIdeal.nD Cert.OrderReferenceIdeal.τ).loc Cert.OrderReferenceIdeal.main_arg1) = m ((c.tc : Thread Cert.OrderIdeal.nD Cert.OrderIdeal.τ).loc Cert.OrderIdeal.main_arg1)
      ∧ m' ((c.tc : Thread Cert.OrderReferenceIdeal.nD Cert.OrderReferenceIdeal.τ).loc Cert.OrderReferenceIdeal.main_arg2) = m ((c.tc : Thread Cert.OrderIdeal.nD Cert.OrderIdeal.τ).loc Cert.OrderIdeal.main_arg2)) →
    ∃ (v0 : (c : Dev Cert.OrderIdeal.nD) → Buf (Elt Ideal) ((c.tc : Thread Cert.OrderIdeal.nD Cert.OrderIdeal.τ).loc Cert.OrderIdeal.main_v0_0)) (v1 : (c : Dev Cert.OrderIdeal.nD) → Buf (Elt Ideal) ((c.tc : Thread Cert.OrderIdeal.nD Cert.OrderIdeal.τ).loc Cert.OrderIdeal.main_v0_1)) (v2 : (c : Dev Cert.OrderIdeal.nD) → Buf (Elt Ideal) ((c.tc : Thread Cert.OrderIdeal.nD Cert.OrderIdeal.τ).loc Cert.OrderIdeal.main_v0_2)),
      θ_run (Cert.OrderIdeal.defs (F := Ideal)) (onTc (τ := Cert.OrderIdeal.τ) (Cert.OrderIdeal.main (F := Ideal))) ⟨m, fun _ => 0, g⟩ (fun r => ∀ c : Dev Cert.OrderIdeal.nD,
          r.2.mem ((c.tc : Thread Cert.OrderIdeal.nD Cert.OrderIdeal.τ).loc Cert.OrderIdeal.main_v0_0) = v0 c
          ∧ r.2.mem ((c.tc : Thread Cert.OrderIdeal.nD Cert.OrderIdeal.τ).loc Cert.OrderIdeal.main_v0_1) = v1 c
          ∧ r.2.mem ((c.tc : Thread Cert.OrderIdeal.nD Cert.OrderIdeal.τ).loc Cert.OrderIdeal.main_v0_2) = v2 c
          ∧ r.2.mem ((c.tc : Thread Cert.OrderIdeal.nD Cert.OrderIdeal.τ).loc Cert.OrderIdeal.main_arg0) = m ((c.tc : Thread Cert.OrderIdeal.nD Cert.OrderIdeal.τ).loc Cert.OrderIdeal.main_arg0)
          ∧ r.2.mem ((c.tc : Thread Cert.OrderIdeal.nD Cert.OrderIdeal.τ).loc Cert.OrderIdeal.main_arg1) = m ((c.tc : Thread Cert.OrderIdeal.nD Cert.OrderIdeal.τ).loc Cert.OrderIdeal.main_arg1)
          ∧ r.2.mem ((c.tc : Thread Cert.OrderIdeal.nD Cert.OrderIdeal.τ).loc Cert.OrderIdeal.main_arg2) = m ((c.tc : Thread Cert.OrderIdeal.nD Cert.OrderIdeal.τ).loc Cert.OrderIdeal.main_arg2))
      ∧ θ_run (Cert.OrderReferenceIdeal.defs (F := Ideal)) (onTc (τ := Cert.OrderReferenceIdeal.τ) (Cert.OrderReferenceIdeal.main (F := Ideal))) ⟨m', fun _ => 0, g'⟩ (fun r => ∀ c : Dev Cert.OrderReferenceIdeal.nD,
          r.2.mem ((c.tc : Thread Cert.OrderReferenceIdeal.nD Cert.OrderReferenceIdeal.τ).loc Cert.OrderReferenceIdeal.main_values) = v0 c
          ∧ r.2.mem ((c.tc : Thread Cert.OrderReferenceIdeal.nD Cert.OrderReferenceIdeal.τ).loc Cert.OrderReferenceIdeal.main_v8) = v1 c
          ∧ r.2.mem ((c.tc : Thread Cert.OrderReferenceIdeal.nD Cert.OrderReferenceIdeal.τ).loc Cert.OrderReferenceIdeal.main_v11) = v2 c
          ∧ r.2.mem ((c.tc : Thread Cert.OrderReferenceIdeal.nD Cert.OrderReferenceIdeal.τ).loc Cert.OrderReferenceIdeal.main_arg0) = m' ((c.tc : Thread Cert.OrderReferenceIdeal.nD Cert.OrderReferenceIdeal.τ).loc Cert.OrderReferenceIdeal.main_arg0)
          ∧ r.2.mem ((c.tc : Thread Cert.OrderReferenceIdeal.nD Cert.OrderReferenceIdeal.τ).loc Cert.OrderReferenceIdeal.main_arg1) = m' ((c.tc : Thread Cert.OrderReferenceIdeal.nD Cert.OrderReferenceIdeal.τ).loc Cert.OrderReferenceIdeal.main_arg1)
          ∧ r.2.mem ((c.tc : Thread Cert.OrderReferenceIdeal.nD Cert.OrderReferenceIdeal.τ).loc Cert.OrderReferenceIdeal.main_arg2) = m' ((c.tc : Thread Cert.OrderReferenceIdeal.nD Cert.OrderReferenceIdeal.τ).loc Cert.OrderReferenceIdeal.main_arg2))

def preserves_Nms_NmsIdeal : Prop :=
  True

def algebraic_NmsIdeal_NmsReferenceIdeal [hNmsIdeal : Cert.NmsIdeal.Facts] [hNmsReferenceIdeal : Cert.NmsReferenceIdeal.Facts] : Prop :=
  ∀ (m : (ℓ : Loc Cert.NmsIdeal.nD Cert.NmsIdeal.τ Cert.NmsIdeal.sig) → Buf (Elt Ideal) ℓ) (g : Dev Cert.NmsIdeal.nD → PrngReg)
    (m' : (ℓ : Loc Cert.NmsReferenceIdeal.nD Cert.NmsReferenceIdeal.τ Cert.NmsReferenceIdeal.sig) → Buf (Elt Ideal) ℓ) (g' : Dev Cert.NmsReferenceIdeal.nD → PrngReg), Pre_NmsIdeal m →
    (∀ c : Dev Cert.NmsIdeal.nD,
      m' ((c.tc : Thread Cert.NmsReferenceIdeal.nD Cert.NmsReferenceIdeal.τ).loc Cert.NmsReferenceIdeal.main_arg0) = m ((c.tc : Thread Cert.NmsIdeal.nD Cert.NmsIdeal.τ).loc Cert.NmsIdeal.main_arg0)
      ∧ m' ((c.tc : Thread Cert.NmsReferenceIdeal.nD Cert.NmsReferenceIdeal.τ).loc Cert.NmsReferenceIdeal.main_arg1) = m ((c.tc : Thread Cert.NmsIdeal.nD Cert.NmsIdeal.τ).loc Cert.NmsIdeal.main_arg1)
      ∧ m' ((c.tc : Thread Cert.NmsReferenceIdeal.nD Cert.NmsReferenceIdeal.τ).loc Cert.NmsReferenceIdeal.main_arg2) = m ((c.tc : Thread Cert.NmsIdeal.nD Cert.NmsIdeal.τ).loc Cert.NmsIdeal.main_arg2)) →
    ∃ (v0 : (c : Dev Cert.NmsIdeal.nD) → Buf (Elt Ideal) ((c.tc : Thread Cert.NmsIdeal.nD Cert.NmsIdeal.τ).loc Cert.NmsIdeal.main_v0_0)) (v1 : (c : Dev Cert.NmsIdeal.nD) → Buf (Elt Ideal) ((c.tc : Thread Cert.NmsIdeal.nD Cert.NmsIdeal.τ).loc Cert.NmsIdeal.main_v0_1)) (v2 : (c : Dev Cert.NmsIdeal.nD) → Buf (Elt Ideal) ((c.tc : Thread Cert.NmsIdeal.nD Cert.NmsIdeal.τ).loc Cert.NmsIdeal.main_v0_2)),
      θ_run (Cert.NmsIdeal.defs (F := Ideal)) (onTc (τ := Cert.NmsIdeal.τ) (Cert.NmsIdeal.main (F := Ideal))) ⟨m, fun _ => 0, g⟩ (fun r => ∀ c : Dev Cert.NmsIdeal.nD,
          r.2.mem ((c.tc : Thread Cert.NmsIdeal.nD Cert.NmsIdeal.τ).loc Cert.NmsIdeal.main_v0_0) = v0 c
          ∧ r.2.mem ((c.tc : Thread Cert.NmsIdeal.nD Cert.NmsIdeal.τ).loc Cert.NmsIdeal.main_v0_1) = v1 c
          ∧ r.2.mem ((c.tc : Thread Cert.NmsIdeal.nD Cert.NmsIdeal.τ).loc Cert.NmsIdeal.main_v0_2) = v2 c
          ∧ r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
          ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1)
          ∧ r.2.mem ((c.tc : Thread Cert.NmsIdeal.nD Cert.NmsIdeal.τ).loc Cert.NmsIdeal.main_arg2) = m ((c.tc : Thread Cert.NmsIdeal.nD Cert.NmsIdeal.τ).loc Cert.NmsIdeal.main_arg2))
      ∧ θ_run (Cert.NmsReferenceIdeal.defs (F := Ideal)) (onTc (τ := Cert.NmsReferenceIdeal.τ) (Cert.NmsReferenceIdeal.main (F := Ideal))) ⟨m', fun _ => 0, g'⟩ (fun r => ∀ c : Dev Cert.NmsReferenceIdeal.nD,
          r.2.mem ((c.tc : Thread Cert.NmsReferenceIdeal.nD Cert.NmsReferenceIdeal.τ).loc Cert.NmsReferenceIdeal.main_v8) = v0 c
          ∧ r.2.mem ((c.tc : Thread Cert.NmsReferenceIdeal.nD Cert.NmsReferenceIdeal.τ).loc Cert.NmsReferenceIdeal.main_v9) = v1 c
          ∧ r.2.mem ((c.tc : Thread Cert.NmsReferenceIdeal.nD Cert.NmsReferenceIdeal.τ).loc Cert.NmsReferenceIdeal.main_v10) = v2 c
          ∧ r.2.mem ((c.tc : Thread Cert.NmsReferenceIdeal.nD Cert.NmsReferenceIdeal.τ).loc Cert.NmsReferenceIdeal.main_arg0) = m' ((c.tc : Thread Cert.NmsReferenceIdeal.nD Cert.NmsReferenceIdeal.τ).loc Cert.NmsReferenceIdeal.main_arg0)
          ∧ r.2.mem ((c.tc : Thread Cert.NmsReferenceIdeal.nD Cert.NmsReferenceIdeal.τ).loc Cert.NmsReferenceIdeal.main_arg1) = m' ((c.tc : Thread Cert.NmsReferenceIdeal.nD Cert.NmsReferenceIdeal.τ).loc Cert.NmsReferenceIdeal.main_arg1)
          ∧ r.2.mem ((c.tc : Thread Cert.NmsReferenceIdeal.nD Cert.NmsReferenceIdeal.τ).loc Cert.NmsReferenceIdeal.main_arg2) = m' ((c.tc : Thread Cert.NmsReferenceIdeal.nD Cert.NmsReferenceIdeal.τ).loc Cert.NmsReferenceIdeal.main_arg2))

def Claim : Prop :=
  ∃ (hKernel : Cert.Kernel.Facts) (hKernelIdeal : Cert.KernelIdeal.Facts) (hReferenceIdeal : Cert.ReferenceIdeal.Facts) (hThresh : Cert.Thresh.Facts) (hThreshIdeal : Cert.ThreshIdeal.Facts) (hThreshReferenceIdeal : Cert.ThreshReferenceIdeal.Facts) (hOrder : Cert.Order.Facts) (hOrderIdeal : Cert.OrderIdeal.Facts) (hOrderReferenceIdeal : Cert.OrderReferenceIdeal.Facts) (hNms : Cert.Nms.Facts) (hNmsIdeal : Cert.NmsIdeal.Facts) (hNmsReferenceIdeal : Cert.NmsReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Thresh (hThresh := hThresh)
    ∧ quiescent_ThreshIdeal (hThreshIdeal := hThreshIdeal)
    ∧ quiescent_ThreshReferenceIdeal (hThreshReferenceIdeal := hThreshReferenceIdeal)
    ∧ quiescent_Order (hOrder := hOrder)
    ∧ quiescent_OrderIdeal (hOrderIdeal := hOrderIdeal)
    ∧ quiescent_OrderReferenceIdeal (hOrderReferenceIdeal := hOrderReferenceIdeal)
    ∧ quiescent_Nms (hNms := hNms)
    ∧ quiescent_NmsIdeal (hNmsIdeal := hNmsIdeal)
    ∧ quiescent_NmsReferenceIdeal (hNmsReferenceIdeal := hNmsReferenceIdeal)
    ∧ preserves_Kernel_KernelIdeal
    ∧ algebraic_KernelIdeal_ReferenceIdeal (hKernelIdeal := hKernelIdeal) (hReferenceIdeal := hReferenceIdeal)
    ∧ preserves_Thresh_ThreshIdeal
    ∧ algebraic_ThreshIdeal_ThreshReferenceIdeal (hThreshIdeal := hThreshIdeal) (hThreshReferenceIdeal := hThreshReferenceIdeal)
    ∧ preserves_Order_OrderIdeal
    ∧ algebraic_OrderIdeal_OrderReferenceIdeal (hOrderIdeal := hOrderIdeal) (hOrderReferenceIdeal := hOrderReferenceIdeal)
    ∧ preserves_Nms_NmsIdeal
    ∧ algebraic_NmsIdeal_NmsReferenceIdeal (hNmsIdeal := hNmsIdeal) (hNmsReferenceIdeal := hNmsReferenceIdeal)
-- ==== Kernel.lean ====
abbrev S160x20000 : Shape := ⟨2, ![160, 20000]⟩
abbrev S160x16 : Shape := ⟨2, ![160, 16]⟩
abbrev S8x20000 : Shape := ⟨2, ![8, 20000]⟩
abbrev S2560 : Shape := ⟨1, ![2560]⟩
abbrev S160x256 : Shape := ⟨2, ![160, 256]⟩
abbrev S20000 : Shape := ⟨1, ![20000]⟩
abbrev S80 : Shape := ⟨1, ![80]⟩
abbrev S1280 : Shape := ⟨1, ![1280]⟩
abbrev S_ : Shape := ⟨0, ![]⟩
abbrev S1x20000 : Shape := ⟨2, ![1, 20000]⟩
abbrev S16 : Shape := ⟨1, ![16]⟩
abbrev S256 : Shape := ⟨1, ![256]⟩
abbrev S1x256 : Shape := ⟨2, ![1, 256]⟩

abbrev nBuf : Table → Nat
  | .hbm => 8
  | .local .scVector .vmem => 9
  | _ => 0

abbrev bufTy : (tb : Table) → Fin (nBuf tb) → BufTy
  | .hbm, ⟨0, _⟩ => ⟨S160x20000, .f32⟩
  | .hbm, ⟨1, _⟩ => ⟨S160x16, .f32⟩
  | .hbm, ⟨2, _⟩ => ⟨S8x20000, .f32⟩
  | .hbm, ⟨3, _⟩ => ⟨S8x20000, .f32⟩
  | .hbm, ⟨4, _⟩ => ⟨S2560, .f32⟩
  | .hbm, ⟨5, _⟩ => ⟨S160x256, .f32⟩
  | .hbm, ⟨6, _⟩ => ⟨S160x256, .f32⟩
  | .hbm, ⟨7, _⟩ => ⟨S160x256, .f32⟩
  | .local .scVector .vmem, ⟨0, _⟩ => ⟨S20000, .f32⟩
  | .local .scVector .vmem, ⟨1, _⟩ => ⟨S20000, .f32⟩
  | .local .scVector .vmem, ⟨2, _⟩ => ⟨S20000, .f32⟩
  | .local .scVector .vmem, ⟨3, _⟩ => ⟨S20000, .f32⟩
  | .local .scVector .vmem, ⟨4, _⟩ => ⟨S80, .f32⟩
  | .local .scVector .vmem, ⟨5, _⟩ => ⟨S1280, .f32⟩
  | .local .scVector .vmem, ⟨6, _⟩ => ⟨S1280, .i32⟩
  | .local .scVector .vmem, ⟨7, _⟩ => ⟨S1280, .f32⟩
  | .local .scVector .vmem, ⟨8, _⟩ => ⟨S1280, .f32⟩
  | _, _ => ⟨S160x20000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_arg0_scv : Ref sig .scVector := ⟨.hbm, 0, rfl⟩
abbrev main_v0_scv : Ref sig .scVector := ⟨.hbm, 4, rfl⟩
abbrev main_arg2_scv : Ref sig .scVector := ⟨.hbm, 2, rfl⟩
abbrev main_arg3_scv : Ref sig .scVector := ⟨.hbm, 3, rfl⟩
abbrev main_v1_0_scv : Ref sig .scVector := ⟨.hbm, 5, rfl⟩
abbrev main_v1_1_scv : Ref sig .scVector := ⟨.hbm, 6, rfl⟩
abbrev main_v1_2_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_342_r0 : BitVec 32 := 0#32
  ![v18.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c16_i32 : BitVec 32 := 16#32
  let v20 : BitVec 32 := Scalar.muli v19 c16_i32
  ![v20.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c0_i32_5 : BitVec 32 := 0#32
  ![v19.toNat, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c0_i32_7 : BitVec 32 := 0#32
  let v28 : BitVec 32 := Scalar.addi v19 c0_i32_7
  let c0_i32_8 : BitVec 32 := 0#32
  ![v28.toNat, 0]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c0_i32_10 : BitVec 32 := 0#32
  let v33 : BitVec 32 := Scalar.addi v19 c0_i32_10
  let c1_i32_11 : BitVec 32 := 1#32
  let v34 : BitVec 32 := Scalar.addi v33 c1_i32_11
  let c0_i32_12 : BitVec 32 := 0#32
  ![v34.toNat, 0]
@[reducible] def k0_t1_loop : Scf.Loop 32 :=
  let c0_i32_15 : BitVec 32 := 0#32
  let c16_i32_16 : BitVec 32 := 16#32
  let v39 : BitVec 32 := Scalar.addi c0_i32_15 c16_i32_16
  let c1_i32_17 : BitVec 32 := 1#32
  ⟨c0_i32_15, v39, c1_i32_17⟩
def k0_off6 (k0_t1 : Fin k0_t1_loop.trips) : Fin 1 → Nat :=
  let c0_i32_343 : BitVec 32 := 0#32
  let c0_i32_15 : BitVec 32 := 0#32
  let c1_i32_17 : BitVec 32 := 1#32
  let arg20 : BitVec 32 := Scf.iv c0_i32_15 c1_i32_17 k0_t1
  let c16_i32_342 : BitVec 32 := 16#32
  let v557 : BitVec 32 := Scalar.muli arg20 c16_i32_342
  let v558 : BitVec 32 := Scalar.addi c0_i32_343 v557
  let v559 : Index := Scalar.indexCast v558
  ![v559.toNat]
@[reducible] def k0_t2_loop : Scf.Loop 32 :=
  let c0_i32_20 : BitVec 32 := 0#32
  let c312_i32 : BitVec 32 := 312#32
  let v43 : BitVec 32 := Scalar.addi c0_i32_20 c312_i32
  let c1_i32_21 : BitVec 32 := 1#32
  ⟨c0_i32_20, v43, c1_i32_21⟩
def k0_off7 (k0_t2 : Fin k0_t2_loop.trips) : Fin 1 → Nat :=
  let c0_i32_20 : BitVec 32 := 0#32
  let c1_i32_21 : BitVec 32 := 1#32
  let arg20 : BitVec 32 := Scf.iv c0_i32_20 c1_i32_21 k0_t2
  let c64_i32 : BitVec 32 := 64#32
  let v557 : BitVec 32 := Scalar.muli arg20 c64_i32
  let c0_i32_342 : BitVec 32 := 0#32
  let v558 : BitVec 32 := Scalar.addi v557 c0_i32_342
  let v559 : Index := Scalar.indexCast v558
  ![v559.toNat]

def k0_chk1 (v572 : IVec S16 32) : Prop :=
  (∀ a x, ((![v572] : Fin 1 → IVec S16 32) a x).toNat < S256.size a) ∧
  (∀ a x, ((![v572] : Fin 1 → IVec S16 32) a x).toNat < S256.size a)
theorem k0_idx1_inb : ∀ (v572 : IVec S16 32) (k0_hw1 : k0_chk1 v572), ∀ a x, ((![v572] : Fin 1 → IVec S16 32) a x).toNat < S256.size a := fun v572 k0_hw1 => k0_hw1.1
theorem k0_idx2_inb : ∀ (v572 : IVec S16 32) (k0_hw1 : k0_chk1 v572), ∀ a x, ((![v572] : Fin 1 → IVec S16 32) a x).toNat < S256.size a := fun v572 k0_hw1 => k0_hw1.2
def k0_off8 (k0_t2 : Fin k0_t2_loop.trips) : Fin 1 → Nat :=
  let c0_i32_20 : BitVec 32 := 0#32
  let c1_i32_21 : BitVec 32 := 1#32
  let arg20 : BitVec 32 := Scf.iv c0_i32_20 c1_i32_21 k0_t2
  let c64_i32_350 : BitVec 32 := 64#32
  let v583 : BitVec 32 := Scalar.muli arg20 c64_i32_350
  let c16_i32_351 : BitVec 32 := 16#32
  let v584 : BitVec 32 := Scalar.addi v583 c16_i32_351
  let v585 : Index := Scalar.indexCast v584
  ![v585.toNat]

def k0_chk2 (v598 : IVec S16 32) : Prop :=
  (∀ a x, ((![v598] : Fin 1 → IVec S16 32) a x).toNat < S256.size a) ∧
  (∀ a x, ((![v598] : Fin 1 → IVec S16 32) a x).toNat < S256.size a)
theorem k0_idx3_inb : ∀ (v598 : IVec S16 32) (k0_hw2 : k0_chk2 v598), ∀ a x, ((![v598] : Fin 1 → IVec S16 32) a x).toNat < S256.size a := fun v598 k0_hw2 => k0_hw2.1
theorem k0_idx4_inb : ∀ (v598 : IVec S16 32) (k0_hw2 : k0_chk2 v598), ∀ a x, ((![v598] : Fin 1 → IVec S16 32) a x).toNat < S256.size a := fun v598 k0_hw2 => k0_hw2.2
def k0_off9 (k0_t2 : Fin k0_t2_loop.trips) : Fin 1 → Nat :=
  let c0_i32_20 : BitVec 32 := 0#32
  let c1_i32_21 : BitVec 32 := 1#32
  let arg20 : BitVec 32 := Scf.iv c0_i32_20 c1_i32_21 k0_t2
  let c64_i32_359 : BitVec 32 := 64#32
  let v609 : BitVec 32 := Scalar.muli arg20 c64_i32_359
  let c32_i32 : BitVec 32 := 32#32
  let v610 : BitVec 32 := Scalar.addi v609 c32_i32
  let v611 : Index := Scalar.indexCast v610
  ![v611.toNat]

def k0_chk3 (v624 : IVec S16 32) : Prop :=
  (∀ a x, ((![v624] : Fin 1 → IVec S16 32) a x).toNat < S256.size a) ∧
  (∀ a x, ((![v624] : Fin 1 → IVec S16 32) a x).toNat < S256.size a)
theorem k0_idx5_inb : ∀ (v624 : IVec S16 32) (k0_hw3 : k0_chk3 v624), ∀ a x, ((![v624] : Fin 1 → IVec S16 32) a x).toNat < S256.size a := fun v624 k0_hw3 => k0_hw3.1
theorem k0_idx6_inb : ∀ (v624 : IVec S16 32) (k0_hw3 : k0_chk3 v624), ∀ a x, ((![v624] : Fin 1 → IVec S16 32) a x).toNat < S256.size a := fun v624 k0_hw3 => k0_hw3.2
def k0_off10 (k0_t2 : Fin k0_t2_loop.trips) : Fin 1 → Nat :=
  let c0_i32_20 : BitVec 32 := 0#32
  let c1_i32_21 : BitVec 32 := 1#32
  let arg20 : BitVec 32 := Scf.iv c0_i32_20 c1_i32_21 k0_t2
  let c64_i32_367 : BitVec 32 := 64#32
  let v635 : BitVec 32 := Scalar.muli arg20 c64_i32_367
  let c48_i32 : BitVec 32 := 48#32
  let v636 : BitVec 32 := Scalar.addi v635 c48_i32
  let v637 : Index := Scalar.indexCast v636
  ![v637.toNat]

def k0_chk4 (v650 : IVec S16 32) : Prop :=
  (∀ a x, ((![v650] : Fin 1 → IVec S16 32) a x).toNat < S256.size a) ∧
  (∀ a x, ((![v650] : Fin 1 → IVec S16 32) a x).toNat < S256.size a)
theorem k0_idx7_inb : ∀ (v650 : IVec S16 32) (k0_hw4 : k0_chk4 v650), ∀ a x, ((![v650] : Fin 1 → IVec S16 32) a x).toNat < S256.size a := fun v650 k0_hw4 => k0_hw4.1
theorem k0_idx8_inb : ∀ (v650 : IVec S16 32) (k0_hw4 : k0_chk4 v650), ∀ a x, ((![v650] : Fin 1 → IVec S16 32) a x).toNat < S256.size a := fun v650 k0_hw4 => k0_hw4.2

def k0_chk5 (v57 : IVec S16 32) : Prop :=
  (∀ a x, ((![v57] : Fin 1 → IVec S16 32) a x).toNat < S256.size a) ∧
  (∀ a x, ((![v57] : Fin 1 → IVec S16 32) a x).toNat < S256.size a)
theorem k0_idx9_inb : ∀ (v57 : IVec S16 32) (k0_hw5 : k0_chk5 v57), ∀ a x, ((![v57] : Fin 1 → IVec S16 32) a x).toNat < S256.size a := fun v57 k0_hw5 => k0_hw5.1
theorem k0_idx10_inb : ∀ (v57 : IVec S16 32) (k0_hw5 : k0_chk5 v57), ∀ a x, ((![v57] : Fin 1 → IVec S16 32) a x).toNat < S256.size a := fun v57 k0_hw5 => k0_hw5.2

def k0_chk6 (v80 : IVec S16 32) : Prop :=
  (∀ a x, ((![v80] : Fin 1 → IVec S16 32) a x).toNat < S256.size a) ∧
  (∀ a x, ((![v80] : Fin 1 → IVec S16 32) a x).toNat < S256.size a)
theorem k0_idx11_inb : ∀ (v80 : IVec S16 32) (k0_hw6 : k0_chk6 v80), ∀ a x, ((![v80] : Fin 1 → IVec S16 32) a x).toNat < S256.size a := fun v80 k0_hw6 => k0_hw6.1
theorem k0_idx12_inb : ∀ (v80 : IVec S16 32) (k0_hw6 : k0_chk6 v80), ∀ a x, ((![v80] : Fin 1 → IVec S16 32) a x).toNat < S256.size a := fun v80 k0_hw6 => k0_hw6.2
@[reducible] def k0_t3_loop : Scf.Loop 32 :=
  let c0_i32_36 : BitVec 32 := 0#32
  let c16_i32_37 : BitVec 32 := 16#32
  let v91 : BitVec 32 := Scalar.addi c0_i32_36 c16_i32_37
  let c1_i32_38 : BitVec 32 := 1#32
  ⟨c0_i32_36, v91, c1_i32_38⟩
def k0_off11 (k0_t3 : Fin k0_t3_loop.trips) : Fin 1 → Nat :=
  let c0_i32_343 : BitVec 32 := 0#32
  let c0_i32_36 : BitVec 32 := 0#32
  let c1_i32_38 : BitVec 32 := 1#32
  let arg20 : BitVec 32 := Scf.iv c0_i32_36 c1_i32_38 k0_t3
  let c16_i32_342 : BitVec 32 := 16#32
  let v557 : BitVec 32 := Scalar.muli arg20 c16_i32_342
  let v558 : BitVec 32 := Scalar.addi c0_i32_343 v557
  let v559 : Index := Scalar.indexCast v558
  ![v559.toNat]
def k0_off12 (k0_t3 : Fin k0_t3_loop.trips) : Fin 1 → Nat :=
  let c0_i32_345 : BitVec 32 := 0#32
  let c0_i32_36 : BitVec 32 := 0#32
  let c1_i32_38 : BitVec 32 := 1#32
  let arg20 : BitVec 32 := Scf.iv c0_i32_36 c1_i32_38 k0_t3
  let c16_i32_344 : BitVec 32 := 16#32
  let v562 : BitVec 32 := Scalar.muli arg20 c16_i32_344
  let v563 : BitVec 32 := Scalar.addi c0_i32_345 v562
  let v564 : Index := Scalar.indexCast v563
  ![v564.toNat]

def k0_chk7 (v560 : IVec S16 32) : Prop :=
  (∀ a x, ((![v560] : Fin 1 → IVec S16 32) a x).toNat < S20000.size a) ∧
  (∀ a x, ((![v560] : Fin 1 → IVec S16 32) a x).toNat < S20000.size a)
theorem k0_idx13_inb : ∀ (v560 : IVec S16 32) (k0_hw7 : k0_chk7 v560), ∀ a x, ((![v560] : Fin 1 → IVec S16 32) a x).toNat < S20000.size a := fun v560 k0_hw7 => k0_hw7.1
theorem k0_idx14_inb : ∀ (v560 : IVec S16 32) (k0_hw7 : k0_chk7 v560), ∀ a x, ((![v560] : Fin 1 → IVec S16 32) a x).toNat < S20000.size a := fun v560 k0_hw7 => k0_hw7.2
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c0_i32_40 : BitVec 32 := 0#32
  let v93 : BitVec 32 := Scalar.addi v19 c0_i32_40
  let c0_i32_42 : BitVec 32 := 0#32
  ![v93.toNat, 0]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c1_i32_55 : BitVec 32 := 1#32
  let v114 : BitVec 32 := Scalar.addi v19 c1_i32_55
  let c0_i32_56 : BitVec 32 := 0#32
  ![v114.toNat, 0]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c1_i32_58 : BitVec 32 := 1#32
  let v119 : BitVec 32 := Scalar.addi v19 c1_i32_58
  let c1_i32_59 : BitVec 32 := 1#32
  let v120 : BitVec 32 := Scalar.addi v119 c1_i32_59
  let c0_i32_60 : BitVec 32 := 0#32
  ![v120.toNat, 0]
@[reducible] def k0_t4_loop : Scf.Loop 32 :=
  let c0_i32_63 : BitVec 32 := 0#32
  let c16_i32_64 : BitVec 32 := 16#32
  let v125 : BitVec 32 := Scalar.addi c0_i32_63 c16_i32_64
  let c1_i32_65 : BitVec 32 := 1#32
  ⟨c0_i32_63, v125, c1_i32_65⟩
def k0_off16 (k0_t4 : Fin k0_t4_loop.trips) : Fin 1 → Nat :=
  let c256_i32_343 : BitVec 32 := 256#32
  let c0_i32_63 : BitVec 32 := 0#32
  let c1_i32_65 : BitVec 32 := 1#32
  let arg20 : BitVec 32 := Scf.iv c0_i32_63 c1_i32_65 k0_t4
  let c16_i32_342 : BitVec 32 := 16#32
  let v557 : BitVec 32 := Scalar.muli arg20 c16_i32_342
  let v558 : BitVec 32 := Scalar.addi c256_i32_343 v557
  let v559 : Index := Scalar.indexCast v558
  ![v559.toNat]
@[reducible] def k0_t5_loop : Scf.Loop 32 :=
  let c0_i32_68 : BitVec 32 := 0#32
  let c312_i32_69 : BitVec 32 := 312#32
  let v129 : BitVec 32 := Scalar.addi c0_i32_68 c312_i32_69
  let c1_i32_70 : BitVec 32 := 1#32
  ⟨c0_i32_68, v129, c1_i32_70⟩
def k0_off17 (k0_t5 : Fin k0_t5_loop.trips) : Fin 1 → Nat :=
  let c0_i32_68 : BitVec 32 := 0#32
  let c1_i32_70 : BitVec 32 := 1#32
  let arg20 : BitVec 32 := Scf.iv c0_i32_68 c1_i32_70 k0_t5
  let c64_i32 : BitVec 32 := 64#32
  let v557 : BitVec 32 := Scalar.muli arg20 c64_i32
  let c0_i32_342 : BitVec 32 := 0#32
  let v558 : BitVec 32 := Scalar.addi v557 c0_i32_342
  let v559 : Index := Scalar.indexCast v558
  ![v559.toNat]

def k0_chk8 (v572 : IVec S16 32) : Prop :=
  (∀ a x, ((![v572] : Fin 1 → IVec S16 32) a x).toNat < S256.size a) ∧
  (∀ a x, ((![v572] : Fin 1 → IVec S16 32) a x).toNat < S256.size a)
theorem k0_idx15_inb : ∀ (v572 : IVec S16 32) (k0_hw8 : k0_chk8 v572), ∀ a x, ((![v572] : Fin 1 → IVec S16 32) a x).toNat < S256.size a := fun v572 k0_hw8 => k0_hw8.1
theorem k0_idx16_inb : ∀ (v572 : IVec S16 32) (k0_hw8 : k0_chk8 v572), ∀ a x, ((![v572] : Fin 1 → IVec S16 32) a x).toNat < S256.size a := fun v572 k0_hw8 => k0_hw8.2
def k0_off18 (k0_t5 : Fin k0_t5_loop.trips) : Fin 1 → Nat :=
  let c0_i32_68 : BitVec 32 := 0#32
  let c1_i32_70 : BitVec 32 := 1#32
  let arg20 : BitVec 32 := Scf.iv c0_i32_68 c1_i32_70 k0_t5
  let c64_i32_350 : BitVec 32 := 64#32
  let v583 : BitVec 32 := Scalar.muli arg20 c64_i32_350
  let c16_i32_351 : BitVec 32 := 16#32
  let v584 : BitVec 32 := Scalar.addi v583 c16_i32_351
  let v585 : Index := Scalar.indexCast v584
  ![v585.toNat]

def k0_chk9 (v598 : IVec S16 32) : Prop :=
  (∀ a x, ((![v598] : Fin 1 → IVec S16 32) a x).toNat < S256.size a) ∧
  (∀ a x, ((![v598] : Fin 1 → IVec S16 32) a x).toNat < S256.size a)
theorem k0_idx17_inb : ∀ (v598 : IVec S16 32) (k0_hw9 : k0_chk9 v598), ∀ a x, ((![v598] : Fin 1 → IVec S16 32) a x).toNat < S256.size a := fun v598 k0_hw9 => k0_hw9.1
theorem k0_idx18_inb : ∀ (v598 : IVec S16 32) (k0_hw9 : k0_chk9 v598), ∀ a x, ((![v598] : Fin 1 → IVec S16 32) a x).toNat < S256.size a := fun v598 k0_hw9 => k0_hw9.2
def k0_off19 (k0_t5 : Fin k0_t5_loop.trips) : Fin 1 → Nat :=
  let c0_i32_68 : BitVec 32 := 0#32
  let c1_i32_70 : BitVec 32 := 1#32
  let arg20 : BitVec 32 := Scf.iv c0_i32_68 c1_i32_70 k0_t5
  let c64_i32_359 : BitVec 32 := 64#32
  let v609 : BitVec 32 := Scalar.muli arg20 c64_i32_359
  let c32_i32 : BitVec 32 := 32#32
  let v610 : BitVec 32 := Scalar.addi v609 c32_i32
  let v611 : Index := Scalar.indexCast v610
  ![v611.toNat]

def k0_chk10 (v624 : IVec S16 32) : Prop :=
  (∀ a x, ((![v624] : Fin 1 → IVec S16 32) a x).toNat < S256.size a) ∧
  (∀ a x, ((![v624] : Fin 1 → IVec S16 32) a x).toNat < S256.size a)
theorem k0_idx19_inb : ∀ (v624 : IVec S16 32) (k0_hw10 : k0_chk10 v624), ∀ a x, ((![v624] : Fin 1 → IVec S16 32) a x).toNat < S256.size a := fun v624 k0_hw10 => k0_hw10.1
theorem k0_idx20_inb : ∀ (v624 : IVec S16 32) (k0_hw10 : k0_chk10 v624), ∀ a x, ((![v624] : Fin 1 → IVec S16 32) a x).toNat < S256.size a := fun v624 k0_hw10 => k0_hw10.2
def k0_off20 (k0_t5 : Fin k0_t5_loop.trips) : Fin 1 → Nat :=
  let c0_i32_68 : BitVec 32 := 0#32
  let c1_i32_70 : BitVec 32 := 1#32
  let arg20 : BitVec 32 := Scf.iv c0_i32_68 c1_i32_70 k0_t5
  let c64_i32_367 : BitVec 32 := 64#32
  let v635 : BitVec 32 := Scalar.muli arg20 c64_i32_367
  let c48_i32 : BitVec 32 := 48#32
  let v636 : BitVec 32 := Scalar.addi v635 c48_i32
  let v637 : Index := Scalar.indexCast v636
  ![v637.toNat]

def k0_chk11 (v650 : IVec S16 32) : Prop :=
  (∀ a x, ((![v650] : Fin 1 → IVec S16 32) a x).toNat < S256.size a) ∧
  (∀ a x, ((![v650] : Fin 1 → IVec S16 32) a x).toNat < S256.size a)
theorem k0_idx21_inb : ∀ (v650 : IVec S16 32) (k0_hw11 : k0_chk11 v650), ∀ a x, ((![v650] : Fin 1 → IVec S16 32) a x).toNat < S256.size a := fun v650 k0_hw11 => k0_hw11.1
theorem k0_idx22_inb : ∀ (v650 : IVec S16 32) (k0_hw11 : k0_chk11 v650), ∀ a x, ((![v650] : Fin 1 → IVec S16 32) a x).toNat < S256.size a := fun v650 k0_hw11 => k0_hw11.2

def k0_chk12 (v143 : IVec S16 32) : Prop :=
  (∀ a x, ((![v143] : Fin 1 → IVec S16 32) a x).toNat < S256.size a) ∧
  (∀ a x, ((![v143] : Fin 1 → IVec S16 32) a x).toNat < S256.size a)
theorem k0_idx23_inb : ∀ (v143 : IVec S16 32) (k0_hw12 : k0_chk12 v143), ∀ a x, ((![v143] : Fin 1 → IVec S16 32) a x).toNat < S256.size a := fun v143 k0_hw12 => k0_hw12.1
theorem k0_idx24_inb : ∀ (v143 : IVec S16 32) (k0_hw12 : k0_chk12 v143), ∀ a x, ((![v143] : Fin 1 → IVec S16 32) a x).toNat < S256.size a := fun v143 k0_hw12 => k0_hw12.2

def k0_chk13 (v166 : IVec S16 32) : Prop :=
  (∀ a x, ((![v166] : Fin 1 → IVec S16 32) a x).toNat < S256.size a) ∧
  (∀ a x, ((![v166] : Fin 1 → IVec S16 32) a x).toNat < S256.size a)
theorem k0_idx25_inb : ∀ (v166 : IVec S16 32) (k0_hw13 : k0_chk13 v166), ∀ a x, ((![v166] : Fin 1 → IVec S16 32) a x).toNat < S256.size a := fun v166 k0_hw13 => k0_hw13.1
theorem k0_idx26_inb : ∀ (v166 : IVec S16 32) (k0_hw13 : k0_chk13 v166), ∀ a x, ((![v166] : Fin 1 → IVec S16 32) a x).toNat < S256.size a := fun v166 k0_hw13 => k0_hw13.2
@[reducible] def k0_t6_loop : Scf.Loop 32 :=
  let c0_i32_91 : BitVec 32 := 0#32
  let c16_i32_92 : BitVec 32 := 16#32
  let v177 : BitVec 32 := Scalar.addi c0_i32_91 c16_i32_92
  let c1_i32_93 : BitVec 32 := 1#32
  ⟨c0_i32_91, v177, c1_i32_93⟩
def k0_off21 (k0_t6 : Fin k0_t6_loop.trips) : Fin 1 → Nat :=
  let c256_i32_343 : BitVec 32 := 256#32
  let c0_i32_91 : BitVec 32 := 0#32
  let c1_i32_93 : BitVec 32 := 1#32
  let arg20 : BitVec 32 := Scf.iv c0_i32_91 c1_i32_93 k0_t6
  let c16_i32_342 : BitVec 32 := 16#32
  let v557 : BitVec 32 := Scalar.muli arg20 c16_i32_342
  let v558 : BitVec 32 := Scalar.addi c256_i32_343 v557
  let v559 : Index := Scalar.indexCast v558
  ![v559.toNat]
def k0_off22 (k0_t6 : Fin k0_t6_loop.trips) : Fin 1 → Nat :=
  let c256_i32_345 : BitVec 32 := 256#32
  let c0_i32_91 : BitVec 32 := 0#32
  let c1_i32_93 : BitVec 32 := 1#32
  let arg20 : BitVec 32 := Scf.iv c0_i32_91 c1_i32_93 k0_t6
  let c16_i32_344 : BitVec 32 := 16#32
  let v562 : BitVec 32 := Scalar.muli arg20 c16_i32_344
  let v563 : BitVec 32 := Scalar.addi c256_i32_345 v562
  let v564 : Index := Scalar.indexCast v563
  ![v564.toNat]

def k0_chk14 (v560 : IVec S16 32) : Prop :=
  (∀ a x, ((![v560] : Fin 1 → IVec S16 32) a x).toNat < S20000.size a) ∧
  (∀ a x, ((![v560] : Fin 1 → IVec S16 32) a x).toNat < S20000.size a)
theorem k0_idx27_inb : ∀ (v560 : IVec S16 32) (k0_hw14 : k0_chk14 v560), ∀ a x, ((![v560] : Fin 1 → IVec S16 32) a x).toNat < S20000.size a := fun v560 k0_hw14 => k0_hw14.1
theorem k0_idx28_inb : ∀ (v560 : IVec S16 32) (k0_hw14 : k0_chk14 v560), ∀ a x, ((![v560] : Fin 1 → IVec S16 32) a x).toNat < S20000.size a := fun v560 k0_hw14 => k0_hw14.2
def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c1_i32_95 : BitVec 32 := 1#32
  let v179 : BitVec 32 := Scalar.addi v19 c1_i32_95
  let c0_i32_97 : BitVec 32 := 0#32
  ![v179.toNat, 0]
def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c2_i32_110 : BitVec 32 := 2#32
  let v200 : BitVec 32 := Scalar.addi v19 c2_i32_110
  let c0_i32_111 : BitVec 32 := 0#32
  ![v200.toNat, 0]
def k0_off25 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c2_i32_113 : BitVec 32 := 2#32
  let v205 : BitVec 32 := Scalar.addi v19 c2_i32_113
  let c1_i32_114 : BitVec 32 := 1#32
  let v206 : BitVec 32 := Scalar.addi v205 c1_i32_114
  let c0_i32_115 : BitVec 32 := 0#32
  ![v206.toNat, 0]
@[reducible] def k0_t7_loop : Scf.Loop 32 :=
  let c0_i32_118 : BitVec 32 := 0#32
  let c16_i32_119 : BitVec 32 := 16#32
  let v211 : BitVec 32 := Scalar.addi c0_i32_118 c16_i32_119
  let c1_i32_120 : BitVec 32 := 1#32
  ⟨c0_i32_118, v211, c1_i32_120⟩
def k0_off26 (k0_t7 : Fin k0_t7_loop.trips) : Fin 1 → Nat :=
  let c512_i32_343 : BitVec 32 := 512#32
  let c0_i32_118 : BitVec 32 := 0#32
  let c1_i32_120 : BitVec 32 := 1#32
  let arg20 : BitVec 32 := Scf.iv c0_i32_118 c1_i32_120 k0_t7
  let c16_i32_342 : BitVec 32 := 16#32
  let v557 : BitVec 32 := Scalar.muli arg20 c16_i32_342
  let v558 : BitVec 32 := Scalar.addi c512_i32_343 v557
  let v559 : Index := Scalar.indexCast v558
  ![v559.toNat]
@[reducible] def k0_t8_loop : Scf.Loop 32 :=
  let c0_i32_123 : BitVec 32 := 0#32
  let c312_i32_124 : BitVec 32 := 312#32
  let v215 : BitVec 32 := Scalar.addi c0_i32_123 c312_i32_124
  let c1_i32_125 : BitVec 32 := 1#32
  ⟨c0_i32_123, v215, c1_i32_125⟩
def k0_off27 (k0_t8 : Fin k0_t8_loop.trips) : Fin 1 → Nat :=
  let c0_i32_123 : BitVec 32 := 0#32
  let c1_i32_125 : BitVec 32 := 1#32
  let arg20 : BitVec 32 := Scf.iv c0_i32_123 c1_i32_125 k0_t8
  let c64_i32 : BitVec 32 := 64#32
  let v557 : BitVec 32 := Scalar.muli arg20 c64_i32
  let c0_i32_342 : BitVec 32 := 0#32
  let v558 : BitVec 32 := Scalar.addi v557 c0_i32_342
  let v559 : Index := Scalar.indexCast v558
  ![v559.toNat]

def k0_chk15 (v572 : IVec S16 32) : Prop :=
  (∀ a x, ((![v572] : Fin 1 → IVec S16 32) a x).toNat < S256.size a) ∧
  (∀ a x, ((![v572] : Fin 1 → IVec S16 32) a x).toNat < S256.size a)
theorem k0_idx29_inb : ∀ (v572 : IVec S16 32) (k0_hw15 : k0_chk15 v572), ∀ a x, ((![v572] : Fin 1 → IVec S16 32) a x).toNat < S256.size a := fun v572 k0_hw15 => k0_hw15.1
theorem k0_idx30_inb : ∀ (v572 : IVec S16 32) (k0_hw15 : k0_chk15 v572), ∀ a x, ((![v572] : Fin 1 → IVec S16 32) a x).toNat < S256.size a := fun v572 k0_hw15 => k0_hw15.2
def k0_off28 (k0_t8 : Fin k0_t8_loop.trips) : Fin 1 → Nat :=
  let c0_i32_123 : BitVec 32 := 0#32
  let c1_i32_125 : BitVec 32 := 1#32
  let arg20 : BitVec 32 := Scf.iv c0_i32_123 c1_i32_125 k0_t8
  let c64_i32_350 : BitVec 32 := 64#32
  let v583 : BitVec 32 := Scalar.muli arg20 c64_i32_350
  let c16_i32_351 : BitVec 32 := 16#32
  let v584 : BitVec 32 := Scalar.addi v583 c16_i32_351
  let v585 : Index := Scalar.indexCast v584
  ![v585.toNat]

def k0_chk16 (v598 : IVec S16 32) : Prop :=
  (∀ a x, ((![v598] : Fin 1 → IVec S16 32) a x).toNat < S256.size a) ∧
  (∀ a x, ((![v598] : Fin 1 → IVec S16 32) a x).toNat < S256.size a)
theorem k0_idx31_inb : ∀ (v598 : IVec S16 32) (k0_hw16 : k0_chk16 v598), ∀ a x, ((![v598] : Fin 1 → IVec S16 32) a x).toNat < S256.size a := fun v598 k0_hw16 => k0_hw16.1
theorem k0_idx32_inb : ∀ (v598 : IVec S16 32) (k0_hw16 : k0_chk16 v598), ∀ a x, ((![v598] : Fin 1 → IVec S16 32) a x).toNat < S256.size a := fun v598 k0_hw16 => k0_hw16.2
def k0_off29 (k0_t8 : Fin k0_t8_loop.trips) : Fin 1 → Nat :=
  let c0_i32_123 : BitVec 32 := 0#32
  let c1_i32_125 : BitVec 32 := 1#32
  let arg20 : BitVec 32 := Scf.iv c0_i32_123 c1_i32_125 k0_t8
  let c64_i32_359 : BitVec 32 := 64#32
  let v609 : BitVec 32 := Scalar.muli arg20 c64_i32_359
  let c32_i32 : BitVec 32 := 32#32
  let v610 : BitVec 32 := Scalar.addi v609 c32_i32
  let v611 : Index := Scalar.indexCast v610
  ![v611.toNat]

def k0_chk17 (v624 : IVec S16 32) : Prop :=
  (∀ a x, ((![v624] : Fin 1 → IVec S16 32) a x).toNat < S256.size a) ∧
  (∀ a x, ((![v624] : Fin 1 → IVec S16 32) a x).toNat < S256.size a)
theorem k0_idx33_inb : ∀ (v624 : IVec S16 32) (k0_hw17 : k0_chk17 v624), ∀ a x, ((![v624] : Fin 1 → IVec S16 32) a x).toNat < S256.size a := fun v624 k0_hw17 => k0_hw17.1
theorem k0_idx34_inb : ∀ (v624 : IVec S16 32) (k0_hw17 : k0_chk17 v624), ∀ a x, ((![v624] : Fin 1 → IVec S16 32) a x).toNat < S256.size a := fun v624 k0_hw17 => k0_hw17.2
def k0_off30 (k0_t8 : Fin k0_t8_loop.trips) : Fin 1 → Nat :=
  let c0_i32_123 : BitVec 32 := 0#32
  let c1_i32_125 : BitVec 32 := 1#32
  let arg20 : BitVec 32 := Scf.iv c0_i32_123 c1_i32_125 k0_t8
  let c64_i32_367 : BitVec 32 := 64#32
  let v635 : BitVec 32 := Scalar.muli arg20 c64_i32_367
  let c48_i32 : BitVec 32 := 48#32
  let v636 : BitVec 32 := Scalar.addi v635 c48_i32
  let v637 : Index := Scalar.indexCast v636
  ![v637.toNat]

def k0_chk18 (v650 : IVec S16 32) : Prop :=
  (∀ a x, ((![v650] : Fin 1 → IVec S16 32) a x).toNat < S256.size a) ∧
  (∀ a x, ((![v650] : Fin 1 → IVec S16 32) a x).toNat < S256.size a)
theorem k0_idx35_inb : ∀ (v650 : IVec S16 32) (k0_hw18 : k0_chk18 v650), ∀ a x, ((![v650] : Fin 1 → IVec S16 32) a x).toNat < S256.size a := fun v650 k0_hw18 => k0_hw18.1
theorem k0_idx36_inb : ∀ (v650 : IVec S16 32) (k0_hw18 : k0_chk18 v650), ∀ a x, ((![v650] : Fin 1 → IVec S16 32) a x).toNat < S256.size a := fun v650 k0_hw18 => k0_hw18.2

def k0_chk19 (v229 : IVec S16 32) : Prop :=
  (∀ a x, ((![v229] : Fin 1 → IVec S16 32) a x).toNat < S256.size a) ∧
  (∀ a x, ((![v229] : Fin 1 → IVec S16 32) a x).toNat < S256.size a)
theorem k0_idx37_inb : ∀ (v229 : IVec S16 32) (k0_hw19 : k0_chk19 v229), ∀ a x, ((![v229] : Fin 1 → IVec S16 32) a x).toNat < S256.size a := fun v229 k0_hw19 => k0_hw19.1
theorem k0_idx38_inb : ∀ (v229 : IVec S16 32) (k0_hw19 : k0_chk19 v229), ∀ a x, ((![v229] : Fin 1 → IVec S16 32) a x).toNat < S256.size a := fun v229 k0_hw19 => k0_hw19.2

def k0_chk20 (v252 : IVec S16 32) : Prop :=
  (∀ a x, ((![v252] : Fin 1 → IVec S16 32) a x).toNat < S256.size a) ∧
  (∀ a x, ((![v252] : Fin 1 → IVec S16 32) a x).toNat < S256.size a)
theorem k0_idx39_inb : ∀ (v252 : IVec S16 32) (k0_hw20 : k0_chk20 v252), ∀ a x, ((![v252] : Fin 1 → IVec S16 32) a x).toNat < S256.size a := fun v252 k0_hw20 => k0_hw20.1
theorem k0_idx40_inb : ∀ (v252 : IVec S16 32) (k0_hw20 : k0_chk20 v252), ∀ a x, ((![v252] : Fin 1 → IVec S16 32) a x).toNat < S256.size a := fun v252 k0_hw20 => k0_hw20.2
@[reducible] def k0_t9_loop : Scf.Loop 32 :=
  let c0_i32_145 : BitVec 32 := 0#32
  let c16_i32_146 : BitVec 32 := 16#32
  let v263 : BitVec 32 := Scalar.addi c0_i32_145 c16_i32_146
  let c1_i32_147 : BitVec 32 := 1#32
  ⟨c0_i32_145, v263, c1_i32_147⟩
def k0_off31 (k0_t9 : Fin k0_t9_loop.trips) : Fin 1 → Nat :=
  let c512_i32_343 : BitVec 32 := 512#32
  let c0_i32_145 : BitVec 32 := 0#32
  let c1_i32_147 : BitVec 32 := 1#32
  let arg20 : BitVec 32 := Scf.iv c0_i32_145 c1_i32_147 k0_t9
  let c16_i32_342 : BitVec 32 := 16#32
  let v557 : BitVec 32 := Scalar.muli arg20 c16_i32_342
  let v558 : BitVec 32 := Scalar.addi c512_i32_343 v557
  let v559 : Index := Scalar.indexCast v558
  ![v559.toNat]
def k0_off32 (k0_t9 : Fin k0_t9_loop.trips) : Fin 1 → Nat :=
  let c512_i32_345 : BitVec 32 := 512#32
  let c0_i32_145 : BitVec 32 := 0#32
  let c1_i32_147 : BitVec 32 := 1#32
  let arg20 : BitVec 32 := Scf.iv c0_i32_145 c1_i32_147 k0_t9
  let c16_i32_344 : BitVec 32 := 16#32
  let v562 : BitVec 32 := Scalar.muli arg20 c16_i32_344
  let v563 : BitVec 32 := Scalar.addi c512_i32_345 v562
  let v564 : Index := Scalar.indexCast v563
  ![v564.toNat]

def k0_chk21 (v560 : IVec S16 32) : Prop :=
  (∀ a x, ((![v560] : Fin 1 → IVec S16 32) a x).toNat < S20000.size a) ∧
  (∀ a x, ((![v560] : Fin 1 → IVec S16 32) a x).toNat < S20000.size a)
theorem k0_idx41_inb : ∀ (v560 : IVec S16 32) (k0_hw21 : k0_chk21 v560), ∀ a x, ((![v560] : Fin 1 → IVec S16 32) a x).toNat < S20000.size a := fun v560 k0_hw21 => k0_hw21.1
theorem k0_idx42_inb : ∀ (v560 : IVec S16 32) (k0_hw21 : k0_chk21 v560), ∀ a x, ((![v560] : Fin 1 → IVec S16 32) a x).toNat < S20000.size a := fun v560 k0_hw21 => k0_hw21.2
def k0_off33 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c2_i32_149 : BitVec 32 := 2#32
  let v265 : BitVec 32 := Scalar.addi v19 c2_i32_149
  let c0_i32_151 : BitVec 32 := 0#32
  ![v265.toNat, 0]
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c3_i32 : BitVec 32 := 3#32
  let v286 : BitVec 32 := Scalar.addi v19 c3_i32
  let c0_i32_164 : BitVec 32 := 0#32
  ![v286.toNat, 0]
def k0_off35 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c3_i32_166 : BitVec 32 := 3#32
  let v291 : BitVec 32 := Scalar.addi v19 c3_i32_166
  let c1_i32_167 : BitVec 32 := 1#32
  let v292 : BitVec 32 := Scalar.addi v291 c1_i32_167
  let c0_i32_168 : BitVec 32 := 0#32
  ![v292.toNat, 0]
@[reducible] def k0_t10_loop : Scf.Loop 32 :=
  let c0_i32_171 : BitVec 32 := 0#32
  let c16_i32_172 : BitVec 32 := 16#32
  let v297 : BitVec 32 := Scalar.addi c0_i32_171 c16_i32_172
  let c1_i32_173 : BitVec 32 := 1#32
  ⟨c0_i32_171, v297, c1_i32_173⟩
def k0_off36 (k0_t10 : Fin k0_t10_loop.trips) : Fin 1 → Nat :=
  let c768_i32_343 : BitVec 32 := 768#32
  let c0_i32_171 : BitVec 32 := 0#32
  let c1_i32_173 : BitVec 32 := 1#32
  let arg20 : BitVec 32 := Scf.iv c0_i32_171 c1_i32_173 k0_t10
  let c16_i32_342 : BitVec 32 := 16#32
  let v557 : BitVec 32 := Scalar.muli arg20 c16_i32_342
  let v558 : BitVec 32 := Scalar.addi c768_i32_343 v557
  let v559 : Index := Scalar.indexCast v558
  ![v559.toNat]
@[reducible] def k0_t11_loop : Scf.Loop 32 :=
  let c0_i32_176 : BitVec 32 := 0#32
  let c312_i32_177 : BitVec 32 := 312#32
  let v301 : BitVec 32 := Scalar.addi c0_i32_176 c312_i32_177
  let c1_i32_178 : BitVec 32 := 1#32
  ⟨c0_i32_176, v301, c1_i32_178⟩
def k0_off37 (k0_t11 : Fin k0_t11_loop.trips) : Fin 1 → Nat :=
  let c0_i32_176 : BitVec 32 := 0#32
  let c1_i32_178 : BitVec 32 := 1#32
  let arg20 : BitVec 32 := Scf.iv c0_i32_176 c1_i32_178 k0_t11
  let c64_i32 : BitVec 32 := 64#32
  let v557 : BitVec 32 := Scalar.muli arg20 c64_i32
  let c0_i32_342 : BitVec 32 := 0#32
  let v558 : BitVec 32 := Scalar.addi v557 c0_i32_342
  let v559 : Index := Scalar.indexCast v558
  ![v559.toNat]

def k0_chk22 (v572 : IVec S16 32) : Prop :=
  (∀ a x, ((![v572] : Fin 1 → IVec S16 32) a x).toNat < S256.size a) ∧
  (∀ a x, ((![v572] : Fin 1 → IVec S16 32) a x).toNat < S256.size a)
theorem k0_idx43_inb : ∀ (v572 : IVec S16 32) (k0_hw22 : k0_chk22 v572), ∀ a x, ((![v572] : Fin 1 → IVec S16 32) a x).toNat < S256.size a := fun v572 k0_hw22 => k0_hw22.1
theorem k0_idx44_inb : ∀ (v572 : IVec S16 32) (k0_hw22 : k0_chk22 v572), ∀ a x, ((![v572] : Fin 1 → IVec S16 32) a x).toNat < S256.size a := fun v572 k0_hw22 => k0_hw22.2
def k0_off38 (k0_t11 : Fin k0_t11_loop.trips) : Fin 1 → Nat :=
  let c0_i32_176 : BitVec 32 := 0#32
  let c1_i32_178 : BitVec 32 := 1#32
  let arg20 : BitVec 32 := Scf.iv c0_i32_176 c1_i32_178 k0_t11
  let c64_i32_350 : BitVec 32 := 64#32
  let v583 : BitVec 32 := Scalar.muli arg20 c64_i32_350
  let c16_i32_351 : BitVec 32 := 16#32
  let v584 : BitVec 32 := Scalar.addi v583 c16_i32_351
  let v585 : Index := Scalar.indexCast v584
  ![v585.toNat]

def k0_chk23 (v598 : IVec S16 32) : Prop :=
  (∀ a x, ((![v598] : Fin 1 → IVec S16 32) a x).toNat < S256.size a) ∧
  (∀ a x, ((![v598] : Fin 1 → IVec S16 32) a x).toNat < S256.size a)
theorem k0_idx45_inb : ∀ (v598 : IVec S16 32) (k0_hw23 : k0_chk23 v598), ∀ a x, ((![v598] : Fin 1 → IVec S16 32) a x).toNat < S256.size a := fun v598 k0_hw23 => k0_hw23.1
theorem k0_idx46_inb : ∀ (v598 : IVec S16 32) (k0_hw23 : k0_chk23 v598), ∀ a x, ((![v598] : Fin 1 → IVec S16 32) a x).toNat < S256.size a := fun v598 k0_hw23 => k0_hw23.2
def k0_off39 (k0_t11 : Fin k0_t11_loop.trips) : Fin 1 → Nat :=
  let c0_i32_176 : BitVec 32 := 0#32
  let c1_i32_178 : BitVec 32 := 1#32
  let arg20 : BitVec 32 := Scf.iv c0_i32_176 c1_i32_178 k0_t11
  let c64_i32_359 : BitVec 32 := 64#32
  let v609 : BitVec 32 := Scalar.muli arg20 c64_i32_359
  let c32_i32 : BitVec 32 := 32#32
  let v610 : BitVec 32 := Scalar.addi v609 c32_i32
  let v611 : Index := Scalar.indexCast v610
  ![v611.toNat]

def k0_chk24 (v624 : IVec S16 32) : Prop :=
  (∀ a x, ((![v624] : Fin 1 → IVec S16 32) a x).toNat < S256.size a) ∧
  (∀ a x, ((![v624] : Fin 1 → IVec S16 32) a x).toNat < S256.size a)
theorem k0_idx47_inb : ∀ (v624 : IVec S16 32) (k0_hw24 : k0_chk24 v624), ∀ a x, ((![v624] : Fin 1 → IVec S16 32) a x).toNat < S256.size a := fun v624 k0_hw24 => k0_hw24.1
theorem k0_idx48_inb : ∀ (v624 : IVec S16 32) (k0_hw24 : k0_chk24 v624), ∀ a x, ((![v624] : Fin 1 → IVec S16 32) a x).toNat < S256.size a := fun v624 k0_hw24 => k0_hw24.2
def k0_off40 (k0_t11 : Fin k0_t11_loop.trips) : Fin 1 → Nat :=
  let c0_i32_176 : BitVec 32 := 0#32
  let c1_i32_178 : BitVec 32 := 1#32
  let arg20 : BitVec 32 := Scf.iv c0_i32_176 c1_i32_178 k0_t11
  let c64_i32_367 : BitVec 32 := 64#32
  let v635 : BitVec 32 := Scalar.muli arg20 c64_i32_367
  let c48_i32 : BitVec 32 := 48#32
  let v636 : BitVec 32 := Scalar.addi v635 c48_i32
  let v637 : Index := Scalar.indexCast v636
  ![v637.toNat]

def k0_chk25 (v650 : IVec S16 32) : Prop :=
  (∀ a x, ((![v650] : Fin 1 → IVec S16 32) a x).toNat < S256.size a) ∧
  (∀ a x, ((![v650] : Fin 1 → IVec S16 32) a x).toNat < S256.size a)
theorem k0_idx49_inb : ∀ (v650 : IVec S16 32) (k0_hw25 : k0_chk25 v650), ∀ a x, ((![v650] : Fin 1 → IVec S16 32) a x).toNat < S256.size a := fun v650 k0_hw25 => k0_hw25.1
theorem k0_idx50_inb : ∀ (v650 : IVec S16 32) (k0_hw25 : k0_chk25 v650), ∀ a x, ((![v650] : Fin 1 → IVec S16 32) a x).toNat < S256.size a := fun v650 k0_hw25 => k0_hw25.2

def k0_chk26 (v315 : IVec S16 32) : Prop :=
  (∀ a x, ((![v315] : Fin 1 → IVec S16 32) a x).toNat < S256.size a) ∧
  (∀ a x, ((![v315] : Fin 1 → IVec S16 32) a x).toNat < S256.size a)
theorem k0_idx51_inb : ∀ (v315 : IVec S16 32) (k0_hw26 : k0_chk26 v315), ∀ a x, ((![v315] : Fin 1 → IVec S16 32) a x).toNat < S256.size a := fun v315 k0_hw26 => k0_hw26.1
theorem k0_idx52_inb : ∀ (v315 : IVec S16 32) (k0_hw26 : k0_chk26 v315), ∀ a x, ((![v315] : Fin 1 → IVec S16 32) a x).toNat < S256.size a := fun v315 k0_hw26 => k0_hw26.2

def k0_chk27 (v338 : IVec S16 32) : Prop :=
  (∀ a x, ((![v338] : Fin 1 → IVec S16 32) a x).toNat < S256.size a) ∧
  (∀ a x, ((![v338] : Fin 1 → IVec S16 32) a x).toNat < S256.size a)
theorem k0_idx53_inb : ∀ (v338 : IVec S16 32) (k0_hw27 : k0_chk27 v338), ∀ a x, ((![v338] : Fin 1 → IVec S16 32) a x).toNat < S256.size a := fun v338 k0_hw27 => k0_hw27.1
theorem k0_idx54_inb : ∀ (v338 : IVec S16 32) (k0_hw27 : k0_chk27 v338), ∀ a x, ((![v338] : Fin 1 → IVec S16 32) a x).toNat < S256.size a := fun v338 k0_hw27 => k0_hw27.2
@[reducible] def k0_t12_loop : Scf.Loop 32 :=
  let c0_i32_198 : BitVec 32 := 0#32
  let c16_i32_199 : BitVec 32 := 16#32
  let v349 : BitVec 32 := Scalar.addi c0_i32_198 c16_i32_199
  let c1_i32_200 : BitVec 32 := 1#32
  ⟨c0_i32_198, v349, c1_i32_200⟩
def k0_off41 (k0_t12 : Fin k0_t12_loop.trips) : Fin 1 → Nat :=
  let c768_i32_343 : BitVec 32 := 768#32
  let c0_i32_198 : BitVec 32 := 0#32
  let c1_i32_200 : BitVec 32 := 1#32
  let arg20 : BitVec 32 := Scf.iv c0_i32_198 c1_i32_200 k0_t12
  let c16_i32_342 : BitVec 32 := 16#32
  let v557 : BitVec 32 := Scalar.muli arg20 c16_i32_342
  let v558 : BitVec 32 := Scalar.addi c768_i32_343 v557
  let v559 : Index := Scalar.indexCast v558
  ![v559.toNat]
def k0_off42 (k0_t12 : Fin k0_t12_loop.trips) : Fin 1 → Nat :=
  let c768_i32_345 : BitVec 32 := 768#32
  let c0_i32_198 : BitVec 32 := 0#32
  let c1_i32_200 : BitVec 32 := 1#32
  let arg20 : BitVec 32 := Scf.iv c0_i32_198 c1_i32_200 k0_t12
  let c16_i32_344 : BitVec 32 := 16#32
  let v562 : BitVec 32 := Scalar.muli arg20 c16_i32_344
  let v563 : BitVec 32 := Scalar.addi c768_i32_345 v562
  let v564 : Index := Scalar.indexCast v563
  ![v564.toNat]

def k0_chk28 (v560 : IVec S16 32) : Prop :=
  (∀ a x, ((![v560] : Fin 1 → IVec S16 32) a x).toNat < S20000.size a) ∧
  (∀ a x, ((![v560] : Fin 1 → IVec S16 32) a x).toNat < S20000.size a)
theorem k0_idx55_inb : ∀ (v560 : IVec S16 32) (k0_hw28 : k0_chk28 v560), ∀ a x, ((![v560] : Fin 1 → IVec S16 32) a x).toNat < S20000.size a := fun v560 k0_hw28 => k0_hw28.1
theorem k0_idx56_inb : ∀ (v560 : IVec S16 32) (k0_hw28 : k0_chk28 v560), ∀ a x, ((![v560] : Fin 1 → IVec S16 32) a x).toNat < S20000.size a := fun v560 k0_hw28 => k0_hw28.2
def k0_off43 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c3_i32_202 : BitVec 32 := 3#32
  let v351 : BitVec 32 := Scalar.addi v19 c3_i32_202
  let c0_i32_204 : BitVec 32 := 0#32
  ![v351.toNat, 0]
def k0_off44 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let c4_i32_217 : BitVec 32 := 4#32
  let v372 : BitVec 32 := Scalar.addi v19 c4_i32_217
  let c0_i32_218 : BitVec 32 := 0#32
  ![v372.toNat, 0]
@[reducible] def k0_t13_loop : Scf.Loop 32 :=
  let c0_i32_221 : BitVec 32 := 0#32
  let c16_i32_222 : BitVec 32 := 16#32
  let v377 : BitVec 32 := Scalar.addi c0_i32_221 c16_i32_222
  let c1_i32_223 : BitVec 32 := 1#32
  ⟨c0_i32_221, v377, c1_i32_223⟩
def k0_off45 (k0_t13 : Fin k0_t13_loop.trips) : Fin 1 → Nat :=
  let c1024_i32_343 : BitVec 32 := 1024#32
  let c0_i32_221 : BitVec 32 := 0#32
  let c1_i32_223 : BitVec 32 := 1#32
  let arg20 : BitVec 32 := Scf.iv c0_i32_221 c1_i32_223 k0_t13
  let c16_i32_342 : BitVec 32 := 16#32
  let v557 : BitVec 32 := Scalar.muli arg20 c16_i32_342
  let v558 : BitVec 32 := Scalar.addi c1024_i32_343 v557
  let v559 : Index := Scalar.indexCast v558
  ![v559.toNat]
@[reducible] def k0_t14_loop : Scf.Loop 32 :=
  let c0_i32_226 : BitVec 32 := 0#32
  let c312_i32_227 : BitVec 32 := 312#32
  let v381 : BitVec 32 := Scalar.addi c0_i32_226 c312_i32_227
  let c1_i32_228 : BitVec 32 := 1#32
  ⟨c0_i32_226, v381, c1_i32_228⟩
def k0_off46 (k0_t14 : Fin k0_t14_loop.trips) : Fin 1 → Nat :=
  let c0_i32_226 : BitVec 32 := 0#32
  let c1_i32_228 : BitVec 32 := 1#32
  let arg20 : BitVec 32 := Scf.iv c0_i32_226 c1_i32_228 k0_t14
  let c64_i32 : BitVec 32 := 64#32
  let v557 : BitVec 32 := Scalar.muli arg20 c64_i32
  let c0_i32_342 : BitVec 32 := 0#32
  let v558 : BitVec 32 := Scalar.addi v557 c0_i32_342
  let v559 : Index := Scalar.indexCast v558
  ![v559.toNat]

def k0_chk29 (v572 : IVec S16 32) : Prop :=
  (∀ a x, ((![v572] : Fin 1 → IVec S16 32) a x).toNat < S256.size a) ∧
  (∀ a x, ((![v572] : Fin 1 → IVec S16 32) a x).toNat < S256.size a)
theorem k0_idx57_inb : ∀ (v572 : IVec S16 32) (k0_hw29 : k0_chk29 v572), ∀ a x, ((![v572] : Fin 1 → IVec S16 32) a x).toNat < S256.size a := fun v572 k0_hw29 => k0_hw29.1
theorem k0_idx58_inb : ∀ (v572 : IVec S16 32) (k0_hw29 : k0_chk29 v572), ∀ a x, ((![v572] : Fin 1 → IVec S16 32) a x).toNat < S256.size a := fun v572 k0_hw29 => k0_hw29.2
def k0_off47 (k0_t14 : Fin k0_t14_loop.trips) : Fin 1 → Nat :=
  let c0_i32_226 : BitVec 32 := 0#32
  let c1_i32_228 : BitVec 32 := 1#32
  let arg20 : BitVec 32 := Scf.iv c0_i32_226 c1_i32_228 k0_t14
  let c64_i32_350 : BitVec 32 := 64#32
  let v583 : BitVec 32 := Scalar.muli arg20 c64_i32_350
  let c16_i32_351 : BitVec 32 := 16#32
  let v584 : BitVec 32 := Scalar.addi v583 c16_i32_351
  let v585 : Index := Scalar.indexCast v584
  ![v585.toNat]

def k0_chk30 (v598 : IVec S16 32) : Prop :=
  (∀ a x, ((![v598] : Fin 1 → IVec S16 32) a x).toNat < S256.size a) ∧
  (∀ a x, ((![v598] : Fin 1 → IVec S16 32) a x).toNat < S256.size a)
theorem k0_idx59_inb : ∀ (v598 : IVec S16 32) (k0_hw30 : k0_chk30 v598), ∀ a x, ((![v598] : Fin 1 → IVec S16 32) a x).toNat < S256.size a := fun v598 k0_hw30 => k0_hw30.1
theorem k0_idx60_inb : ∀ (v598 : IVec S16 32) (k0_hw30 : k0_chk30 v598), ∀ a x, ((![v598] : Fin 1 → IVec S16 32) a x).toNat < S256.size a := fun v598 k0_hw30 => k0_hw30.2
def k0_off48 (k0_t14 : Fin k0_t14_loop.trips) : Fin 1 → Nat :=
  let c0_i32_226 : BitVec 32 := 0#32
  let c1_i32_228 : BitVec 32 := 1#32
  let arg20 : BitVec 32 := Scf.iv c0_i32_226 c1_i32_228 k0_t14
  let c64_i32_359 : BitVec 32 := 64#32
  let v609 : BitVec 32 := Scalar.muli arg20 c64_i32_359
  let c32_i32 : BitVec 32 := 32#32
  let v610 : BitVec 32 := Scalar.addi v609 c32_i32
  let v611 : Index := Scalar.indexCast v610
  ![v611.toNat]

def k0_chk31 (v624 : IVec S16 32) : Prop :=
  (∀ a x, ((![v624] : Fin 1 → IVec S16 32) a x).toNat < S256.size a) ∧
  (∀ a x, ((![v624] : Fin 1 → IVec S16 32) a x).toNat < S256.size a)
theorem k0_idx61_inb : ∀ (v624 : IVec S16 32) (k0_hw31 : k0_chk31 v624), ∀ a x, ((![v624] : Fin 1 → IVec S16 32) a x).toNat < S256.size a := fun v624 k0_hw31 => k0_hw31.1
theorem k0_idx62_inb : ∀ (v624 : IVec S16 32) (k0_hw31 : k0_chk31 v624), ∀ a x, ((![v624] : Fin 1 → IVec S16 32) a x).toNat < S256.size a := fun v624 k0_hw31 => k0_hw31.2
def k0_off49 (k0_t14 : Fin k0_t14_loop.trips) : Fin 1 → Nat :=
  let c0_i32_226 : BitVec 32 := 0#32
  let c1_i32_228 : BitVec 32 := 1#32
  let arg20 : BitVec 32 := Scf.iv c0_i32_226 c1_i32_228 k0_t14
  let c64_i32_367 : BitVec 32 := 64#32
  let v635 : BitVec 32 := Scalar.muli arg20 c64_i32_367
  let c48_i32 : BitVec 32 := 48#32
  let v636 : BitVec 32 := Scalar.addi v635 c48_i32
  let v637 : Index := Scalar.indexCast v636
  ![v637.toNat]

def k0_chk32 (v650 : IVec S16 32) : Prop :=
  (∀ a x, ((![v650] : Fin 1 → IVec S16 32) a x).toNat < S256.size a) ∧
  (∀ a x, ((![v650] : Fin 1 → IVec S16 32) a x).toNat < S256.size a)
theorem k0_idx63_inb : ∀ (v650 : IVec S16 32) (k0_hw32 : k0_chk32 v650), ∀ a x, ((![v650] : Fin 1 → IVec S16 32) a x).toNat < S256.size a := fun v650 k0_hw32 => k0_hw32.1
theorem k0_idx64_inb : ∀ (v650 : IVec S16 32) (k0_hw32 : k0_chk32 v650), ∀ a x, ((![v650] : Fin 1 → IVec S16 32) a x).toNat < S256.size a := fun v650 k0_hw32 => k0_hw32.2

def k0_chk33 (v395 : IVec S16 32) : Prop :=
  (∀ a x, ((![v395] : Fin 1 → IVec S16 32) a x).toNat < S256.size a) ∧
  (∀ a x, ((![v395] : Fin 1 → IVec S16 32) a x).toNat < S256.size a)
theorem k0_idx65_inb : ∀ (v395 : IVec S16 32) (k0_hw33 : k0_chk33 v395), ∀ a x, ((![v395] : Fin 1 → IVec S16 32) a x).toNat < S256.size a := fun v395 k0_hw33 => k0_hw33.1
theorem k0_idx66_inb : ∀ (v395 : IVec S16 32) (k0_hw33 : k0_chk33 v395), ∀ a x, ((![v395] : Fin 1 → IVec S16 32) a x).toNat < S256.size a := fun v395 k0_hw33 => k0_hw33.2

def k0_chk34 (v418 : IVec S16 32) : Prop :=
  (∀ a x, ((![v418] : Fin 1 → IVec S16 32) a x).toNat < S256.size a) ∧
  (∀ a x, ((![v418] : Fin 1 → IVec S16 32) a x).toNat < S256.size a)
theorem k0_idx67_inb : ∀ (v418 : IVec S16 32) (k0_hw34 : k0_chk34 v418), ∀ a x, ((![v418] : Fin 1 → IVec S16 32) a x).toNat < S256.size a := fun v418 k0_hw34 => k0_hw34.1
theorem k0_idx68_inb : ∀ (v418 : IVec S16 32) (k0_hw34 : k0_chk34 v418), ∀ a x, ((![v418] : Fin 1 → IVec S16 32) a x).toNat < S256.size a := fun v418 k0_hw34 => k0_hw34.2
@[reducible] def k0_t15_loop : Scf.Loop 32 :=
  let c0_i32_248 : BitVec 32 := 0#32
  let c16_i32_249 : BitVec 32 := 16#32
  let v429 : BitVec 32 := Scalar.addi c0_i32_248 c16_i32_249
  let c1_i32_250 : BitVec 32 := 1#32
  ⟨c0_i32_248, v429, c1_i32_250⟩
def k0_off50 (k0_t15 : Fin k0_t15_loop.trips) : Fin 1 → Nat :=
  let c1024_i32_343 : BitVec 32 := 1024#32
  let c0_i32_248 : BitVec 32 := 0#32
  let c1_i32_250 : BitVec 32 := 1#32
  let arg20 : BitVec 32 := Scf.iv c0_i32_248 c1_i32_250 k0_t15
  let c16_i32_342 : BitVec 32 := 16#32
  let v557 : BitVec 32 := Scalar.muli arg20 c16_i32_342
  let v558 : BitVec 32 := Scalar.addi c1024_i32_343 v557
  let v559 : Index := Scalar.indexCast v558
  ![v559.toNat]
def k0_off51 (k0_t15 : Fin k0_t15_loop.trips) : Fin 1 → Nat :=
  let c1024_i32_345 : BitVec 32 := 1024#32
  let c0_i32_248 : BitVec 32 := 0#32
  let c1_i32_250 : BitVec 32 := 1#32
  let arg20 : BitVec 32 := Scf.iv c0_i32_248 c1_i32_250 k0_t15
  let c16_i32_344 : BitVec 32 := 16#32
  let v562 : BitVec 32 := Scalar.muli arg20 c16_i32_344
  let v563 : BitVec 32 := Scalar.addi c1024_i32_345 v562
  let v564 : Index := Scalar.indexCast v563
  ![v564.toNat]

def k0_chk35 (v560 : IVec S16 32) : Prop :=
  (∀ a x, ((![v560] : Fin 1 → IVec S16 32) a x).toNat < S20000.size a) ∧
  (∀ a x, ((![v560] : Fin 1 → IVec S16 32) a x).toNat < S20000.size a)
theorem k0_idx69_inb : ∀ (v560 : IVec S16 32) (k0_hw35 : k0_chk35 v560), ∀ a x, ((![v560] : Fin 1 → IVec S16 32) a x).toNat < S20000.size a := fun v560 k0_hw35 => k0_hw35.1
theorem k0_idx70_inb : ∀ (v560 : IVec S16 32) (k0_hw35 : k0_chk35 v560), ∀ a x, ((![v560] : Fin 1 → IVec S16 32) a x).toNat < S20000.size a := fun v560 k0_hw35 => k0_hw35.2
def k0_off52 (i : grid0.Coords) (c4_i32_252 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v19 : BitVec 32 := Scalar.muli v1 c5_i32
  let v431 : BitVec 32 := Scalar.addi v19 c4_i32_252
  let c0_i32_254 : BitVec 32 := 0#32
  ![v431.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S160x20000 : Shape := ⟨2, ![160, 20000]⟩
abbrev S160x16 : Shape := ⟨2, ![160, 16]⟩
abbrev S8x20000 : Shape := ⟨2, ![8, 20000]⟩
abbrev S1x160x1x16 : Shape := ⟨4, ![1, 160, 1, 16]⟩
abbrev S1x160x1250x16 : Shape := ⟨4, ![1, 160, 1250, 16]⟩
abbrev S_ : Shape := ⟨0, ![]⟩
abbrev S256 : Shape := ⟨1, ![256]⟩
abbrev S160x1x20000 : Shape := ⟨3, ![160, 1, 20000]⟩
abbrev S1x256x1 : Shape := ⟨3, ![1, 256, 1]⟩
abbrev S160x256x20000 : Shape := ⟨3, ![160, 256, 20000]⟩
abbrev S160x256 : Shape := ⟨2, ![160, 256]⟩
abbrev S1x256 : Shape := ⟨2, ![1, 256]⟩
abbrev S160x1 : Shape := ⟨2, ![160, 1]⟩
abbrev S160 : Shape := ⟨1, ![160]⟩
abbrev S3200000 : Shape := ⟨1, ![3200000]⟩
abbrev S160x256x1 : Shape := ⟨3, ![160, 256, 1]⟩
abbrev S8x20x20000 : Shape := ⟨3, ![8, 20, 20000]⟩

abbrev nBuf : Space → Nat
  | .hbm => 54
  | .vmem => 0
  | .smem => 0
  | _ => 0

abbrev bufTy : (tb : Table) → Fin (tcTables nBuf tb) → BufTy
  | .hbm, ⟨0, _⟩ => ⟨S160x20000, .f32⟩
  | .hbm, ⟨1, _⟩ => ⟨S160x16, .f32⟩
  | .hbm, ⟨2, _⟩ => ⟨S8x20000, .f32⟩
  | .hbm, ⟨3, _⟩ => ⟨S8x20000, .f32⟩
  | .hbm, ⟨4, _⟩ => ⟨S1x160x1x16, .f32⟩
  | .hbm, ⟨5, _⟩ => ⟨S1x160x1250x16, .f32⟩
  | .hbm, ⟨6, _⟩ => ⟨S160x20000, .f32⟩
  | .hbm, ⟨7, _⟩ => ⟨S160x20000, .i1⟩
  | .hbm, ⟨8, _⟩ => ⟨S160x20000, .i32⟩
  | .hbm, ⟨9, _⟩ => ⟨S_, .i32⟩
  | .hbm, ⟨10, _⟩ => ⟨S_, .i32⟩
  | .hbm, ⟨11, _⟩ => ⟨S160x20000, .i32⟩
  | .hbm, ⟨12, _⟩ => ⟨S256, .i32⟩
  | .hbm, ⟨13, _⟩ => ⟨S160x1x20000, .i32⟩
  | .hbm, ⟨14, _⟩ => ⟨S1x256x1, .i32⟩
  | .hbm, ⟨15, _⟩ => ⟨S160x256x20000, .i32⟩
  | .hbm, ⟨16, _⟩ => ⟨S160x256x20000, .i32⟩
  | .hbm, ⟨17, _⟩ => ⟨S160x256x20000, .i1⟩
  | .hbm, ⟨18, _⟩ => ⟨S160x256x20000, .i32⟩
  | .hbm, ⟨19, _⟩ => ⟨S_, .i32⟩
  | .hbm, ⟨20, _⟩ => ⟨S160x256, .i32⟩
  | .hbm, ⟨21, _⟩ => ⟨S1x256, .i32⟩
  | .hbm, ⟨22, _⟩ => ⟨S160x1, .i32⟩
  | .hbm, ⟨23, _⟩ => ⟨S160x256, .i32⟩
  | .hbm, ⟨24, _⟩ => ⟨S160x256, .i32⟩
  | .hbm, ⟨25, _⟩ => ⟨S160x256, .i1⟩
  | .hbm, ⟨26, _⟩ => ⟨S_, .i32⟩
  | .hbm, ⟨27, _⟩ => ⟨S_, .i32⟩
  | .hbm, ⟨28, _⟩ => ⟨S160x256, .i32⟩
  | .hbm, ⟨29, _⟩ => ⟨S160x256, .i32⟩
  | .hbm, ⟨30, _⟩ => ⟨S160, .i32⟩
  | .hbm, ⟨31, _⟩ => ⟨S160x1, .i32⟩
  | .hbm, ⟨32, _⟩ => ⟨S_, .i32⟩
  | .hbm, ⟨33, _⟩ => ⟨S160x1, .i32⟩
  | .hbm, ⟨34, _⟩ => ⟨S160x1, .i32⟩
  | .hbm, ⟨35, _⟩ => ⟨S160x256, .i32⟩
  | .hbm, ⟨36, _⟩ => ⟨S160x256, .i32⟩
  | .hbm, ⟨37, _⟩ => ⟨S3200000, .f32⟩
  | .hbm, ⟨38, _⟩ => ⟨S160x256x1, .i32⟩
  | .hbm, ⟨39, _⟩ => ⟨S160x256, .f32⟩
  | .hbm, ⟨40, _⟩ => ⟨S_, .f32⟩
  | .hbm, ⟨41, _⟩ => ⟨S_, .f32⟩
  | .hbm, ⟨42, _⟩ => ⟨S160x256, .f32⟩
  | .hbm, ⟨43, _⟩ => ⟨S160x256, .f32⟩
  | .hbm, ⟨44, _⟩ => ⟨S8x20x20000, .f32⟩
  | .hbm, ⟨45, _⟩ => ⟨S160x20000, .f32⟩
  | .hbm, ⟨46, _⟩ => ⟨S3200000, .f32⟩
  | .hbm, ⟨47, _⟩ => ⟨S160x256x1, .i32⟩
  | .hbm, ⟨48, _⟩ => ⟨S160x256, .f32⟩
  | .hbm, ⟨49, _⟩ => ⟨S8x20x20000, .f32⟩
  | .hbm, ⟨50, _⟩ => ⟨S160x20000, .f32⟩
  | .hbm, ⟨51, _⟩ => ⟨S3200000, .f32⟩
  | .hbm, ⟨52, _⟩ => ⟨S160x256x1, .i32⟩
  | .hbm, ⟨53, _⟩ => ⟨S160x256, .f32⟩
  | _, _ => ⟨S160x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_c : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_call2_v0 : Ref sig .tc := ⟨.hbm, 41, rfl⟩
abbrev main_call2_v1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Thresh.lean ====
abbrev S160x20000 : Shape := ⟨2, ![160, 20000]⟩
abbrev S160x16 : Shape := ⟨2, ![160, 16]⟩
abbrev S160x1 : Shape := ⟨2, ![160, 1]⟩
abbrev S160 : Shape := ⟨1, ![160]⟩

abbrev nBuf : Space → Nat
  | .hbm => 2
  | .vmem => 2
  | .smem => 0
  | _ => 0

abbrev bufTy : (tb : Table) → Fin (tcTables nBuf tb) → BufTy
  | .hbm, ⟨0, _⟩ => ⟨S160x20000, .f32⟩
  | .hbm, ⟨1, _⟩ => ⟨S160x16, .f32⟩
  | .local _ .vmem, ⟨0, _⟩ => ⟨S160x20000, .f32⟩
  | .local _ .vmem, ⟨1, _⟩ => ⟨S160x16, .f32⟩
  | _, _ => ⟨S160x20000, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c26_i32 : BitVec 32 := 26#32
  let v2 : BitVec 32 := Scalar.addi c0_i32_1 c26_i32
  let c1_i32 : BitVec 32 := 1#32
  ⟨c0_i32_1, v2, c1_i32⟩
abbrev stage0_0 : Fin 1 → Memref sig .tc .vmem S160x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ThreshReferenceIdeal.lean ====
abbrev S160x20000 : Shape := ⟨2, ![160, 20000]⟩
abbrev S67108864 : Shape := ⟨1, ![67108864]⟩
abbrev S_ : Shape := ⟨0, ![]⟩
abbrev S160x200 : Shape := ⟨2, ![160, 200]⟩
abbrev S160x1 : Shape := ⟨2, ![160, 1]⟩
abbrev S1x67108864 : Shape := ⟨2, ![1, 67108864]⟩
abbrev S160x67108864 : Shape := ⟨2, ![160, 67108864]⟩
abbrev S160 : Shape := ⟨1, ![160]⟩
abbrev S160x16 : Shape := ⟨2, ![160, 16]⟩

abbrev nBuf : Space → Nat
  | .hbm => 23
  | .vmem => 0
  | .smem => 0
  | _ => 0

abbrev bufTy : (tb : Table) → Fin (tcTables nBuf tb) → BufTy
  | .hbm, ⟨0, _⟩ => ⟨S160x20000, .f32⟩
  | .hbm, ⟨1, _⟩ => ⟨S67108864, .i32⟩
  | .hbm, ⟨2, _⟩ => ⟨S_, .i32⟩
  | .hbm, ⟨3, _⟩ => ⟨S67108864, .i32⟩
  | .hbm, ⟨4, _⟩ => ⟨S67108864, .i32⟩
  | .hbm, ⟨5, _⟩ => ⟨S67108864, .f32⟩
  | .hbm, ⟨6, _⟩ => ⟨S160x200, .f32⟩
  | .hbm, ⟨7, _⟩ => ⟨S160x200, .i32⟩
  | .hbm, ⟨8, _⟩ => ⟨S160x1, .f32⟩
  | .hbm, ⟨9, _⟩ => ⟨S1x67108864, .f32⟩
  | .hbm, ⟨10, _⟩ => ⟨S160x67108864, .f32⟩
  | .hbm, ⟨11, _⟩ => ⟨S160x67108864, .f32⟩
  | .hbm, ⟨12, _⟩ => ⟨S160x67108864, .i1⟩
  | .hbm, ⟨13, _⟩ => ⟨S1x67108864, .f32⟩
  | .hbm, ⟨14, _⟩ => ⟨S_, .f32⟩
  | .hbm, ⟨15, _⟩ => ⟨S_, .f32⟩
  | .hbm, ⟨16, _⟩ => ⟨S160x67108864, .f32⟩
  | .hbm, ⟨17, _⟩ => ⟨S160x67108864, .f32⟩
  | .hbm, ⟨18, _⟩ => ⟨S160x67108864, .f32⟩
  | .hbm, ⟨19, _⟩ => ⟨S_, .f32⟩
  | .hbm, ⟨20, _⟩ => ⟨S160, .f32⟩
  | .hbm, ⟨21, _⟩ => ⟨S160x1, .f32⟩
  | .hbm, ⟨22, _⟩ => ⟨S160x16, .f32⟩
  | _, _ => ⟨S160x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_values : Ref sig .tc := ⟨.hbm, 6, rfl⟩
abbrev main_indices : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Order.lean ====
abbrev S160x256 : Shape := ⟨2, ![160, 256]⟩
abbrev S8x256 : Shape := ⟨2, ![8, 256]⟩
abbrev S8x256x1 : Shape := ⟨3, ![8, 256, 1]⟩
abbrev S8x128 : Shape := ⟨2, ![8, 128]⟩
abbrev S8x1x128 : Shape := ⟨3, ![8, 1, 128]⟩
abbrev S8x256x128 : Shape := ⟨3, ![8, 256, 128]⟩

abbrev nBuf : Space → Nat
  | .hbm => 6
  | .vmem => 12
  | .smem => 0
  | _ => 0

abbrev bufTy : (tb : Table) → Fin (tcTables nBuf tb) → BufTy
  | .hbm, ⟨0, _⟩ => ⟨S160x256, .f32⟩
  | .hbm, ⟨1, _⟩ => ⟨S160x256, .f32⟩
  | .hbm, ⟨2, _⟩ => ⟨S160x256, .f32⟩
  | .hbm, ⟨3, _⟩ => ⟨S160x256, .f32⟩
  | .hbm, ⟨4, _⟩ => ⟨S160x256, .f32⟩
  | .hbm, ⟨5, _⟩ => ⟨S160x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | _, _ => ⟨S160x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OrderReferenceIdeal.lean ====
abbrev S160x256 : Shape := ⟨2, ![160, 256]⟩
abbrev S160 : Shape := ⟨1, ![160]⟩
abbrev S160x1 : Shape := ⟨2, ![160, 1]⟩
abbrev S_ : Shape := ⟨0, ![]⟩
abbrev S40960 : Shape := ⟨1, ![40960]⟩
abbrev S160x256x1 : Shape := ⟨3, ![160, 256, 1]⟩

abbrev nBuf : Space → Nat
  | .hbm => 18
  | .vmem => 0
  | .smem => 0
  | _ => 0

abbrev bufTy : (tb : Table) → Fin (tcTables nBuf tb) → BufTy
  | .hbm, ⟨0, _⟩ => ⟨S160x256, .f32⟩
  | .hbm, ⟨1, _⟩ => ⟨S160x256, .f32⟩
  | .hbm, ⟨2, _⟩ => ⟨S160x256, .f32⟩
  | .hbm, ⟨3, _⟩ => ⟨S160x256, .f32⟩
  | .hbm, ⟨4, _⟩ => ⟨S160x256, .i32⟩
  | .hbm, ⟨5, _⟩ => ⟨S160, .i32⟩
  | .hbm, ⟨6, _⟩ => ⟨S160x1, .i32⟩
  | .hbm, ⟨7, _⟩ => ⟨S_, .i32⟩
  | .hbm, ⟨8, _⟩ => ⟨S160x1, .i32⟩
  | .hbm, ⟨9, _⟩ => ⟨S160x1, .i32⟩
  | .hbm, ⟨10, _⟩ => ⟨S160x256, .i32⟩
  | .hbm, ⟨11, _⟩ => ⟨S160x256, .i32⟩
  | .hbm, ⟨12, _⟩ => ⟨S40960, .f32⟩
  | .hbm, ⟨13, _⟩ => ⟨S160x256x1, .i32⟩
  | .hbm, ⟨14, _⟩ => ⟨S160x256, .f32⟩
  | .hbm, ⟨15, _⟩ => ⟨S40960, .f32⟩
  | .hbm, ⟨16, _⟩ => ⟨S160x256x1, .i32⟩
  | .hbm, ⟨17, _⟩ => ⟨S160x256, .f32⟩
  | _, _ => ⟨S160x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_values : Ref sig .tc := ⟨.hbm, 3, rfl⟩
abbrev main_indices : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Nms.lean ====
abbrev S200x160 : Shape := ⟨2, ![200, 160]⟩
abbrev S1x160 : Shape := ⟨2, ![1, 160]⟩
abbrev S192x160 : Shape := ⟨2, ![192, 160]⟩
abbrev S184x160 : Shape := ⟨2, ![184, 160]⟩
abbrev S176x160 : Shape := ⟨2, ![176, 160]⟩
abbrev S168x160 : Shape := ⟨2, ![168, 160]⟩
abbrev S160x160 : Shape := ⟨2, ![160, 160]⟩
abbrev S152x160 : Shape := ⟨2, ![152, 160]⟩
abbrev S144x160 : Shape := ⟨2, ![144, 160]⟩
abbrev S136x160 : Shape := ⟨2, ![136, 160]⟩
abbrev S128x160 : Shape := ⟨2, ![128, 160]⟩
abbrev S120x160 : Shape := ⟨2, ![120, 160]⟩
abbrev S112x160 : Shape := ⟨2, ![112, 160]⟩
abbrev S104x160 : Shape := ⟨2, ![104, 160]⟩
abbrev S96x160 : Shape := ⟨2, ![96, 160]⟩
abbrev S88x160 : Shape := ⟨2, ![88, 160]⟩
abbrev S80x160 : Shape := ⟨2, ![80, 160]⟩
abbrev S72x160 : Shape := ⟨2, ![72, 160]⟩
abbrev S64x160 : Shape := ⟨2, ![64, 160]⟩
abbrev S56x160 : Shape := ⟨2, ![56, 160]⟩
abbrev S48x160 : Shape := ⟨2, ![48, 160]⟩
abbrev S40x160 : Shape := ⟨2, ![40, 160]⟩
abbrev S32x160 : Shape := ⟨2, ![32, 160]⟩
abbrev S24x160 : Shape := ⟨2, ![24, 160]⟩
abbrev S16x160 : Shape := ⟨2, ![16, 160]⟩
abbrev S8x160 : Shape := ⟨2, ![8, 160]⟩

abbrev nBuf : Space → Nat
  | .hbm => 6
  | .vmem => 7
  | .smem => 0
  | _ => 0

abbrev bufTy : (tb : Table) → Fin (tcTables nBuf tb) → BufTy
  | .hbm, ⟨0, _⟩ => ⟨S200x160, .f32⟩
  | .hbm, ⟨1, _⟩ => ⟨S200x160, .f32⟩
  | .hbm, ⟨2, _⟩ => ⟨S200x160, .f32⟩
  | .hbm, ⟨3, _⟩ => ⟨S200x160, .f32⟩
  | .hbm, ⟨4, _⟩ => ⟨S200x160, .f32⟩
  | .hbm, ⟨5, _⟩ => ⟨S200x160, .f32⟩
  | .local _ .vmem, ⟨0, _⟩ => ⟨S200x160, .f32⟩
  | .local _ .vmem, ⟨1, _⟩ => ⟨S200x160, .f32⟩
  | .local _ .vmem, ⟨2, _⟩ => ⟨S200x160, .f32⟩
  | .local _ .vmem, ⟨3, _⟩ => ⟨S200x160, .f32⟩
  | .local _ .vmem, ⟨4, _⟩ => ⟨S200x160, .f32⟩
  | .local _ .vmem, ⟨5, _⟩ => ⟨S200x160, .f32⟩
  | .local _ .vmem, ⟨6, _⟩ => ⟨S200x160, .f32⟩
  | _, _ => ⟨S200x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_8 : BitVec 32 := 0#32
  let c8_i32 : BitVec 32 := 8#32
  let v16 : BitVec 32 := Scalar.addi c0_i32_8 c8_i32
  let c1_i32 : BitVec 32 := 1#32
  ⟨c0_i32_8, v16, c1_i32⟩
def k0_off1 (k0_t1 : Fin k0_t1_loop.trips) : Fin 2 → Nat :=
  let c0_i32_217 : BitVec 32 := 0#32
  let c0_i32_8 : BitVec 32 := 0#32
  let c1_i32 : BitVec 32 := 1#32
  let arg7 : BitVec 32 := Scf.iv c0_i32_8 c1_i32 k0_t1
  let v243 : BitVec 32 := Scalar.addi c0_i32_217 arg7
  let v244 : Index := Scalar.indexCast v243
  let c0_218 : Index := 0#32
  ![v244.toNat, 0]
@[reducible] def k0_t2_loop : Scf.Loop 32 :=
  let c0_i32_15 : BitVec 32 := 0#32
  let c8_i32_16 : BitVec 32 := 8#32
  let v25 : BitVec 32 := Scalar.addi c0_i32_15 c8_i32_16
  let c1_i32_17 : BitVec 32 := 1#32
  ⟨c0_i32_15, v25, c1_i32_17⟩
def k0_off2 (k0_t2 : Fin k0_t2_loop.trips) : Fin 2 → Nat :=
  let c8_i32_217 : BitVec 32 := 8#32
  let c0_i32_15 : BitVec 32 := 0#32
  let c1_i32_17 : BitVec 32 := 1#32
  let arg7 : BitVec 32 := Scf.iv c0_i32_15 c1_i32_17 k0_t2
  let v243 : BitVec 32 := Scalar.addi c8_i32_217 arg7
  let v244 : Index := Scalar.indexCast v243
  let c0_218 : Index := 0#32
  ![v244.toNat, 0]
@[reducible] def k0_t3_loop : Scf.Loop 32 :=
  let c0_i32_23 : BitVec 32 := 0#32
  let c8_i32_24 : BitVec 32 := 8#32
  let v34 : BitVec 32 := Scalar.addi c0_i32_23 c8_i32_24
  let c1_i32_25 : BitVec 32 := 1#32
  ⟨c0_i32_23, v34, c1_i32_25⟩
def k0_off3 (k0_t3 : Fin k0_t3_loop.trips) : Fin 2 → Nat :=
  let c16_i32_217 : BitVec 32 := 16#32
  let c0_i32_23 : BitVec 32 := 0#32
  let c1_i32_25 : BitVec 32 := 1#32
  let arg7 : BitVec 32 := Scf.iv c0_i32_23 c1_i32_25 k0_t3
  let v243 : BitVec 32 := Scalar.addi c16_i32_217 arg7
  let v244 : Index := Scalar.indexCast v243
  let c0_218 : Index := 0#32
  ![v244.toNat, 0]
@[reducible] def k0_t4_loop : Scf.Loop 32 :=
  let c0_i32_31 : BitVec 32 := 0#32
  let c8_i32_32 : BitVec 32 := 8#32
  let v43 : BitVec 32 := Scalar.addi c0_i32_31 c8_i32_32
  let c1_i32_33 : BitVec 32 := 1#32
  ⟨c0_i32_31, v43, c1_i32_33⟩
def k0_off4 (k0_t4 : Fin k0_t4_loop.trips) : Fin 2 → Nat :=
  let c24_i32_217 : BitVec 32 := 24#32
  let c0_i32_31 : BitVec 32 := 0#32
  let c1_i32_33 : BitVec 32 := 1#32
  let arg7 : BitVec 32 := Scf.iv c0_i32_31 c1_i32_33 k0_t4
  let v243 : BitVec 32 := Scalar.addi c24_i32_217 arg7
  let v244 : Index := Scalar.indexCast v243
  let c0_218 : Index := 0#32
  ![v244.toNat, 0]
@[reducible] def k0_t5_loop : Scf.Loop 32 :=
  let c0_i32_39 : BitVec 32 := 0#32
  let c8_i32_40 : BitVec 32 := 8#32
  let v52 : BitVec 32 := Scalar.addi c0_i32_39 c8_i32_40
  let c1_i32_41 : BitVec 32 := 1#32
  ⟨c0_i32_39, v52, c1_i32_41⟩
def k0_off5 (k0_t5 : Fin k0_t5_loop.trips) : Fin 2 → Nat :=
  let c32_i32_217 : BitVec 32 := 32#32
  let c0_i32_39 : BitVec 32 := 0#32
  let c1_i32_41 : BitVec 32 := 1#32
  let arg7 : BitVec 32 := Scf.iv c0_i32_39 c1_i32_41 k0_t5
  let v243 : BitVec 32 := Scalar.addi c32_i32_217 arg7
  let v244 : Index := Scalar.indexCast v243
  let c0_218 : Index := 0#32
  ![v244.toNat, 0]
@[reducible] def k0_t6_loop : Scf.Loop 32 :=
  let c0_i32_47 : BitVec 32 := 0#32
  let c8_i32_48 : BitVec 32 := 8#32
  let v61 : BitVec 32 := Scalar.addi c0_i32_47 c8_i32_48
  let c1_i32_49 : BitVec 32 := 1#32
  ⟨c0_i32_47, v61, c1_i32_49⟩
def k0_off6 (k0_t6 : Fin k0_t6_loop.trips) : Fin 2 → Nat :=
  let c40_i32_217 : BitVec 32 := 40#32
  let c0_i32_47 : BitVec 32 := 0#32
  let c1_i32_49 : BitVec 32 := 1#32
  let arg7 : BitVec 32 := Scf.iv c0_i32_47 c1_i32_49 k0_t6
  let v243 : BitVec 32 := Scalar.addi c40_i32_217 arg7
  let v244 : Index := Scalar.indexCast v243
  let c0_218 : Index := 0#32
  ![v244.toNat, 0]
@[reducible] def k0_t7_loop : Scf.Loop 32 :=
  let c0_i32_55 : BitVec 32 := 0#32
  let c8_i32_56 : BitVec 32 := 8#32
  let v70 : BitVec 32 := Scalar.addi c0_i32_55 c8_i32_56
  let c1_i32_57 : BitVec 32 := 1#32
  ⟨c0_i32_55, v70, c1_i32_57⟩
def k0_off7 (k0_t7 : Fin k0_t7_loop.trips) : Fin 2 → Nat :=
  let c48_i32_217 : BitVec 32 := 48#32
  let c0_i32_55 : BitVec 32 := 0#32
  let c1_i32_57 : BitVec 32 := 1#32
  let arg7 : BitVec 32 := Scf.iv c0_i32_55 c1_i32_57 k0_t7
  let v243 : BitVec 32 := Scalar.addi c48_i32_217 arg7
  let v244 : Index := Scalar.indexCast v243
  let c0_218 : Index := 0#32
  ![v244.toNat, 0]
@[reducible] def k0_t8_loop : Scf.Loop 32 :=
  let c0_i32_63 : BitVec 32 := 0#32
  let c8_i32_64 : BitVec 32 := 8#32
  let v79 : BitVec 32 := Scalar.addi c0_i32_63 c8_i32_64
  let c1_i32_65 : BitVec 32 := 1#32
  ⟨c0_i32_63, v79, c1_i32_65⟩
def k0_off8 (k0_t8 : Fin k0_t8_loop.trips) : Fin 2 → Nat :=
  let c56_i32_217 : BitVec 32 := 56#32
  let c0_i32_63 : BitVec 32 := 0#32
  let c1_i32_65 : BitVec 32 := 1#32
  let arg7 : BitVec 32 := Scf.iv c0_i32_63 c1_i32_65 k0_t8
  let v243 : BitVec 32 := Scalar.addi c56_i32_217 arg7
  let v244 : Index := Scalar.indexCast v243
  let c0_218 : Index := 0#32
  ![v244.toNat, 0]
@[reducible] def k0_t9_loop : Scf.Loop 32 :=
  let c0_i32_71 : BitVec 32 := 0#32
  let c8_i32_72 : BitVec 32 := 8#32
  let v88 : BitVec 32 := Scalar.addi c0_i32_71 c8_i32_72
  let c1_i32_73 : BitVec 32 := 1#32
  ⟨c0_i32_71, v88, c1_i32_73⟩
def k0_off9 (k0_t9 : Fin k0_t9_loop.trips) : Fin 2 → Nat :=
  let c64_i32_217 : BitVec 32 := 64#32
  let c0_i32_71 : BitVec 32 := 0#32
  let c1_i32_73 : BitVec 32 := 1#32
  let arg7 : BitVec 32 := Scf.iv c0_i32_71 c1_i32_73 k0_t9
  let v243 : BitVec 32 := Scalar.addi c64_i32_217 arg7
  let v244 : Index := Scalar.indexCast v243
  let c0_218 : Index := 0#32
  ![v244.toNat, 0]
@[reducible] def k0_t10_loop : Scf.Loop 32 :=
  let c0_i32_79 : BitVec 32 := 0#32
  let c8_i32_80 : BitVec 32 := 8#32
  let v97 : BitVec 32 := Scalar.addi c0_i32_79 c8_i32_80
  let c1_i32_81 : BitVec 32 := 1#32
  ⟨c0_i32_79, v97, c1_i32_81⟩
def k0_off10 (k0_t10 : Fin k0_t10_loop.trips) : Fin 2 → Nat :=
  let c72_i32_217 : BitVec 32 := 72#32
  let c0_i32_79 : BitVec 32 := 0#32
  let c1_i32_81 : BitVec 32 := 1#32
  let arg7 : BitVec 32 := Scf.iv c0_i32_79 c1_i32_81 k0_t10
  let v243 : BitVec 32 := Scalar.addi c72_i32_217 arg7
  let v244 : Index := Scalar.indexCast v243
  let c0_218 : Index := 0#32
  ![v244.toNat, 0]
@[reducible] def k0_t11_loop : Scf.Loop 32 :=
  let c0_i32_87 : BitVec 32 := 0#32
  let c8_i32_88 : BitVec 32 := 8#32
  let v106 : BitVec 32 := Scalar.addi c0_i32_87 c8_i32_88
  let c1_i32_89 : BitVec 32 := 1#32
  ⟨c0_i32_87, v106, c1_i32_89⟩
def k0_off11 (k0_t11 : Fin k0_t11_loop.trips) : Fin 2 → Nat :=
  let c80_i32_217 : BitVec 32 := 80#32
  let c0_i32_87 : BitVec 32 := 0#32
  let c1_i32_89 : BitVec 32 := 1#32
  let arg7 : BitVec 32 := Scf.iv c0_i32_87 c1_i32_89 k0_t11
  let v243 : BitVec 32 := Scalar.addi c80_i32_217 arg7
  let v244 : Index := Scalar.indexCast v243
  let c0_218 : Index := 0#32
  ![v244.toNat, 0]
@[reducible] def k0_t12_loop : Scf.Loop 32 :=
  let c0_i32_95 : BitVec 32 := 0#32
  let c8_i32_96 : BitVec 32 := 8#32
  let v115 : BitVec 32 := Scalar.addi c0_i32_95 c8_i32_96
  let c1_i32_97 : BitVec 32 := 1#32
  ⟨c0_i32_95, v115, c1_i32_97⟩
def k0_off12 (k0_t12 : Fin k0_t12_loop.trips) : Fin 2 → Nat :=
  let c88_i32_217 : BitVec 32 := 88#32
  let c0_i32_95 : BitVec 32 := 0#32
  let c1_i32_97 : BitVec 32 := 1#32
  let arg7 : BitVec 32 := Scf.iv c0_i32_95 c1_i32_97 k0_t12
  let v243 : BitVec 32 := Scalar.addi c88_i32_217 arg7
  let v244 : Index := Scalar.indexCast v243
  let c0_218 : Index := 0#32
  ![v244.toNat, 0]
@[reducible] def k0_t13_loop : Scf.Loop 32 :=
  let c0_i32_103 : BitVec 32 := 0#32
  let c8_i32_104 : BitVec 32 := 8#32
  let v124 : BitVec 32 := Scalar.addi c0_i32_103 c8_i32_104
  let c1_i32_105 : BitVec 32 := 1#32
  ⟨c0_i32_103, v124, c1_i32_105⟩
def k0_off13 (k0_t13 : Fin k0_t13_loop.trips) : Fin 2 → Nat :=
  let c96_i32_217 : BitVec 32 := 96#32
  let c0_i32_103 : BitVec 32 := 0#32
  let c1_i32_105 : BitVec 32 := 1#32
  let arg7 : BitVec 32 := Scf.iv c0_i32_103 c1_i32_105 k0_t13
  let v243 : BitVec 32 := Scalar.addi c96_i32_217 arg7
  let v244 : Index := Scalar.indexCast v243
  let c0_218 : Index := 0#32
  ![v244.toNat, 0]
@[reducible] def k0_t14_loop : Scf.Loop 32 :=
  let c0_i32_111 : BitVec 32 := 0#32
  let c8_i32_112 : BitVec 32 := 8#32
  let v133 : BitVec 32 := Scalar.addi c0_i32_111 c8_i32_112
  let c1_i32_113 : BitVec 32 := 1#32
  ⟨c0_i32_111, v133, c1_i32_113⟩
def k0_off14 (k0_t14 : Fin k0_t14_loop.trips) : Fin 2 → Nat :=
  let c104_i32_217 : BitVec 32 := 104#32
  let c0_i32_111 : BitVec 32 := 0#32
  let c1_i32_113 : BitVec 32 := 1#32
  let arg7 : BitVec 32 := Scf.iv c0_i32_111 c1_i32_113 k0_t14
  let v243 : BitVec 32 := Scalar.addi c104_i32_217 arg7
  let v244 : Index := Scalar.indexCast v243
  let c0_218 : Index := 0#32
  ![v244.toNat, 0]
@[reducible] def k0_t15_loop : Scf.Loop 32 :=
  let c0_i32_119 : BitVec 32 := 0#32
  let c8_i32_120 : BitVec 32 := 8#32
  let v142 : BitVec 32 := Scalar.addi c0_i32_119 c8_i32_120
  let c1_i32_121 : BitVec 32 := 1#32
  ⟨c0_i32_119, v142, c1_i32_121⟩
def k0_off15 (k0_t15 : Fin k0_t15_loop.trips) : Fin 2 → Nat :=
  let c112_i32_217 : BitVec 32 := 112#32
  let c0_i32_119 : BitVec 32 := 0#32
  let c1_i32_121 : BitVec 32 := 1#32
  let arg7 : BitVec 32 := Scf.iv c0_i32_119 c1_i32_121 k0_t15
  let v243 : BitVec 32 := Scalar.addi c112_i32_217 arg7
  let v244 : Index := Scalar.indexCast v243
  let c0_218 : Index := 0#32
  ![v244.toNat, 0]
@[reducible] def k0_t16_loop : Scf.Loop 32 :=
  let c0_i32_127 : BitVec 32 := 0#32
  let c8_i32_128 : BitVec 32 := 8#32
  let v151 : BitVec 32 := Scalar.addi c0_i32_127 c8_i32_128
  let c1_i32_129 : BitVec 32 := 1#32
  ⟨c0_i32_127, v151, c1_i32_129⟩
def k0_off16 (k0_t16 : Fin k0_t16_loop.trips) : Fin 2 → Nat :=
  let c120_i32_217 : BitVec 32 := 120#32
  let c0_i32_127 : BitVec 32 := 0#32
  let c1_i32_129 : BitVec 32 := 1#32
  let arg7 : BitVec 32 := Scf.iv c0_i32_127 c1_i32_129 k0_t16
  let v243 : BitVec 32 := Scalar.addi c120_i32_217 arg7
  let v244 : Index := Scalar.indexCast v243
  let c0_218 : Index := 0#32
  ![v244.toNat, 0]
@[reducible] def k0_t17_loop : Scf.Loop 32 :=
  let c0_i32_135 : BitVec 32 := 0#32
  let c8_i32_136 : BitVec 32 := 8#32
  let v160 : BitVec 32 := Scalar.addi c0_i32_135 c8_i32_136
  let c1_i32_137 : BitVec 32 := 1#32
  ⟨c0_i32_135, v160, c1_i32_137⟩
def k0_off17 (k0_t17 : Fin k0_t17_loop.trips) : Fin 2 → Nat :=
  let c128_i32_217 : BitVec 32 := 128#32
  let c0_i32_135 : BitVec 32 := 0#32
  let c1_i32_137 : BitVec 32 := 1#32
  let arg7 : BitVec 32 := Scf.iv c0_i32_135 c1_i32_137 k0_t17
  let v243 : BitVec 32 := Scalar.addi c128_i32_217 arg7
  let v244 : Index := Scalar.indexCast v243
  let c0_218 : Index := 0#32
  ![v244.toNat, 0]
@[reducible] def k0_t18_loop : Scf.Loop 32 :=
  let c0_i32_143 : BitVec 32 := 0#32
  let c8_i32_144 : BitVec 32 := 8#32
  let v169 : BitVec 32 := Scalar.addi c0_i32_143 c8_i32_144
  let c1_i32_145 : BitVec 32 := 1#32
  ⟨c0_i32_143, v169, c1_i32_145⟩
def k0_off18 (k0_t18 : Fin k0_t18_loop.trips) : Fin 2 → Nat :=
  let c136_i32_217 : BitVec 32 := 136#32
  let c0_i32_143 : BitVec 32 := 0#32
  let c1_i32_145 : BitVec 32 := 1#32
  let arg7 : BitVec 32 := Scf.iv c0_i32_143 c1_i32_145 k0_t18
  let v243 : BitVec 32 := Scalar.addi c136_i32_217 arg7
  let v244 : Index := Scalar.indexCast v243
  let c0_218 : Index := 0#32
  ![v244.toNat, 0]
@[reducible] def k0_t19_loop : Scf.Loop 32 :=
  let c0_i32_151 : BitVec 32 := 0#32
  let c8_i32_152 : BitVec 32 := 8#32
  let v178 : BitVec 32 := Scalar.addi c0_i32_151 c8_i32_152
  let c1_i32_153 : BitVec 32 := 1#32
  ⟨c0_i32_151, v178, c1_i32_153⟩
def k0_off19 (k0_t19 : Fin k0_t19_loop.trips) : Fin 2 → Nat :=
  let c144_i32_217 : BitVec 32 := 144#32
  let c0_i32_151 : BitVec 32 := 0#32
  let c1_i32_153 : BitVec 32 := 1#32
  let arg7 : BitVec 32 := Scf.iv c0_i32_151 c1_i32_153 k0_t19
  let v243 : BitVec 32 := Scalar.addi c144_i32_217 arg7
  let v244 : Index := Scalar.indexCast v243
  let c0_218 : Index := 0#32
  ![v244.toNat, 0]
@[reducible] def k0_t20_loop : Scf.Loop 32 :=
  let c0_i32_159 : BitVec 32 := 0#32
  let c8_i32_160 : BitVec 32 := 8#32
  let v187 : BitVec 32 := Scalar.addi c0_i32_159 c8_i32_160
  let c1_i32_161 : BitVec 32 := 1#32
  ⟨c0_i32_159, v187, c1_i32_161⟩
def k0_off20 (k0_t20 : Fin k0_t20_loop.trips) : Fin 2 → Nat :=
  let c152_i32_217 : BitVec 32 := 152#32
  let c0_i32_159 : BitVec 32 := 0#32
  let c1_i32_161 : BitVec 32 := 1#32
  let arg7 : BitVec 32 := Scf.iv c0_i32_159 c1_i32_161 k0_t20
  let v243 : BitVec 32 := Scalar.addi c152_i32_217 arg7
  let v244 : Index := Scalar.indexCast v243
  let c0_218 : Index := 0#32
  ![v244.toNat, 0]
@[reducible] def k0_t21_loop : Scf.Loop 32 :=
  let c0_i32_167 : BitVec 32 := 0#32
  let c8_i32_168 : BitVec 32 := 8#32
  let v196 : BitVec 32 := Scalar.addi c0_i32_167 c8_i32_168
  let c1_i32_169 : BitVec 32 := 1#32
  ⟨c0_i32_167, v196, c1_i32_169⟩
def k0_off21 (k0_t21 : Fin k0_t21_loop.trips) : Fin 2 → Nat :=
  let c160_i32_217 : BitVec 32 := 160#32
  let c0_i32_167 : BitVec 32 := 0#32
  let c1_i32_169 : BitVec 32 := 1#32
  let arg7 : BitVec 32 := Scf.iv c0_i32_167 c1_i32_169 k0_t21
  let v243 : BitVec 32 := Scalar.addi c160_i32_217 arg7
  let v244 : Index := Scalar.indexCast v243
  let c0_218 : Index := 0#32
  ![v244.toNat, 0]
@[reducible] def k0_t22_loop : Scf.Loop 32 :=
  let c0_i32_175 : BitVec 32 := 0#32
  let c8_i32_176 : BitVec 32 := 8#32
  let v205 : BitVec 32 := Scalar.addi c0_i32_175 c8_i32_176
  let c1_i32_177 : BitVec 32 := 1#32
  ⟨c0_i32_175, v205, c1_i32_177⟩
def k0_off22 (k0_t22 : Fin k0_t22_loop.trips) : Fin 2 → Nat :=
  let c168_i32_217 : BitVec 32 := 168#32
  let c0_i32_175 : BitVec 32 := 0#32
  let c1_i32_177 : BitVec 32 := 1#32
  let arg7 : BitVec 32 := Scf.iv c0_i32_175 c1_i32_177 k0_t22
  let v243 : BitVec 32 := Scalar.addi c168_i32_217 arg7
  let v244 : Index := Scalar.indexCast v243
  let c0_218 : Index := 0#32
  ![v244.toNat, 0]
@[reducible] def k0_t23_loop : Scf.Loop 32 :=
  let c0_i32_183 : BitVec 32 := 0#32
  let c8_i32_184 : BitVec 32 := 8#32
  let v214 : BitVec 32 := Scalar.addi c0_i32_183 c8_i32_184
  let c1_i32_185 : BitVec 32 := 1#32
  ⟨c0_i32_183, v214, c1_i32_185⟩
def k0_off23 (k0_t23 : Fin k0_t23_loop.trips) : Fin 2 → Nat :=
  let c176_i32_217 : BitVec 32 := 176#32
  let c0_i32_183 : BitVec 32 := 0#32
  let c1_i32_185 : BitVec 32 := 1#32
  let arg7 : BitVec 32 := Scf.iv c0_i32_183 c1_i32_185 k0_t23
  let v243 : BitVec 32 := Scalar.addi c176_i32_217 arg7
  let v244 : Index := Scalar.indexCast v243
  let c0_218 : Index := 0#32
  ![v244.toNat, 0]
@[reducible] def k0_t24_loop : Scf.Loop 32 :=
  let c0_i32_191 : BitVec 32 := 0#32
  let c8_i32_192 : BitVec 32 := 8#32
  let v223 : BitVec 32 := Scalar.addi c0_i32_191 c8_i32_192
  let c1_i32_193 : BitVec 32 := 1#32
  ⟨c0_i32_191, v223, c1_i32_193⟩
def k0_off24 (k0_t24 : Fin k0_t24_loop.trips) : Fin 2 → Nat :=
  let c184_i32_217 : BitVec 32 := 184#32
  let c0_i32_191 : BitVec 32 := 0#32
  let c1_i32_193 : BitVec 32 := 1#32
  let arg7 : BitVec 32 := Scf.iv c0_i32_191 c1_i32_193 k0_t24
  let v243 : BitVec 32 := Scalar.addi c184_i32_217 arg7
  let v244 : Index := Scalar.indexCast v243
  let c0_218 : Index := 0#32
  ![v244.toNat, 0]
@[reducible] def k0_t25_loop : Scf.Loop 32 :=
  let c0_i32_199 : BitVec 32 := 0#32
  let c8_i32_200 : BitVec 32 := 8#32
  let v232 : BitVec 32 := Scalar.addi c0_i32_199 c8_i32_200
  let c1_i32_201 : BitVec 32 := 1#32
  ⟨c0_i32_199, v232, c1_i32_201⟩
def k0_off25 (k0_t25 : Fin k0_t25_loop.trips) : Fin 2 → Nat :=
  let c192_i32_217 : BitVec 32 := 192#32
  let c0_i32_199 : BitVec 32 := 0#32
  let c1_i32_201 : BitVec 32 := 1#32
  let arg7 : BitVec 32 := Scf.iv c0_i32_199 c1_i32_201 k0_t25
  let v243 : BitVec 32 := Scalar.addi c192_i32_217 arg7
  let v244 : Index := Scalar.indexCast v243
  let c0_218 : Index := 0#32
  ![v244.toNat, 0]
abbrev stage0_0 : Fin 1 → Memref sig .tc .vmem S200x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S200x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S200x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S200x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S200x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== NmsReferenceIdeal.lean ====
abbrev S200x160 : Shape := ⟨2, ![200, 160]⟩
abbrev S200 : Shape := ⟨1, ![200]⟩
abbrev S_ : Shape := ⟨0, ![]⟩
abbrev S1x160 : Shape := ⟨2, ![1, 160]⟩
abbrev S200x1 : Shape := ⟨2, ![200, 1]⟩

abbrev nBuf : Space → Nat
  | .hbm => 90
  | .vmem => 0
  | .smem => 0
  | _ => 0

abbrev bufTy : (tb : Table) → Fin (tcTables nBuf tb) → BufTy
  | .hbm, ⟨0, _⟩ => ⟨S200x160, .f32⟩
  | .hbm, ⟨1, _⟩ => ⟨S200x160, .f32⟩
  | .hbm, ⟨2, _⟩ => ⟨S200x160, .f32⟩
  | .hbm, ⟨3, _⟩ => ⟨S200, .i32⟩
  | .hbm, ⟨4, _⟩ => ⟨S200x160, .f32⟩
  | .hbm, ⟨5, _⟩ => ⟨S_, .f32⟩
  | .hbm, ⟨6, _⟩ => ⟨S200x160, .f32⟩
  | .hbm, ⟨7, _⟩ => ⟨S200x160, .f32⟩
  | .hbm, ⟨8, _⟩ => ⟨S_, .f32⟩
  | .hbm, ⟨9, _⟩ => ⟨S200x160, .f32⟩
  | .hbm, ⟨10, _⟩ => ⟨S200x160, .i1⟩
  | .hbm, ⟨11, _⟩ => ⟨S_, .i32⟩
  | .hbm, ⟨12, _⟩ => ⟨S_, .i32⟩
  | .hbm, ⟨13, _⟩ => ⟨S200x160, .f32⟩
  | .hbm, ⟨14, _⟩ => ⟨S200x160, .f32⟩
  | .hbm, ⟨15, _⟩ => ⟨S200x160, .f32⟩
  | .hbm, ⟨16, _⟩ => ⟨S200, .i32⟩
  | .hbm, ⟨17, _⟩ => ⟨S_, .i32⟩
  | .hbm, ⟨18, _⟩ => ⟨S_, .i32⟩
  | .hbm, ⟨19, _⟩ => ⟨S200x160, .i1⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x160, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x160, .f32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x160, .f32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x160, .i1⟩
  | .hbm, ⟨56, _⟩ => ⟨S200x160, .f32⟩
  | .hbm, ⟨57, _⟩ => ⟨S200x160, .f32⟩
  | .hbm, ⟨58, _⟩ => ⟨S200x160, .f32⟩
  | .hbm, ⟨59, _⟩ => ⟨S200x160, .f32⟩
  | .hbm, ⟨60, _⟩ => ⟨S200x160, .f32⟩
  | .hbm, ⟨61, _⟩ => ⟨S_, .f32⟩
  | .hbm, ⟨62, _⟩ => ⟨S200x160, .f32⟩
  | .hbm, ⟨63, _⟩ => ⟨S200x160, .f32⟩
  | .hbm, ⟨64, _⟩ => ⟨S200x160, .f32⟩
  | .hbm, ⟨65, _⟩ => ⟨S200x160, .f32⟩
  | .hbm, ⟨66, _⟩ => ⟨S200x160, .f32⟩
  | .hbm, ⟨67, _⟩ => ⟨S_, .f32⟩
  | .hbm, ⟨68, _⟩ => ⟨S200x160, .f32⟩
  | .hbm, ⟨69, _⟩ => ⟨S200x160, .f32⟩
  | .hbm, ⟨70, _⟩ => ⟨S200x160, .f32⟩
  | .hbm, ⟨71, _⟩ => ⟨S_, .f32⟩
  | .hbm, ⟨72, _⟩ => ⟨S200x160, .f32⟩
  | .hbm, ⟨73, _⟩ => ⟨S200x160, .i1⟩
  | .hbm, ⟨74, _⟩ => ⟨S_, .i32⟩
  | .hbm, ⟨75, _⟩ => ⟨S200, .i32⟩
  | .hbm, ⟨76, _⟩ => ⟨S200, .i1⟩
  | .hbm, ⟨77, _⟩ => ⟨S200x1, .i1⟩
  | .hbm, ⟨78, _⟩ => ⟨S200x160, .i1⟩
  | .hbm, ⟨79, _⟩ => ⟨S200x160, .i1⟩
  | .hbm, ⟨80, _⟩ => ⟨S200x160, .i1⟩
  | .hbm, ⟨81, _⟩ => ⟨S200x160, .i1⟩
  | .hbm, ⟨82, _⟩ => ⟨S200x160, .i1⟩
  | .hbm, ⟨83, _⟩ => ⟨S200x160, .i1⟩
  | .hbm, ⟨84, _⟩ => ⟨S_, .i32⟩
  | .hbm, ⟨85, _⟩ => ⟨S_, .i32⟩
  | .hbm, ⟨86, _⟩ => ⟨S200x160, .f32⟩
  | .hbm, ⟨87, _⟩ => ⟨S200x160, .f32⟩
  | .hbm, ⟨88, _⟩ => ⟨S200x160, .f32⟩
  | .hbm, ⟨89, _⟩ => ⟨S200x160, .f32⟩
  | _, _ => ⟨S200x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_1 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev main_while0c_c_8 : Ref sig .tc := ⟨.hbm, 20, rfl⟩
abbrev main_while0c_v11 : Ref sig .tc := ⟨.hbm, 21, rfl⟩
abbrev main_while0b_c_8 : Ref sig .tc := ⟨.hbm, 22, rfl⟩
abbrev main_while0b_v11 : Ref sig .tc := ⟨.hbm, 23, rfl⟩
abbrev main_while0b_c_9 : Ref sig .tc := ⟨.hbm, 24, rfl⟩
abbrev main_while0b_v12 : Ref sig .tc := ⟨.hbm, 25, rfl⟩
abbrev main_while0b_v13 : Ref sig .tc := ⟨.hbm, 26, rfl⟩
abbrev main_while0b_c_10 : Ref sig .tc := ⟨.hbm, 27, rfl⟩
abbrev main_while0b_v14 : Ref sig .tc := ⟨.hbm, 28, rfl⟩
abbrev main_while0b_v15 : Ref sig .tc := ⟨.hbm, 29, rfl⟩
abbrev main_while0b_c_11 : Ref sig .tc := ⟨.hbm, 30, rfl⟩
abbrev main_while0b_v16 : Ref sig .tc := ⟨.hbm, 31, rfl⟩
abbrev main_while0b_c_12 : Ref sig .tc := ⟨.hbm, 32, rfl⟩
abbrev main_while0b_v17 : Ref sig .tc := ⟨.hbm, 33, rfl⟩
abbrev main_while0b_v18 : Ref sig .tc := ⟨.hbm, 34, rfl⟩
abbrev main_while0b_c_13 : Ref sig .tc := ⟨.hbm, 35, rfl⟩
abbrev main_while0b_v19 : Ref sig .tc := ⟨.hbm, 36, rfl⟩
abbrev main_while0b_v20 : Ref sig .tc := ⟨.hbm, 37, rfl⟩
abbrev main_while0b_c_14 : Ref sig .tc := ⟨.hbm, 38, rfl⟩
abbrev main_while0b_v21 : Ref sig .tc := ⟨.hbm, 39, rfl⟩
abbrev main_while0b_c_15 : Ref sig .tc := ⟨.hbm, 40, rfl⟩
abbrev main_while0b_v22 : Ref sig .tc := ⟨.hbm, 41, rfl⟩
abbrev main_while0b_v23 : Ref sig .tc := ⟨.hbm, 42, rfl⟩
abbrev main_while0b_c_16 : Ref sig .tc := ⟨.hbm, 43, rfl⟩
abbrev main_while0b_v24 : Ref sig .tc := ⟨.hbm, 44, rfl⟩
abbrev main_while0b_v25 : Ref sig .tc := ⟨.hbm, 45, rfl⟩
abbrev main_while0b_c_17 : Ref sig .tc := ⟨.hbm, 46, rfl⟩
abbrev main_while0b_v26 : Ref sig .tc := ⟨.hbm, 47, rfl⟩
abbrev main_while0b_c_18 : Ref sig .tc := ⟨.hbm, 48, rfl⟩
abbrev main_while0b_v27 : Ref sig .tc := ⟨.hbm, 49, rfl⟩
abbrev main_while0b_v28 : Ref sig .tc := ⟨.hbm, 50, rfl⟩
abbrev main_while0b_c_19 : Ref sig .tc := ⟨.hbm, 51, rfl⟩
abbrev main_while0b_v29 : Ref sig .tc := ⟨.hbm, 52, rfl⟩
abbrev main_while0b_v30 : Ref sig .tc := ⟨.hbm, 53, rfl⟩
abbrev main_while0b_c_20 : Ref sig .tc := ⟨.hbm, 54, rfl⟩
abbrev main_while0b_v31 : Ref sig .tc := ⟨.hbm, 55, rfl⟩
abbrev main_while0b_v32 : Ref sig .tc := ⟨.hbm, 56, rfl⟩
abbrev main_while0b_v33 : Ref sig .tc := ⟨.hbm, 57, rfl⟩
abbrev main_while0b_v34 : Ref sig .tc := ⟨.hbm, 58, rfl⟩
abbrev main_while0b_v35 : Ref sig .tc := ⟨.hbm, 59, rfl⟩
abbrev main_while0b_v36 : Ref sig .tc := ⟨.hbm, 60, rfl⟩
abbrev main_while0b_cst_21 : Ref sig .tc := ⟨.hbm, 61, rfl⟩
abbrev main_while0b_v37 : Ref sig .tc := ⟨.hbm, 62, rfl⟩
abbrev main_while0b_v38 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_cst_22 : Ref sig .tc := ⟨.hbm, 67, rfl⟩
abbrev main_while0b_v42 : Ref sig .tc := ⟨.hbm, 68, rfl⟩
abbrev main_while0b_v43 : Ref sig .tc := ⟨.hbm, 69, rfl⟩
abbrev main_while0b_v44 : Ref sig .tc := ⟨.hbm, 70, rfl⟩
abbrev main_while0b_cst_23 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_v55 : Ref sig .tc := ⟨.hbm, 82, rfl⟩
abbrev main_while0b_v56 : Ref sig .tc := ⟨.hbm, 83, rfl⟩
abbrev main_while0b_c_24 : Ref sig .tc := ⟨.hbm, 84, rfl⟩
abbrev main_while0b_v57 : Ref sig .tc := ⟨.hbm, 85, rfl⟩
abbrev main_v7 : Ref sig .tc := ⟨.hbm, 86, rfl⟩
abbrev main_v8 : Ref sig .tc := ⟨.hbm, 87, rfl⟩
abbrev main_v9 : Ref sig .tc := ⟨.hbm, 88, rfl⟩
abbrev main_v10 : Ref sig .tc := ⟨.hbm, 89, rfl⟩

abbrev nD : Nat := 1
abbrev τ : Topo := Topo.v7x

variable {F : FTy → Type} [FloatOps F]

abbrev main_while0_count : Scf.Loop 32 := ⟨0#32, 200#32, 1#32⟩
-- ==== Proof.Text.lean ====
/-
  The kernel's text, said once per row. A vector subcore takes five rows in turn, and its printed body spells the same
  steps five times with other constants. Here are those steps as programs over the row's number `rr`: clearing the row's
  slots (`initG`), scanning sixteen scores (`subG`), one trip of the scan (`chunkG`), collecting the boxes (`gatherG`),
  and the whole row (`rowG`); and the equations between each printed loop and its general form.
-/
module

public import proofs.«01_k».proof.Defs
public import proofs.«01_k».proof.Proof.Gen.KernelIdeal
public import proofs.«01_k».proof.Proof.Gen.KernelIdeal.Skeleton

@[expose] public section

noncomputable section

namespace Cert.Proof.Sel

open Cert.KernelIdeal Cert.KernelIdeal.Gen
open Idealize.ShloMosaic Idealize.SL.Sem

variable {F : FTy → Type} [FloatOps F]

/-- The effects of the task at coordinates `i`. -/
abbrev Eff (F : FTy → Type) [FloatOps F] (i : grid0.Coords) : Type → Type :=
  TpuEff nD τ sig (Elt F) Λ₀ (.scVector ((i 0).castLE hcore0) ((i 1).castLE hsub0))

/-! ## Where things lie -/

/-- Where row `rr`'s slots `16t … 16t+15` start in the (1280) scratches. -/
def offRow (rr : Fin 5) (t : Fin k0_t1_loop.trips) : Fin 1 → Nat :=
  ![(Scalar.indexCast (Scalar.addi (BitVec.ofNat 32 (256 * rr.val)) (Scalar.muli (Scf.iv 0#32 1#32 t) 16#32))).toNat]

theorem offRow_eq : ∀ (rr : Fin 5) (t : Fin k0_t1_loop.trips), offRow rr t = ![256 * rr.val + 16 * t.val] := by decide +kernel

theorem trips16 : k0_t1_loop.trips = 16 := by decide +kernel

theorem trips312 : k0_t2_loop.trips = 312 := by decide +kernel

theorem offRow_inb (rr : Fin 5) (t : Fin k0_t1_loop.trips) (a : Fin 1) : offRow rr t a + S16.size a ≤ S1280.size a := by
  rw [offRow_eq]
  obtain rfl : a = 0 := Subsingleton.elim _ _
  have ht : t.val < 16 := trips16 ▸ t.isLt
  have hr := rr.isLt
  show 256 * rr.val + 16 * t.val + 16 ≤ 1280
  omega

/-- The word of the position where the `c / 16`-th sixteen of trip `k` start in a row of scores. -/
def posChunk (k : Fin k0_t2_loop.trips) (c : BitVec 32) : BitVec 32 :=
  Scalar.addi (Scalar.muli (Scf.iv 0#32 1#32 k) 64#32) c

theorem posChunk_toNat (k : Fin k0_t2_loop.trips) (c : Nat) (hc : c < 64) :
    (posChunk k (BitVec.ofNat 32 c)).toNat = 64 * k.val + c := by
  have hk : k.val < 312 := k.isLt
  simp only [posChunk, Scalar.addi, Scalar.muli, IntOp.addi, IntOp.muli, Scf.iv, BitVec.toNat_add, BitVec.toNat_mul, BitVec.toNat_ofNat]
  omega

/-- A row's window of the (1280) scratches lies inside them, -/
theorem row_inb (rr : Fin 5) (a : Fin 1) : (![256 * rr.val] : Fin 1 → Nat) a + S256.size a ≤ S1280.size a := by
  obtain rfl : a = 0 := Subsingleton.elim _ _
  have hr := rr.isLt
  show 256 * rr.val + 256 ≤ 1280
  omega

/-- and a row's lane thresholds in the (80) scratch. -/
theorem thr_inb (rr : Fin 5) (a : Fin 1) : (![16 * rr.val] : Fin 1 → Nat) a + S16.size a ≤ S80.size a := by
  obtain rfl : a = 0 := Subsingleton.elim _ _
  have hr := rr.isLt
  show 16 * rr.val + 16 ≤ 80
  omega

/-- Row `rr`'s 256 slots of a (1280) scratch. -/
abbrev rowOf {e : EltTy} (m : Memref sig .scVector .vmem S1280 e) (rr : Fin 5) : Memref sig .scVector .vmem S256 e :=
  m.slice (Rect.unit (s := S1280) ![256 * rr.val] S256.size (row_inb rr)) (fun _ => rfl)

/-! ## What sixteen scores give -/

/-- Which of the sixteen scores `x` exceed their lane's threshold. -/
def hits (thr x : Vec F S16 .f32) : IVec S16 1 := cmpf .ogt x thr

/-- How many do up to and including each lane. -/
def runs (m : IVec S16 1) : IVec S16 32 := scan .sum (extui 32 m natLt_1_32)

/-- The slot of each lane, `b` scores having been placed before. -/
def slots (m : IVec S16 1) (b : IVec S16 32) : IVec S16 32 := subi (addi b (runs m)) (broadcast S16 1#32)

/-- The lanes that are placed. -/
def takes (m : IVec S16 1) (b : IVec S16 32) : IVec S16 1 := andi m (cmpi .slt (slots m b) (broadcast S16 256#32))

/-- The slot of each lane, `0` where it is not placed. -/
def places (m : IVec S16 1) (b : IVec S16 32) : IVec S16 32 := select (takes m b) (slots m b) (broadcast S16 0#32)

/-- The scores placed by the end of the sixteen. -/
def placed (m : IVec S16 1) (b : IVec S16 32) : IVec S16 32 :=
  addi b (broadcast S16 (extractAt ![15] (runs m) inpos_S16_p15))

/-- The lanes' numbers. -/
def lanes : IVec S16 32 := iota .scVector S16 32 [0] iota_S16_d0_w32_scVector

/-! ## The programs -/

section Programs

variable (i : grid0.Coords) (rr : Fin 5)

/-- Trip `t` of clearing the row's slots. -/
def initG (cands : Memref sig .scVector .vmem S1280 .f32) (candi : Memref sig .scVector .vmem S1280 .i32) :
    Fin k0_t1_loop.trips → BitVec 32 → Prog (Eff F i) (BitVec 32) := fun t _ => do
  let _ ← Prog.lift (.load cands (Rect.unit (s := S1280) (offRow rr t) S16.size (offRow_inb rr t)).toLoadRect (View.loadsAt_vmem h_S16))
  Prog.lift (.store cands (Rect.unit (s := S1280) (offRow rr t) S16.size (offRow_inb rr t)) (k0_pay91 (F := F)) Finset.univ (View.stores_vmem_bits_univ h_S16 rfl) (.inl rfl))
  let _ ← Prog.lift (.load candi (Rect.unit (s := S1280) (offRow rr t) S16.size (offRow_inb rr t)).toLoadRect (View.loadsAt_vmem h_S16))
  Prog.lift (.store candi (Rect.unit (s := S1280) (offRow rr t) S16.size (offRow_inb rr t)) k0_pay92 Finset.univ (View.stores_vmem_bits_univ h_S16 rfl) (.inl rfl))
  pure 0#32

/-- Scanning the sixteen scores at `off`, whose first has position `pos`. -/
def subG (row : Memref sig .scVector .vmem S20000 .f32) (cands : Memref sig .scVector .vmem S1280 .f32)
    (candi : Memref sig .scVector .vmem S1280 .i32) (thr : Vec F S16 .f32) (off : Fin 1 → Nat)
    (hoff : ∀ a, off a + S16.size a ≤ S20000.size a) (pos : BitVec 32) (b : IVec S16 32) : Prog (Eff F i) (IVec S16 32) := do
  let x : Vec F S16 .f32 ← Prog.lift (.load row (Rect.unit (s := S20000) off S16.size hoff).toLoadRect (View.loadsAt_vmem h_S16))
  have hw : k0_chk1 (places (hits thr x) b) :=
    (← Prog.lift (TpuEff.assume (k0_chk1 (places (hits thr x) b)) (k0_chk1.dec (places (hits thr x) b)))).down
  SparseCore.vectorStoreIdx (rowOf cands rr) ![places (hits thr x) b] x (takes (hits thr x) b) false (k0_idx1_inb _ hw) (View.stores_vmem_bits_univ h_S256 rfl)
  SparseCore.vectorStoreIdx (rowOf candi rr) ![places (hits thr x) b] (addi lanes (broadcast S16 pos)) (takes (hits thr x) b) false (k0_idx2_inb _ hw) (View.stores_vmem_bits_univ h_S256 rfl)
  pure (placed (hits thr x) b)

/-- Trip `k` of the scan: four sixteens. -/
def chunkG (row : Memref sig .scVector .vmem S20000 .f32) (cands : Memref sig .scVector .vmem S1280 .f32)
    (candi : Memref sig .scVector .vmem S1280 .i32) (thr : Vec F S16 .f32) :
    Fin k0_t2_loop.trips → IVec S16 32 → Prog (Eff F i) (IVec S16 32) := fun k b => do
  let b ← subG i rr row cands candi thr (k0_off7 k) (k0_off7_inb k) (posChunk k 0#32) b
  let b ← subG i rr row cands candi thr (k0_off8 k) (k0_off8_inb k) (posChunk k 16#32) b
  let b ← subG i rr row cands candi thr (k0_off9 k) (k0_off9_inb k) (posChunk k 32#32) b
  subG i rr row cands candi thr (k0_off10 k) (k0_off10_inb k) (posChunk k 48#32) b

/-- Trip `t` of collecting the boxes of the row's slots. -/
def gatherG (sv ev : Memref sig .scVector .vmem S20000 .f32) (candi : Memref sig .scVector .vmem S1280 .i32)
    (csb ceb : Memref sig .scVector .vmem S1280 .f32) :
    Fin k0_t1_loop.trips → BitVec 32 → Prog (Eff F i) (BitVec 32) := fun t _ => do
  let at_ : Vec F S16 .i32 ← Prog.lift (.load candi (Rect.unit (s := S1280) (offRow rr t) S16.size (offRow_inb rr t)).toLoadRect (View.loadsAt_vmem h_S16))
  have hw : k0_chk7 at_ := (← Prog.lift (TpuEff.assume (k0_chk7 at_) (k0_chk7.dec at_))).down
  let s : Vec F S16 .f32 ← SparseCore.vectorLoadIdx sv ![at_] (k0_idx13_inb at_ hw) (View.loads_vmem h_S20000)
  let _ ← Prog.lift (.load csb (Rect.unit (s := S1280) (offRow rr t) S16.size (offRow_inb rr t)).toLoadRect (View.loadsAt_vmem h_S16))
  Prog.lift (.store csb (Rect.unit (s := S1280) (offRow rr t) S16.size (offRow_inb rr t)) s Finset.univ (View.stores_vmem_bits_univ h_S16 rfl) (.inl rfl))
  let e : Vec F S16 .f32 ← SparseCore.vectorLoadIdx ev ![at_] (k0_idx14_inb at_ hw) (View.loads_vmem h_S20000)
  let _ ← Prog.lift (.load ceb (Rect.unit (s := S1280) (offRow rr t) S16.size (offRow_inb rr t)).toLoadRect (View.loadsAt_vmem h_S16))
  Prog.lift (.store ceb (Rect.unit (s := S1280) (offRow rr t) S16.size (offRow_inb rr t)) e Finset.univ (View.stores_vmem_bits_univ h_S16 rfl) (.inl rfl))
  pure 0#32

/-- Row `rr`: clear, scan (312 trips of 64 and the last 32), collect. -/
def rowG (row sv ev : Memref sig .scVector .vmem S20000 .f32) (thr_v : Memref sig .scVector .vmem S80 .f32)
    (cands : Memref sig .scVector .vmem S1280 .f32) (candi : Memref sig .scVector .vmem S1280 .i32)
    (csb ceb : Memref sig .scVector .vmem S1280 .f32) : Prog (Eff F i) (BitVec 32) := do
  let _ ← Scf.Loop.for k0_t1_loop k0_t1_ok 0#32 (initG (F := F) i rr cands candi)
  let thr : Vec F S16 .f32 ← Prog.lift (.load thr_v (Rect.unit (s := S80) ![16 * rr.val] S16.size (thr_inb rr)).toLoadRect (View.loadsAt_vmem h_S16))
  let b ← Scf.Loop.for k0_t2_loop k0_t2_ok (broadcast S16 0#32 : IVec S16 32) (chunkG i rr row cands candi thr)
  let b ← subG i rr row cands candi thr ![19968] inb_S20000_S16_19968 19968#32 b
  let _ ← subG i rr row cands candi thr ![19984] inb_S20000_S16_19984 19984#32 b
  Scf.Loop.for k0_t3_loop k0_t3_ok 0#32 (gatherG i rr sv ev candi csb ceb)

/-- The row of a (160, 20000) array that starts at `off`. -/
abbrev inRow (m : Memref sig .scVector .hbm S160x20000 .f32) (off : Fin 2 → Nat)
    (h : ∀ a, off a + S1x20000.size a ≤ S160x20000.size a) : Memref sig .scVector .hbm S20000 .f32 :=
  (m.slice (Rect.unit (s := S160x20000) off S1x20000.size h) (fun _ => rfl)).squeeze S20000 squeezes_S1x20000_S20000

/-- The row of a (8, 20000) array that task `i` reads. -/
abbrev boxRow (m : Memref sig .scVector .hbm S8x20000 .f32) : Memref sig .scVector .hbm S20000 .f32 :=
  (m.slice (Rect.unit (s := S8x20000) (k0_off1 i) S1x20000.size (k0_off1_inb i)) (fun _ => rfl)).squeeze S20000 squeezes_S1x20000_S20000

/-- The five rows of lane thresholds that task `i` reads. -/
abbrev thrRow (m : Memref sig .scVector .hbm S2560 .f32) : Memref sig .scVector .hbm S80 .f32 :=
  m.slice (Rect.unit (s := S2560) (k0_off2 i) S80.size (k0_off2_inb i)) (fun _ => rfl)

/-- Task `i`'s `rr`-th row of a (160, 256) array. -/
abbrev outRow (m : Memref sig .scVector .hbm S160x256 .f32) : Memref sig .scVector .hbm S256 .f32 :=
  (m.slice (Rect.unit (s := S160x256) (k0_off52 i (BitVec.ofNat 32 rr.val)) S1x256.size (k0_off52_inb i rr)) (fun _ => rfl)).squeeze S256 squeezes_S1x256_S256

/-- A row of scores starts to come, -/
def inIssue (m : Memref sig .scVector .hbm S160x20000 .f32) (off : Fin 2 → Nat)
    (h : ∀ a, off a + S1x20000.size a ≤ S160x20000.size a) (row : Memref sig .scVector .vmem S20000 .f32) (hrow : row.IsWhole)
    (sem : DmaSems sig S_) : Prog (Eff F i) PUnit :=
  Prog.lift (.enqueueDma (inRow m off h) (.here row) (.dma sem.sem) ((View.wordExact_bits rfl).reshape _ _) hrow.wordExact ⟨Or.inl rfl, trivial⟩)

/-- and has come. -/
def inWait (m : Memref sig .scVector .hbm S160x20000 .f32) (off : Fin 2 → Nat)
    (h : ∀ a, off a + S1x20000.size a ≤ S160x20000.size a) (row : Memref sig .scVector .vmem S20000 .f32) (hrow : row.IsWhole)
    (sem : DmaSems sig S_) : Prog (Eff F i) PUnit :=
  Prog.lift (.waitDma2 sem.sem (inRow m off h) row ((View.wordExact_bits rfl).reshape _ _) hrow.wordExact)

/-- A row of slots starts to go out, -/
def outIssue (m : Memref sig .scVector .vmem S1280 .f32) (d : Memref sig .scVector .hbm S160x256 .f32) (sem : DmaSems sig S_) :
    Prog (Eff F i) PUnit :=
  Prog.lift (.enqueueDma (rowOf m rr) (.here (outRow i rr d)) (.dma sem.sem) (View.wordExact_bits rfl) ((View.wordExact_bits rfl).reshape _ _) ⟨Or.inl rfl, trivial⟩)

/-- and is waited for. -/
def outWait (m : Memref sig .scVector .vmem S1280 .f32) (d : Memref sig .scVector .hbm S160x256 .f32) (sem : DmaSems sig S_) :
    Prog (Eff F i) PUnit :=
  Prog.lift (.waitDma2 sem.sem (rowOf m rr) (outRow i rr d) (View.wordExact_bits rfl) ((View.wordExact_bits rfl).reshape _ _))

end Programs

section Body

variable (i : grid0.Coords) (arg2 : Memref sig .scVector .hbm S160x20000 .f32) (harg2 : arg2.IsWhole) (arg3 : Memref sig .scVector .hbm S2560 .f32) (harg3 : arg3.IsWhole) (arg4 : Memref sig .scVector .hbm S8x20000 .f32) (harg4 : arg4.IsWhole) (arg5 : Memref sig .scVector .hbm S8x20000 .f32) (harg5 : arg5.IsWhole) (arg6 : Memref sig .scVector .hbm S160x256 .f32) (harg6 : arg6.IsWhole) (arg7 : Memref sig .scVector .hbm S160x256 .f32) (harg7 : arg7.IsWhole) (arg8 : Memref sig .scVector .hbm S160x256 .f32) (harg8 : arg8.IsWhole) (arg9 : Memref sig .scVector .vmem S20000 .f32) (harg9 : arg9.IsWhole) (arg10 : Memref sig .scVector .vmem S20000 .f32) (harg10 : arg10.IsWhole) (arg11 : Memref sig .scVector .vmem S20000 .f32) (harg11 : arg11.IsWhole) (arg12 : Memref sig .scVector .vmem S20000 .f32) (harg12 : arg12.IsWhole) (arg13 : Memref sig .scVector .vmem S80 .f32) (harg13 : arg13.IsWhole) (arg14 : Memref sig .scVector .vmem S1280 .f32) (harg14 : arg14.IsWhole) (arg15 : Memref sig .scVector .vmem S1280 .i32) (harg15 : arg15.IsWhole) (arg16 : Memref sig .scVector .vmem S1280 .f32) (harg16 : arg16.IsWhole) (arg17 : Memref sig .scVector .vmem S1280 .f32) (harg17 : arg17.IsWhole) (arg18 : DmaSems sig S_) (arg19 : DmaSems sig S_) (v557_r0 : DmaSems sig S_) (v557_r1 : DmaSems sig S_) (v557_r2 : DmaSems sig S_)

/-- The three rows of slots go out, -/
def outsIssue (rr : Fin 5) : Prog (Eff F i) PUnit := do
  outIssue i rr arg14 arg6 arg19
  outIssue i rr arg16 arg7 arg19
  outIssue i rr arg17 arg8 arg19

/-- and are waited for. -/
def outsWait (rr : Fin 5) : Prog (Eff F i) PUnit := do
  outWait i rr arg14 arg6 arg19
  outWait i rr arg16 arg7 arg19
  outWait i rr arg17 arg8 arg19

/-- Task `i`'s text: the boxes and thresholds come in, then five rows in turn, each row's scores coming in while the row
    before it is worked on, and each row's slots going out while the rows after it are; at the end the fifteen copies
    out are waited for. -/
def bodyG : Prog (Eff F i) PUnit := do
  Prog.lift (.enqueueDma (boxRow i arg4) (.here arg11) (.dma v557_r0.sem) ((View.wordExact_bits rfl).reshape _ _) harg11.wordExact ⟨Or.inl rfl, trivial⟩)
  Prog.lift (.waitDma2 v557_r0.sem (boxRow i arg4) arg11 ((View.wordExact_bits rfl).reshape _ _) harg11.wordExact)
  Prog.lift (.enqueueDma (boxRow i arg5) (.here arg12) (.dma v557_r1.sem) ((View.wordExact_bits rfl).reshape _ _) harg12.wordExact ⟨Or.inl rfl, trivial⟩)
  Prog.lift (.waitDma2 v557_r1.sem (boxRow i arg5) arg12 ((View.wordExact_bits rfl).reshape _ _) harg12.wordExact)
  Prog.lift (.enqueueDma (thrRow i arg3) (.here arg13) (.dma v557_r2.sem) (View.wordExact_bits rfl) harg13.wordExact ⟨Or.inl rfl, trivial⟩)
  Prog.lift (.waitDma2 v557_r2.sem (thrRow i arg3) arg13 (View.wordExact_bits rfl) harg13.wordExact)
  inIssue i arg2 (k0_off3 i) (k0_off3_inb i) arg9 harg9 arg18
  inWait i arg2 (k0_off4 i) (k0_off4_inb i) arg9 harg9 arg18
  inIssue i arg2 (k0_off5 i) (k0_off5_inb i) arg10 harg10 arg18
  let _ ← rowG i 0 arg9 arg11 arg12 arg13 arg14 arg15 arg16 arg17
  outsIssue i arg6 arg7 arg8 arg14 arg16 arg17 arg19 0
  inWait i arg2 (k0_off14 i) (k0_off14_inb i) arg10 harg10 arg18
  inIssue i arg2 (k0_off15 i) (k0_off15_inb i) arg9 harg9 arg18
  let _ ← rowG i 1 arg10 arg11 arg12 arg13 arg14 arg15 arg16 arg17
  outsIssue i arg6 arg7 arg8 arg14 arg16 arg17 arg19 1
  inWait i arg2 (k0_off24 i) (k0_off24_inb i) arg9 harg9 arg18
  inIssue i arg2 (k0_off25 i) (k0_off25_inb i) arg10 harg10 arg18
  let _ ← rowG i 2 arg9 arg11 arg12 arg13 arg14 arg15 arg16 arg17
  outsIssue i arg6 arg7 arg8 arg14 arg16 arg17 arg19 2
  inWait i arg2 (k0_off34 i) (k0_off34_inb i) arg10 harg10 arg18
  inIssue i arg2 (k0_off35 i) (k0_off35_inb i) arg9 harg9 arg18
  let _ ← rowG i 3 arg10 arg11 arg12 arg13 arg14 arg15 arg16 arg17
  outsIssue i arg6 arg7 arg8 arg14 arg16 arg17 arg19 3
  inWait i arg2 (k0_off44 i) (k0_off44_inb i) arg9 harg9 arg18
  let _ ← rowG i 4 arg9 arg11 arg12 arg13 arg14 arg15 arg16 arg17
  outsIssue i arg6 arg7 arg8 arg14 arg16 arg17 arg19 4
  outsWait i arg6 arg7 arg8 arg14 arg16 arg17 arg19 0
  outsWait i arg6 arg7 arg8 arg14 arg16 arg17 arg19 1
  outsWait i arg6 arg7 arg8 arg14 arg16 arg17 arg19 2
  outsWait i arg6 arg7 arg8 arg14 arg16 arg17 arg19 3
  outsWait i arg6 arg7 arg8 arg14 arg16 arg17 arg19 4

end Body

end Cert.Proof.Sel
end
-- ==== Proof.Counts.lean ====
/-
  The arithmetic of the selection. A row's scores above their threshold are numbered from 0 in ascending position; slot
  `j < 256` takes the `j`-th. `Nat.count p n` is how many of the first `n` positions satisfy `p`, and `posOf p j` the
  position of the `j`-th of them. Here: what the running sum, the slots and the masked scatter of sixteen lanes are in
  these terms.
-/
module

public import proofs.«01_k».proof.Proof.Text
public import Mathlib.Data.Nat.Count

@[expose] public section

noncomputable section

namespace Cert.Proof.Sel

open Cert.KernelIdeal Cert.KernelIdeal.Gen
open Idealize.ShloMosaic

variable {F : FTy → Type} [FloatOps F]

/-- The `l`-th lane of sixteen, -/
abbrev ln (l : Fin 16) : S16.Idx := Shape.ofLane (d := ![16]) l

/-- slot `j` of a row's 256, -/
abbrev sl (j : Fin 256) : S256.Idx := Shape.ofLane (d := ![256]) j

/-- and position `n` of a row. -/
abbrev ps (n : Fin 20000) : S20000.Idx := Shape.ofLane (d := ![20000]) n

/-- An index of a one-axis shape is its coordinate's. -/
theorem eq_ofLane {d : Fin 1 → Nat} (x : (⟨1, d⟩ : Shape).Idx) : x = Shape.ofLane (x 0) := by
  funext a
  obtain rfl : a = 0 := Subsingleton.elim _ _
  rfl

/-! ## The position of the `j`-th hit -/

section Pos

variable (p : Nat → Prop) [DecidablePred p]

/-- The position of the `j`-th number below 20000 with `p`: how many positions have at most `j` hits up to and including
    them. -/
@[irreducible] def posOf (j : Nat) : Nat := Nat.count (fun n => Nat.count p (n + 1) ≤ j) 20000

theorem count_lt (m k : Nat) (h : m ≤ k) : Nat.count (fun n => n < m) k = m := by
  induction k with
  | zero => simp only [Nat.count_zero]; omega
  | succ k ih =>
    rw [Nat.count_succ]
    by_cases hk : m ≤ k
    · rw [ih hk, if_neg (by omega), Nat.add_zero]
    · have hm : m = k + 1 := by omega
      have hc : Nat.count (fun n => n < m) k = k := by
        rw [Nat.count_iff_forall]
        intro n hn
        omega
      rw [hc, if_pos (by omega), hm]

theorem posOf_count {n : Nat} (hn : n < 20000) (h : p n) : posOf p (Nat.count p n) = n := by
  have : ∀ m, (Nat.count p (m + 1) ≤ Nat.count p n) ↔ m < n := fun m => by
    constructor
    · intro hm
      by_contra hc
      have h1 : Nat.count p (n + 1) ≤ Nat.count p (m + 1) := Nat.count_monotone p (by omega)
      rw [Nat.count_succ, if_pos h] at h1
      omega
    · intro hm
      exact Nat.count_monotone p (by omega)
  unfold posOf
  simp only [this]
  exact count_lt n 20000 (by omega)

/-- Below the count after `m` more positions and not below the count before them, `j` is the number of a hit among them. -/
theorem exists_hit {n : Nat} (m : Nat) {j : Nat} (h0 : Nat.count p n ≤ j) (h1 : j < Nat.count p (n + m)) :
    ∃ l, l < m ∧ p (n + l) ∧ Nat.count p (n + l) = j := by
  induction m with
  | zero => rw [Nat.add_zero] at h1; omega
  | succ m ih =>
    by_cases h : j < Nat.count p (n + m)
    · obtain ⟨l, hl, hp, hc⟩ := ih h
      exact ⟨l, by omega, hp, hc⟩
    · have hs : Nat.count p (n + (m + 1)) = Nat.count p (n + m) + if p (n + m) then 1 else 0 := Nat.count_succ p (n + m)
      by_cases hp : p (n + m)
      · rw [if_pos hp] at hs
        exact ⟨m, by omega, hp, by omega⟩
      · rw [if_neg hp] at hs
        omega

theorem posOf_lt {j : Nat} (h : j < Nat.count p 20000) : posOf p j < 20000 ∧ p (posOf p j) := by
  obtain ⟨l, hl, hp, hc⟩ := exists_hit p (n := 0) 20000 (j := j) (by simp) (by simpa using h)
  rw [Nat.zero_add] at hp hc
  rw [← hc, posOf_count p hl hp]
  exact ⟨hl, hp⟩

end Pos

/-! ## The masked scatter -/

section Scatter

variable {e : EltTy}

theorem scatter_miss {d : Fin 1 → Nat} {s : Shape} (idxs : Fin s.rank → IVec ⟨1, d⟩ 32) (v : Vec F ⟨1, d⟩ e) (mask : IVec ⟨1, d⟩ 1)
    (h : ∀ a x, (idxs a x).toNat < s.size a) (j : s.Idx) (l : List (Fin (d 0))) (g : Vec F s e)
    (hm : ∀ k ∈ l, mask (Shape.ofLane k) = 1 → ¬ ∀ a, (j a).val = (idxAt idxs h (Shape.ofLane k) a).val) :
    (l.foldl (fun g k => if mask (Shape.ofLane k) = 1 then
      (fun j => if (∀ a, (j a).val = (idxAt idxs h (Shape.ofLane k) a).val) then v (Shape.ofLane k) else g j) else g) g) j = g j := by
  induction l generalizing g with
  | nil => rfl
  | cons k l ih =>
    rw [List.foldl_cons, ih _ fun k' hk' => hm k' (List.mem_cons_of_mem _ hk')]
    by_cases hk : mask (Shape.ofLane k) = 1
    · rw [if_pos hk, if_neg (hm k List.mem_cons_self hk)]
    · rw [if_neg hk]

theorem scatter_hit {d : Fin 1 → Nat} {s : Shape} (idxs : Fin s.rank → IVec ⟨1, d⟩ 32) (v : Vec F ⟨1, d⟩ e) (mask : IVec ⟨1, d⟩ 1)
    (h : ∀ a x, (idxs a x).toNat < s.size a) (j : s.Idx) (k : Fin (d 0)) (l : List (Fin (d 0))) (g : Vec F s e) (hl : k ∈ l)
    (hk : mask (Shape.ofLane k) = 1) (hj : ∀ a, (j a).val = (idxAt idxs h (Shape.ofLane k) a).val)
    (hu : ∀ k', mask (Shape.ofLane k') = 1 → (∀ a, (j a).val = (idxAt idxs h (Shape.ofLane k') a).val) → k' = k) :
    (l.foldl (fun g k => if mask (Shape.ofLane k) = 1 then
      (fun j => if (∀ a, (j a).val = (idxAt idxs h (Shape.ofLane k) a).val) then v (Shape.ofLane k) else g j) else g) g) j
      = v (Shape.ofLane k) := by
  induction l generalizing g with
  | nil => cases hl
  | cons k' l ih =>
    rw [List.foldl_cons]
    by_cases hin : k ∈ l
    · exact ih _ hin
    · have hkk : k = k' := (List.mem_cons.1 hl).resolve_right hin
      subst hkk
      rw [scatter_miss idxs v mask h j l _ fun k' hk' hm' ha => hin (hu k' hm' ha ▸ hk'), if_pos hk, if_pos hj]

/-- A masked scatter at an index no taken lane names, -/
theorem storeIdx_miss {d : Fin 1 → Nat} {s : Shape} {f : Vec F s e} {idxs : Fin s.rank → IVec ⟨1, d⟩ 32} {v : Vec F ⟨1, d⟩ e}
    {mask : IVec ⟨1, d⟩ 1} {h : ∀ a x, (idxs a x).toNat < s.size a} {j : s.Idx}
    (hm : ∀ k, mask (Shape.ofLane k) = 1 → ¬ ∀ a, (j a).val = (idxAt idxs h (Shape.ofLane k) a).val) :
    storeIdx f idxs v mask false h j = f j := by
  unfold storeIdx
  simp only [Bool.false_eq_true, if_false]
  exact scatter_miss idxs v mask h j _ f fun k _ => hm k

/-- and at an index exactly one names. -/
theorem storeIdx_hit {d : Fin 1 → Nat} {s : Shape} {f : Vec F s e} {idxs : Fin s.rank → IVec ⟨1, d⟩ 32} {v : Vec F ⟨1, d⟩ e}
    {mask : IVec ⟨1, d⟩ 1} {h : ∀ a x, (idxs a x).toNat < s.size a} {j : s.Idx} (k : Fin (d 0))
    (hk : mask (Shape.ofLane k) = 1) (hj : ∀ a, (j a).val = (idxAt idxs h (Shape.ofLane k) a).val)
    (hu : ∀ k', mask (Shape.ofLane k') = 1 → (∀ a, (j a).val = (idxAt idxs h (Shape.ofLane k') a).val) → k' = k) :
    storeIdx f idxs v mask false h j = v (Shape.ofLane k) := by
  unfold storeIdx
  simp only [Bool.false_eq_true, if_false]
  exact scatter_hit idxs v mask h j k _ f (List.mem_finRange _) hk hj hu

end Scatter

/-! ## Sixteen lanes -/

section Lanes

theorem scan_zero (v : IVec S16 32) : scan .sum v (ln 0) = v (ln 0) := by
  show List.foldl _ _ ((List.finRange 16).filter _) = _
  have : (List.finRange 16).filter (fun k => decide (0 < k.val ∧ k.val ≤ (0 : Fin 16).val)) = [] := by decide
  exact congrArg (List.foldl _ _) this

theorem scan_succ (v : IVec S16 32) (l : Fin 15) : scan .sum v (ln l.succ) = scan .sum v (ln l.castSucc) + v (ln l.succ) := by
  have key : ∀ l : Fin 15, (List.finRange 16).filter (fun k => decide (0 < k.val ∧ k.val ≤ l.succ.val))
      = (List.finRange 16).filter (fun k => decide (0 < k.val ∧ k.val ≤ l.castSucc.val)) ++ [l.succ] := by decide
  have h := congrArg (List.foldl (fun r k => r + v (ln k)) (v (ln 0))) (key l)
  rw [List.foldl_append] at h
  exact h

variable (p : Nat → Prop) [DecidablePred p] {n : Nat} {m : IVec S16 1}

theorem ext_ap (l : Fin 16) (hm : ∀ l : Fin 16, m (ln l) = 1 ↔ p (n + l.val)) :
    (extui 32 m natLt_1_32 : IVec S16 32) (ln l) = BitVec.ofNat 32 (if p (n + l.val) then 1 else 0) := by
  show BitVec.setWidth 32 (m (ln l)) = _
  have h := hm l
  by_cases hp : p (n + l.val)
  · rw [if_pos hp, h.2 hp]; rfl
  · rw [if_neg hp]
    have h1 : m (ln l) ≠ 1 := fun h1 => hp (h.1 h1)
    have h0 : m (ln l) = 0 := by
      generalize m (ln l) = w at h1
      revert w; decide
    rw [h0]; rfl

/-- The running sum of the hits, over the hits before. -/
theorem runs_ap (hm : ∀ l : Fin 16, m (ln l) = 1 ↔ p (n + l.val)) (l : Fin 16) :
    BitVec.ofNat 32 (Nat.count p n) + runs m (ln l) = BitVec.ofNat 32 (Nat.count p (n + l.val + 1)) := by
  induction l using Fin.induction with
  | zero =>
    show _ + scan .sum _ (ln 0) = _
    rw [scan_zero, ext_ap p 0 hm, ← BitVec.ofNat_add, Nat.count_succ]
    rfl
  | succ l ih =>
    show _ + scan .sum _ (ln l.succ) = _
    have ih' : BitVec.ofNat 32 (Nat.count p n) + scan .sum (extui 32 m natLt_1_32) (ln l.castSucc) = _ := ih
    rw [scan_succ, ← BitVec.add_assoc, ih', ext_ap p l.succ hm, ← BitVec.ofNat_add, Nat.count_succ p (n + l.succ.val)]
    rfl

variable {b : IVec S16 32}

theorem slots_ap (hm : ∀ l : Fin 16, m (ln l) = 1 ↔ p (n + l.val)) (hb : ∀ l, b (ln l) = BitVec.ofNat 32 (Nat.count p n)) (l : Fin 16)
    (hp : p (n + l.val)) : slots m b (ln l) = BitVec.ofNat 32 (Nat.count p (n + l.val)) := by
  show b (ln l) + runs m (ln l) - 1#32 = _
  rw [hb, runs_ap p hm, Nat.count_succ p, if_pos hp, BitVec.ofNat_add]
  exact BitVec.add_sub_cancel _ _

theorem placed_ap (hm : ∀ l : Fin 16, m (ln l) = 1 ↔ p (n + l.val)) (hb : ∀ l, b (ln l) = BitVec.ofNat 32 (Nat.count p n)) (l : Fin 16) :
    placed m b (ln l) = BitVec.ofNat 32 (Nat.count p (n + 16)) := by
  have h := runs_ap p hm 15
  rw [show n + (15 : Fin 16).val + 1 = n + 16 from rfl] at h
  have e : extractAt ![15] (runs m) inpos_S16_p15 = runs m (ln 15) := by
    refine congrArg (runs m) (funext fun a => ?_)
    obtain rfl : a = 0 := Subsingleton.elim _ _
    rfl
  unfold placed
  rw [e]
  generalize hc : Nat.count p (n + 16) = c at h ⊢
  have key : ∀ w : BitVec 32, addi b (broadcast S16 w) (ln l) = b (ln l) + w := fun _ => rfl
  rw [key, hb]
  exact h

theorem takes_ap (hn : n + 16 ≤ 20000) (hm : ∀ l : Fin 16, m (ln l) = 1 ↔ p (n + l.val))
    (hb : ∀ l, b (ln l) = BitVec.ofNat 32 (Nat.count p n)) (l : Fin 16) :
    takes m b (ln l) = 1 ↔ p (n + l.val) ∧ Nat.count p (n + l.val) < 256 := by
  have key : takes m b (ln l) = m (ln l) &&& BitVec.ofBool ((slots m b (ln l)).slt 256#32) := rfl
  have hcnt : Nat.count p (n + l.val) ≤ n + l.val := Nat.count_le p
  have hl := l.isLt
  by_cases hp : p (n + l.val)
  · rw [key, (hm l).2 hp, slots_ap p hm hb l hp]
    have hslt : (BitVec.ofNat 32 (Nat.count p (n + l.val))).slt 256#32 = decide (Nat.count p (n + l.val) < 256) := by
      rw [BitVec.slt_eq_decide]
      have h1 : (BitVec.ofNat 32 (Nat.count p (n + l.val))).toInt = Nat.count p (n + l.val) := by
        rw [BitVec.toInt_eq_toNat_of_lt (by rw [BitVec.toNat_ofNat]; omega), BitVec.toNat_ofNat]
        omega
      have h2 : (256#32 : BitVec 32).toInt = 256 := by decide
      rw [h1, h2]
      simp only [decide_eq_decide]
      omega
    rw [hslt]
    by_cases hc : Nat.count p (n + l.val) < 256
    · simp [hc, hp]
    · simp [hc]
  · have h1 : m (ln l) ≠ 1 := fun h1 => hp ((hm l).1 h1)
    have h0 : m (ln l) = 0 := by
      generalize m (ln l) = w at h1
      revert w; decide
    rw [key, h0]
    simp [hp]

theorem places_ap (hn : n + 16 ≤ 20000) (hm : ∀ l : Fin 16, m (ln l) = 1 ↔ p (n + l.val))
    (hb : ∀ l, b (ln l) = BitVec.ofNat 32 (Nat.count p n)) (l : Fin 16) :
    (places m b (ln l)).toNat = if p (n + l.val) ∧ Nat.count p (n + l.val) < 256 then Nat.count p (n + l.val) else 0 := by
  have key : places m b (ln l) = if takes m b (ln l) = 1 then slots m b (ln l) else 0#32 := rfl
  rw [key]
  by_cases h : p (n + l.val) ∧ Nat.count p (n + l.val) < 256
  · rw [if_pos ((takes_ap p hn hm hb l).2 h), if_pos h, slots_ap p hm hb l h.1, BitVec.toNat_ofNat]
    omega
  · rw [if_neg fun h' => h ((takes_ap p hn hm hb l).1 h'), if_neg h]
    rfl

/-- The sixteen lanes' check holds. -/
theorem places_ok (hn : n + 16 ≤ 20000) (hm : ∀ l : Fin 16, m (ln l) = 1 ↔ p (n + l.val))
    (hb : ∀ l, b (ln l) = BitVec.ofNat 32 (Nat.count p n)) : k0_chk1 (places m b) := by
  have h : ∀ (a : Fin 1) (x : S16.Idx), ((![places m b] : Fin 1 → IVec S16 32) a x).toNat < S256.size a := fun a x => by
    obtain rfl : a = 0 := Subsingleton.elim _ _
    obtain ⟨l, rfl⟩ : ∃ l, x = ln l := ⟨x 0, eq_ofLane x⟩
    show (places m b (ln l)).toNat < 256
    rw [places_ap p hn hm hb]
    split <;> omega
  exact ⟨h, h⟩

/-- What 256 slots hold once the first `n` positions are placed: slot `j`, the value at the position of the `j`-th hit,
    or `z` where there are not so many. -/
def held {α : Type} (V : Nat → α) (z : α) (n : Nat) (j : Nat) : α := if j < Nat.count p n then V (posOf p j) else z

/-- Sixteen more positions scattered into the slots. -/
theorem scatter_ap {e : EltTy} (hn : n + 16 ≤ 20000) (hm : ∀ l : Fin 16, m (ln l) = 1 ↔ p (n + l.val))
    (hb : ∀ l, b (ln l) = BitVec.ofNat 32 (Nat.count p n)) {V : Nat → Elt F e} {z : Elt F e} {f : Vec F S256 e} {v : Vec F S16 e}
    (hf : ∀ j, f (sl j) = held p V z n j.val) (hv : ∀ l, v (ln l) = V (n + l.val)) (h) (j : Fin 256) :
    storeIdx f ![places m b] v (takes m b) false h (sl j) = held p V z (n + 16) j.val := by
  have hj := j.isLt
  have hmiss : ∀ k : Fin 16, takes m b (ln k) = 1 → (∀ a, (sl j a).val = (idxAt ![places m b] h (ln k) a).val) →
      p (n + k.val) ∧ Nat.count p (n + k.val) = j.val := fun k hk ha => by
    have hk' := (takes_ap p hn hm hb k).1 hk
    have h0 : j.val = (places m b (ln k)).toNat := ha 0
    rw [places_ap p hn hm hb, if_pos hk'] at h0
    exact ⟨hk'.1, h0.symm⟩
  have hmono : Nat.count p n ≤ Nat.count p (n + 16) := Nat.count_monotone p (by omega)
  have hlow : ∀ k : Nat, Nat.count p n ≤ Nat.count p (n + k) := fun k => Nat.count_monotone p (by omega)
  unfold held
  by_cases h0 : j.val < Nat.count p n
  · rw [if_pos (by omega)]
    refine (storeIdx_miss fun k hk ha => ?_).trans ((hf j).trans (if_pos h0))
    have := (hmiss k hk ha).2
    have := hlow k.val
    omega
  · by_cases h1 : j.val < Nat.count p (n + 16)
    · rw [if_pos h1]
      obtain ⟨l, hl, hp, hc⟩ := exists_hit p 16 (not_lt.1 h0) h1
      rw [← hc, posOf_count p (by omega) hp]
      refine (storeIdx_hit (d := ![16]) ⟨l, hl⟩ ?_ ?_ ?_).trans (hv ⟨l, hl⟩)
      · exact (takes_ap p hn hm hb ⟨l, hl⟩).2 ⟨hp, lt_of_eq_of_lt hc hj⟩
      · intro a
        obtain rfl : a = 0 := Subsingleton.elim _ _
        show j.val = (places m b (ln ⟨l, hl⟩)).toNat
        rw [places_ap p hn hm hb, if_pos ⟨hp, lt_of_eq_of_lt hc hj⟩]
        exact hc.symm
      · intro k hk ha
        obtain ⟨hpk, hck⟩ := hmiss k hk ha
        exact Fin.ext (Nat.add_left_cancel (Nat.count_injective hpk hp (hck.trans hc.symm)))
    · rw [if_neg h1]
      refine (storeIdx_miss fun k hk ha => ?_).trans ((hf j).trans (if_neg h0))
      obtain ⟨hpk, hck⟩ := hmiss k hk ha
      have hs := Nat.count_monotone p (show n + k.val + 1 ≤ n + 16 by have : k.val < 16 := k.isLt; omega)
      rw [Nat.count_succ, if_pos hpk] at hs
      omega

end Lanes

end Cert.Proof.Sel
end
-- ==== Proof.Place.lean ====
/-
  What a row's scan has placed after its first `n` scores, and that sixteen more scores carry it on. The scores above
  their lane's threshold are the hits; slot `j` holds the `j`-th hit's score and its position.
-/
module

public import proofs.«01_k».proof.Proof.Counts

@[expose] public section

noncomputable section

namespace Cert.Proof.Sel

open Cert.KernelIdeal Cert.KernelIdeal.Gen
open Idealize.ShloMosaic

variable {F : FTy → Type} [FloatOps F]

section Value

variable (x : Vec F S20000 .f32) (thr : Vec F S16 .f32)

/-- The score at position `n` of a row. -/
def scoreAt (n : Nat) : Elt F .f32 := x (ps ⟨n % 20000, Nat.mod_lt _ (by decide)⟩)

/-- Position `n`'s score exceeds its lane's threshold. -/
def IsHit (n : Nat) : Prop := FloatOps.cmpf .ogt (scoreAt x n) (thr (ln ⟨n % 16, Nat.mod_lt _ (by decide)⟩)) = (1 : BitVec 1)

instance : DecidablePred (IsHit x thr) := fun n => by unfold IsHit; infer_instance

/-- What an empty slot holds for a score. -/
def noScore : Elt F .f32 := (Scalar.ofBits .f32 0xBF800000#32 : F .f32)

/-- The score in slot `j` once the first `n` are scanned, -/
def scoreSlot (n j : Nat) : Elt F .f32 := held (IsHit x thr) (scoreAt x) noScore n j

/-- and the position. -/
def posSlot (n j : Nat) : Nat := held (IsHit x thr) id 0 n j

theorem held_pos {α : Type} {p : Nat → Prop} [DecidablePred p] {V : Nat → α} {z : α} {n j : Nat} (h : j < Nat.count p n) :
    held p V z n j = V (posOf p j) := if_pos h

theorem held_neg {α : Type} {p : Nat → Prop} [DecidablePred p] {V : Nat → α} {z : α} {n j : Nat} (h : ¬ j < Nat.count p n) :
    held p V z n j = z := if_neg h

theorem posSlot_lt (j : Nat) : posSlot x thr 20000 j < 20000 := by
  generalize hN : 20000 = N
  by_cases h : j < Nat.count (IsHit x thr) N
  · have e : posSlot x thr N j = posOf (IsHit x thr) j := held_pos h
    rw [e, ← hN]
    exact (posOf_lt _ (hN ▸ h)).1
  · exact lt_of_eq_of_lt (held_neg h) (hN ▸ Nat.zero_lt_succ _)

theorem held_word {p : Nat → Prop} [DecidablePred p] (n j : Nat) :
    held p (fun k => BitVec.ofNat 32 k) 0#32 n j = BitVec.ofNat 32 (held p id 0 n j) := by
  by_cases h : j < Nat.count p n
  · have e : held p id 0 n j = posOf p j := held_pos h
    rw [e]
    exact held_pos h
  · have e : held p id 0 n j = 0 := held_neg h
    rw [e]
    exact held_neg h

/-- The scan's state after the first `n` scores: the count in every lane, the scores' slots, the positions' slots. -/
structure Placed (n : Nat) (b : IVec S16 32) (c : Vec F S256 .f32) (q : Vec F S256 .i32) : Prop where
  cnt : ∀ l, b (ln l) = BitVec.ofNat 32 (Nat.count (IsHit x thr) n)
  score : ∀ j : Fin 256, c (sl j) = scoreSlot x thr n j.val
  pos : ∀ j : Fin 256, q (sl j) = BitVec.ofNat 32 (posSlot x thr n j.val)

theorem lanes_ap (l : Fin 16) : lanes (ln l) = BitVec.ofNat 32 l.val := by
  revert l; decide +kernel

variable {x thr}

theorem hits_iff {n : Nat} (h16 : n % 16 = 0) {v : Vec F S16 .f32} (hv : ∀ l : Fin 16, v (ln l) = scoreAt x (n + l.val)) (l : Fin 16) :
    hits thr v (ln l) = 1 ↔ IsHit x thr (n + l.val) := by
  have e : (⟨(n + l.val) % 16, Nat.mod_lt _ (by decide)⟩ : Fin 16) = l := Fin.ext (by have := l.isLt; show (n + l.val) % 16 = l.val; omega)
  have hh : hits thr v (ln l) = FloatOps.cmpf .ogt (v (ln l)) (thr (ln l)) := rfl
  rw [hh, hv]
  unfold IsHit
  rw [e]

/-- Sixteen more scores: the check on the slots holds, -/
theorem Placed.ok {n : Nat} {b : IVec S16 32} {c : Vec F S256 .f32} {q : Vec F S256 .i32} (h : Placed x thr n b c q) (h16 : n % 16 = 0)
    (hn : n + 16 ≤ 20000) {v : Vec F S16 .f32} (hv : ∀ l : Fin 16, v (ln l) = scoreAt x (n + l.val)) : k0_chk1 (places (hits thr v) b) :=
  places_ok _ hn (hits_iff h16 hv) h.cnt

/-- and the state goes on. -/
theorem Placed.next {n : Nat} {b : IVec S16 32} {c : Vec F S256 .f32} {q : Vec F S256 .i32} (h : Placed x thr n b c q) (h16 : n % 16 = 0)
    (hn : n + 16 ≤ 20000) {v : Vec F S16 .f32} (hv : ∀ l : Fin 16, v (ln l) = scoreAt x (n + l.val)) {pos : BitVec 32} (hp : pos.toNat = n) (hw hw') :
    Placed x thr (n + 16) (placed (hits thr v) b) (storeIdx c ![places (hits thr v) b] v (takes (hits thr v) b) false hw)
      (storeIdx q ![places (hits thr v) b] (addi lanes (broadcast S16 pos)) (takes (hits thr v) b) false hw') where
  cnt := placed_ap _ (hits_iff h16 hv) h.cnt
  score := scatter_ap _ hn (hits_iff h16 hv) h.cnt h.score hv hw
  pos := fun j => by
    have hq : ∀ j : Fin 256, q (sl j) = held (IsHit x thr) (fun k => (BitVec.ofNat 32 k : Elt F .i32)) (0#32 : BitVec 32) n j.val :=
      fun j => (h.pos j).trans (held_word n j.val).symm
    refine (scatter_ap _ hn (hits_iff h16 hv) h.cnt hq ?_ hw' j).trans (held_word (n + 16) j.val)
    intro l
    have key : addi lanes (broadcast S16 pos) (ln l) = lanes (ln l) + pos := rfl
    rw [key, lanes_ap, BitVec.add_comm, ← hp]
    apply BitVec.eq_of_toNat_eq
    simp [BitVec.toNat_add, BitVec.toNat_ofNat]

/-- Nothing is placed at first. -/
theorem Placed.zero {c : Vec F S256 .f32} {q : Vec F S256 .i32} (hc : ∀ j : Fin 256, c (sl j) = noScore) (hq : ∀ j : Fin 256, q (sl j) = 0#32) :
    Placed x thr 0 (broadcast S16 0#32) c q where
  cnt := fun l => by rw [Nat.count_zero]; rfl
  score := fun j => by
    rw [hc]; unfold scoreSlot held
    rw [Nat.count_zero, if_neg (Nat.not_lt_zero _)]
  pos := fun j => by
    rw [hq]; unfold posSlot held
    rw [Nat.count_zero, if_neg (Nat.not_lt_zero _)]

end Value

end Cert.Proof.Sel
end
-- ==== Proof.Slots.lean ====
/-
  One row's 256 slots as a window of a (1280) scratch: what a load, a store, a masked scatter and a gather of sixteen lanes
  do to it, each as a rule at the head of a program. A rule says of the buffer's new contents only what the window reads.
-/
module

public import proofs.«01_k».proof.Proof.Place
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resources -/

abbrev UH : Type := URounds (GSem nD τ sig) ℕ
abbrev UU : Type := UH × Counters

local notation "𝕄" => MT nD τ sig (HIx 1) (Elt F) ℕ UU ℕ

abbrev 𝒱₀ : Variants := Variants.none

abbrev cV (i : grid0.Coords) : Fin τ.nSC := (i 0).castLE hcore0
abbrev jV (i : grid0.Coords) : Fin τ.nSub := (i 1).castLE hsub0

/-- The thread of task `i`. -/
abbrev vec (d : Dev nD) (i : grid0.Coords) : Thread nD τ := V d (cV i) (jV i)

/-! ## The window -/

section Window

variable {e : EltTy} (m : Memref sig .scVector .vmem S1280 e) (rr : Fin 5)

/-- What the row's window reads. -/
abbrev rd (f : m.view.ty.Contents (Elt F)) : Vec F S256 e := (rowOf m rr).view.read (Elt F) f

/-- Sixteen of the row's slots. -/
abbrev six (t : Fin k0_t1_loop.trips) : Rect S1280 := Rect.unit (s := S1280) (offRow rr t) S16.size (offRow_inb rr t)

theorem six_lt (t : Fin k0_t1_loop.trips) (l : Fin 16) : 16 * t.val + l.val < 256 := by
  have ht : t.val < 16 := trips16 ▸ t.isLt
  have := l.isLt
  omega

theorem emb_six (t : Fin k0_t1_loop.trips) (l : Fin 16) :
    (m.access (six rr t)).emb (ln l) = (rowOf m rr).view.emb (sl ⟨16 * t.val + l.val, six_lt t l⟩) := by
  show m.view.emb ((six rr t).emb (ln l)) = m.view.emb ((Rect.unit (s := S1280) ![256 * rr.val] S256.size (row_inb rr)).emb _)
  refine congrArg m.view.emb (funext fun a => Fin.ext ?_)
  rw [Rect.emb_apply, Rect.emb_apply]
  obtain rfl : a = 0 := Subsingleton.elim _ _
  show offRow rr t 0 + 1 * l.val = 256 * rr.val + 1 * (16 * t.val + l.val)
  rw [offRow_eq]
  show 256 * rr.val + 16 * t.val + 1 * l.val = 256 * rr.val + 1 * (16 * t.val + l.val)
  omega

theorem set_six (t : Fin k0_t1_loop.trips) : (m.access (six rr t)).set ⊆ (rowOf m rr).view.set := by
  intro y hy
  obtain ⟨x, -, rfl⟩ := Finset.mem_map.1 hy
  obtain ⟨l, rfl⟩ : ∃ l, x = ln l := ⟨x 0, eq_ofLane x⟩
  rw [emb_six]
  exact View.emb_mem_set _ _

/-- A load of sixteen slots reads what the window reads there. -/
theorem read_six (t : Fin k0_t1_loop.trips) (l : Fin 16) (f : m.view.ty.Contents (Elt F)) :
    (m.access (six rr t)).read (Elt F) f (ln l) = rd m rr f (sl ⟨16 * t.val + l.val, six_lt t l⟩) := by
  show _root_.cast _ (f ((m.access (six rr t)).emb (ln l))) = _root_.cast _ (f ((rowOf m rr).view.emb _))
  rw [emb_six]

/-- A store of sixteen slots rewrites those -/
theorem write_six (t : Fin k0_t1_loop.trips) (f : m.view.ty.Contents (Elt F)) (w : Vec F S16 e) (j : Fin 256) :
    rd m rr ((m.access (six rr t)).write (Elt F) f w Finset.univ) (sl j)
      = if h : 16 * t.val ≤ j.val ∧ j.val < 16 * t.val + 16 then w (ln ⟨j.val - 16 * t.val, by omega⟩) else rd m rr f (sl j) := by
  by_cases h : 16 * t.val ≤ j.val ∧ j.val < 16 * t.val + 16
  · rw [dif_pos h]
    have hj : j = ⟨16 * t.val + (⟨j.val - 16 * t.val, by omega⟩ : Fin 16).val, six_lt t _⟩ := by
      apply Fin.ext
      show j.val = 16 * t.val + (j.val - 16 * t.val)
      omega
    conv_lhs => rw [hj, ← read_six]
    exact View.read_write_of_mem _ _ (Finset.mem_univ _)
  · rw [dif_neg h]
    have hn : (rowOf m rr).view.emb (sl j) ∉ (m.access (six rr t)).setOn Finset.univ := by
      intro hy
      obtain ⟨x, -, hx⟩ := Finset.mem_map.1 hy
      obtain ⟨l, rfl⟩ : ∃ l, x = ln l := ⟨x 0, eq_ofLane x⟩
      rw [emb_six] at hx
      have := (rowOf m rr).view.emb.injective hx
      have hj : 16 * t.val + l.val = j.val := congrArg (fun z : S256.Idx => (z 0).val) this
      have hl : l.val < 16 := l.isLt
      omega
    show _root_.cast _ ((m.access (six rr t)).write (Elt F) f w Finset.univ _) = _root_.cast _ (f _)
    rw [View.write_of_not_mem _ _ _ hn]

end Window

/-! ## A whole scratch read by the sixteen -/

section Whole

variable {e : EltTy} {N : Nat} (m : Memref sig .scVector .vmem ⟨1, ![N]⟩ e)

theorem set_whole : (m.access (.whole ⟨1, ![N]⟩)).set = m.view.set := by
  rw [View.set_slice, Rect.set_whole]; rfl

theorem read_whole (f : m.view.ty.Contents (Elt F)) : (m.access (.whole ⟨1, ![N]⟩)).read (Elt F) f = m.view.read (Elt F) f := by
  funext x
  show _root_.cast _ (f (m.view.emb ((Rect.whole ⟨1, ![N]⟩).emb x))) = _root_.cast _ (f (m.view.emb x))
  rw [Rect.emb_whole_apply]

theorem write_whole (f : m.view.ty.Contents (Elt F)) (w : Vec F ⟨1, ![N]⟩ e) :
    m.view.read (Elt F) ((m.access (.whole ⟨1, ![N]⟩)).write (Elt F) f w Finset.univ) = w := by
  rw [← read_whole]
  exact View.read_write_univ _ _

theorem read_unit {off : Fin 1 → Nat} {o : Nat} (ho : off = ![o]) (h : ∀ a, off a + S16.size a ≤ (⟨1, ![N]⟩ : Shape).size a) (f : m.view.ty.Contents (Elt F))
    (l : Fin 16) : (m.access (Rect.unit (s := ⟨1, ![N]⟩) off S16.size h)).read (Elt F) f (ln l)
      = m.view.read (Elt F) f (Shape.ofLane (d := ![N]) ⟨o + l.val, by
          have h0 := h 0
          have hl := l.isLt
          have e1 : off 0 + 16 ≤ N := h0
          rw [ho] at e1
          have e2 : o + 16 ≤ N := e1
          show o + l.val < N
          omega⟩) := by
  subst ho
  show _root_.cast _ (f (m.view.emb _)) = _root_.cast _ (f (m.view.emb _))
  congr 3
  funext a
  obtain rfl : a = 0 := Subsingleton.elim _ _
  apply Fin.ext
  rw [Rect.emb_apply]
  show o + 1 * l.val = o + l.val
  omega

end Whole

/-! ## The rules -/

section Rules

variable [FloatOps F] (d : Dev nD) (i : grid0.Coords) {α : Type} {Q : α → sProp (MT nD τ sig (HIx 1) (Elt F) ℕ UU ℕ)}

/-- Loading sixteen slots. -/
theorem wp_slotLoad {e : EltTy} {m : Memref sig .scVector .vmem S1280 e} {rr : Fin 5} {t : Fin k0_t1_loop.trips} {hl}
    {k : Vec F S16 e → Prog (Eff F i) α} {f : Buf (Elt F) ((rowOf m rr).view.loc (vec d i))} :
    ((rowOf m rr).view.loc (vec d i) ↦[(rowOf m rr).view.set]{fullShare} f)
      ⊢ iprop((∀ x : Vec F S16 e, ⌜∀ l : Fin 16, x (ln l) = rd m rr f (sl ⟨16 * t.val + l.val, six_lt t l⟩)⌝ -∗
            ((rowOf m rr).view.loc (vec d i) ↦[(rowOf m rr).view.set]{fullShare} f) -∗ wp frame (wpE defs₀ 𝒱₀ (vec d i) none) Set.univ (k x) Q)
        -∗ wp frame (wpE defs₀ 𝒱₀ (vec d i) none) Set.univ (.op (.load m (six rr t).toLoadRect hl) k) Q) := by
  iintro H Hk
  iapply (wp_load_rect (defs := defs₀) 𝒱₀ (vec d i) none Set.univ (Q := Q) (m := m) (r := six rr t) (hl := hl) (k := k) (q := fullShare) (f := f) (set_six m rr t)) $$ H
  iintro H
  iapply Hk $$ [] H
  ipureintro
  exact fun l => read_six m rr t l f

/-- Storing sixteen slots. -/
theorem wp_slotStore {e : EltTy} {m : Memref sig .scVector .vmem S1280 e} {rr : Fin 5} {t : Fin k0_t1_loop.trips} {w : Vec F S16 e} {hx} {hm}
    {k : PUnit → Prog (Eff F i) α} {f : Buf (Elt F) ((rowOf m rr).view.loc (vec d i))} :
    ((rowOf m rr).view.loc (vec d i) ↦[(rowOf m rr).view.set]{fullShare} f)
      ⊢ iprop((∀ f' : Buf (Elt F) ((rowOf m rr).view.loc (vec d i)),
            ⌜∀ j : Fin 256, rd m rr f' (sl j) = if h : 16 * t.val ≤ j.val ∧ j.val < 16 * t.val + 16 then w (ln ⟨j.val - 16 * t.val, by omega⟩) else rd m rr f (sl j)⌝ -∗
            ((rowOf m rr).view.loc (vec d i) ↦[(rowOf m rr).view.set]{fullShare} f') -∗ wp frame (wpE defs₀ 𝒱₀ (vec d i) none) Set.univ (k ⟨⟩) Q)
        -∗ wp frame (wpE defs₀ 𝒱₀ (vec d i) none) Set.univ (.op (.store m (six rr t) w Finset.univ hx hm) k) Q) := by
  iintro H Hk
  iapply (wp_store (defs := defs₀) 𝒱₀ (vec d i) none Set.univ (Q := Q) (m := m) (r := six rr t) (w := w) (Mk := Finset.univ) (hx := hx) (hm := hm) (k := k) (f := f)
    (by rw [View.setOn_univ]; exact set_six m rr t)) $$ H
  iintro H
  iapply Hk $$ [] H
  ipureintro
  exact fun j => write_six m rr t f w j

/-- Scattering into the row's slots. -/
theorem wp_slotScatter {e : EltTy} {m : Memref sig .scVector .vmem S1280 e} {rr : Fin 5} {idxs : Fin 1 → IVec S16 32} {v : Vec F S16 e}
    {mask : IVec S16 1} {h} {hs} {k : PUnit → Prog (Eff F i) α} {f : Buf (Elt F) ((rowOf m rr).view.loc (vec d i))} :
    ((rowOf m rr).view.loc (vec d i) ↦[(rowOf m rr).view.set]{fullShare} f)
      ⊢ iprop((∀ f' : Buf (Elt F) ((rowOf m rr).view.loc (vec d i)),
            ⌜rd m rr f' = storeIdx (rd m rr f) idxs v mask false h⌝ -∗
            ((rowOf m rr).view.loc (vec d i) ↦[(rowOf m rr).view.set]{fullShare} f') -∗ wp frame (wpE defs₀ 𝒱₀ (vec d i) none) Set.univ (k ⟨⟩) Q)
        -∗ wp frame (wpE defs₀ 𝒱₀ (vec d i) none) Set.univ (SparseCore.vectorStoreIdx (rowOf m rr) idxs v mask false h hs >>= k) Q) := by
  have hset := set_whole (rowOf m rr)
  iintro H Hk
  rw [← hset]
  iapply (SparseCore.wp_vectorStoreIdx (defs := defs₀) 𝒱₀ (vec d i) none Set.univ (Q := Q) (base := rowOf m rr) (idxs := idxs) (v := v) (mask := mask)
    (add := false) (h := h) (hs := hs) (k := k) (f := f)) $$ H
  iintro H
  iapply Hk $$ [] H
  ipureintro
  rw [read_whole (rowOf m rr)]
  exact write_whole (rowOf m rr) f _

end Rules

end Cert.Proof.Sel
end
-- ==== Proof.Row.lean ====
/-
  One row: clearing its slots, scanning its 20000 scores and collecting its boxes, as one rule at the head of a program.
-/
module

public import proofs.«01_k».proof.Proof.Slots

@[expose] public section

noncomputable section

namespace Cert.Proof.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-- A scratch held whole or in part, at share `q`. -/
abbrev heldOn {s : Shape} {e : EltTy} (m : Memref sig .scVector .vmem s e) (A : Finset m.view.ty.Idx) (q : PosShare TreeShare)
    (f : Buf (Elt F) (m.view.loc (vec d i))) : sProp 𝕄 := m.view.loc (vec d i) ↦[A]{q} f

/-- Row `rr`'s slots of a (1280) scratch, held outright. -/
abbrev slotsPt {e : EltTy} (m : Memref sig .scVector .vmem S1280 e) (rr : Fin 5) (f : Buf (Elt F) ((rowOf m rr).view.loc (vec d i))) :
    sProp 𝕄 := (rowOf m rr).view.loc (vec d i) ↦[(rowOf m rr).view.set]{fullShare} f

section Sub

variable {d i} {rr : Fin 5} {row : Memref sig .scVector .vmem S20000 .f32} {cands : Memref sig .scVector .vmem S1280 .f32}
  {candi : Memref sig .scVector .vmem S1280 .i32} {α : Type} {Q : α → sProp (MT nD τ sig (HIx 1) (Elt F) ℕ UU ℕ)}

/-- Sixteen scores scanned. -/
theorem wp_sub {thr : Vec F S16 .f32} {off : Fin 1 → Nat} {hoff} {pos : BitVec 32} {b : IVec S16 32}
    {k : IVec S16 32 → Prog (Eff F i) α} {A : Finset row.view.ty.Idx} (hA : row.view.set ⊆ A) {q : PosShare TreeShare}
    {fr : Buf (Elt F) (row.view.loc (vec d i))} {fc : Buf (Elt F) ((rowOf cands rr).view.loc (vec d i))}
    {fi : Buf (Elt F) ((rowOf candi rr).view.loc (vec d i))} {x : Vec F S20000 .f32} (hx : row.view.read (Elt F) fr = x) {n : Nat}
    (ho : off = ![n]) (hp : pos.toNat = n) (h16 : n % 16 = 0) (hn : n + 16 ≤ 20000) (h : Placed x thr n b (rd cands rr fc) (rd candi rr fi)) :
    iprop(heldOn d i row A q fr ∗ slotsPt d i cands rr fc ∗ slotsPt d i candi rr fi)
      ⊢ iprop((∀ (b' : IVec S16 32) (fc' : Buf (Elt F) ((rowOf cands rr).view.loc (vec d i))) (fi' : Buf (Elt F) ((rowOf candi rr).view.loc (vec d i))),
            ⌜Placed x thr (n + 16) b' (rd cands rr fc') (rd candi rr fi')⌝ -∗
            (heldOn d i row A q fr ∗ slotsPt d i cands rr fc' ∗ slotsPt d i candi rr fi') -∗ wp frame (wpE defs₀ 𝒱₀ (vec d i) none) Set.univ (k b') Q)
        -∗ wp frame (wpE defs₀ 𝒱₀ (vec d i) none) Set.univ (subG i rr row cands candi thr off hoff pos b >>= k) Q) := by
  unfold subG
  simp only [Prog.lift, Prog.bind_op, Prog.bind_ret, Prog.pure_eq_ret, Prog.bind_assoc]
  iintro ⟨Hr, Hc, Hi⟩ Hk
  have hset : (row.access (Rect.unit (s := S20000) off S16.size hoff)).set ⊆ A := (View.set_slice_subset _ _).trans hA
  iapply (wp_load_rect (defs := defs₀) 𝒱₀ (vec d i) none Set.univ (Q := Q) (m := row) (r := Rect.unit (s := S20000) off S16.size hoff) (q := q) (f := fr) hset) $$ Hr
  iintro Hr
  generalize hv : (row.access (Rect.unit (s := S20000) off S16.size hoff)).read (Elt F) fr = v
  have hv' : ∀ l : Fin 16, v (ln l) = scoreAt x (n + l.val) := fun l => by
    rw [← hv, read_unit row ho hoff fr l, hx]
    unfold scoreAt
    refine congrArg x (congrArg ps (Fin.ext ?_))
    have := l.isLt
    show n + l.val = (n + l.val) % 20000
    omega
  rw [wp_assume_of (defs := defs₀) 𝒱₀ (vec d i) none Set.univ (h.ok h16 hn hv')]
  iapply (wp_slotScatter d i) $$ Hc
  iintro %fc' %hc Hc
  iapply (wp_slotScatter d i) $$ Hi
  iintro %fi' %hi Hi
  iapply Hk $$ %_ %fc' %fi' [] [Hr Hc Hi]
  · ipureintro
    rw [hc, hi]
    exact h.next h16 hn hv' hp _ _
  · isplitl [Hr]
    · iexact Hr
    isplitl [Hc] <;> iassumption

/-- Sixty-four scores scanned. -/
theorem wp_chunk {thr : Vec F S16 .f32} {b : IVec S16 32} {A : Finset row.view.ty.Idx} (hA : row.view.set ⊆ A) {q : PosShare TreeShare}
    {fr : Buf (Elt F) (row.view.loc (vec d i))} {x : Vec F S20000 .f32} (hx : row.view.read (Elt F) fr = x) (k : Fin k0_t2_loop.trips) :
    iprop(∃ fc fi, ⌜Placed x thr (64 * k.val) b (rd cands rr fc) (rd candi rr fi)⌝ ∗ heldOn d i row A q fr ∗ slotsPt d i cands rr fc ∗ slotsPt d i candi rr fi)
      ⊢ wp frame (wpE defs₀ 𝒱₀ (vec d i) none) Set.univ (chunkG i rr row cands candi thr k b) fun b' =>
          iprop(∃ fc fi, ⌜Placed x thr (64 * (k.val + 1)) b' (rd cands rr fc) (rd candi rr fi)⌝ ∗ heldOn d i row A q fr ∗ slotsPt d i cands rr fc ∗ slotsPt d i candi rr fi) := by
  have hk : k.val < 312 := trips312 ▸ k.isLt
  unfold chunkG
  iintro ⟨%fc, %fi, %h, H⟩
  iapply (wp_sub hA hx (k0_off7_eq k) (posChunk_toNat k 0 (by decide)) (by omega) (by omega) h) $$ H
  iintro %b1 %fc1 %fi1 %h1 H
  iapply (wp_sub hA hx (k0_off8_eq k) (posChunk_toNat k 16 (by decide)) (by omega) (by omega) h1) $$ H
  iintro %b2 %fc2 %fi2 %h2 H
  iapply (wp_sub hA hx (k0_off9_eq k) (posChunk_toNat k 32 (by decide)) (by omega) (by omega) h2) $$ H
  iintro %b3 %fc3 %fi3 %h3 H
  rw [← bind_pure (subG i rr row cands candi thr (k0_off10 k) (k0_off10_inb k) (posChunk k 48#32) b3)]
  iapply (wp_sub hA hx (k0_off10_eq k) (posChunk_toNat k 48 (by decide)) (by omega) (by omega) h3) $$ H
  iintro %b4 %fc4 %fi4 %h4 H
  rw [wp_pure]
  imodintro
  iexists fc4, fi4
  isplitr
  · ipureintro; exact h4
  · iexact H

/-- The row's first `16 t` slots are clear. -/
def Clear (t : Nat) (c : Vec F S256 .f32) (q : Vec F S256 .i32) : Prop :=
  ∀ j : Fin 256, j.val < 16 * t → c (sl j) = noScore ∧ q (sl j) = 0#32

/-- Sixteen slots cleared. -/
theorem wp_init (t : Fin k0_t1_loop.trips) (b : BitVec 32) :
    iprop(∃ fc fi, ⌜Clear t.val (rd cands rr fc) (rd candi rr fi)⌝ ∗ slotsPt d i cands rr fc ∗ slotsPt d i candi rr fi)
      ⊢ wp frame (wpE defs₀ 𝒱₀ (vec d i) none) Set.univ (initG (F := F) i rr cands candi t b) fun _ =>
          iprop(∃ fc fi, ⌜Clear (t.val + 1) (rd cands rr fc) (rd candi rr fi)⌝ ∗ slotsPt d i cands rr fc ∗ slotsPt d i candi rr fi) := by
  unfold initG
  simp only [Prog.lift, Prog.bind_op, Prog.bind_ret, Prog.pure_eq_ret, Prog.bind_assoc]
  iintro ⟨%fc, %fi, %h, Hc, Hi⟩
  iapply (wp_slotLoad d i) $$ Hc
  iintro %x %hx Hc
  iapply (wp_slotStore d i) $$ Hc
  iintro %fc' %hc Hc
  iapply (wp_slotLoad d i) $$ Hi
  iintro %y %hy Hi
  iapply (wp_slotStore d i) $$ Hi
  iintro %fi' %hi Hi
  rw [wp_ret]
  imodintro
  iexists fc', fi'
  isplitr
  · ipureintro
    intro j hj
    rw [hc, hi]
    by_cases hh : 16 * t.val ≤ j.val ∧ j.val < 16 * t.val + 16
    · rw [dif_pos hh, dif_pos hh]
      exact ⟨rfl, rfl⟩
    · rw [dif_neg hh, dif_neg hh]
      exact h j (by omega)
  · isplitl [Hc] <;> iassumption

variable {sv ev : Memref sig .scVector .vmem S20000 .f32} {csb ceb : Memref sig .scVector .vmem S1280 .f32}

/-- The first `16 t` slots hold what `s` has at the slots' positions. -/
def Got (s : Vec F S20000 .f32) (P : Nat → Nat) (t : Nat) (c : Vec F S256 .f32) : Prop :=
  ∀ j : Fin 256, j.val < 16 * t → c (sl j) = scoreAt s (P j.val)

theorem got_next {s : Vec F S20000 .f32} {P : Nat → Nat} {t : Fin k0_t1_loop.trips} {c c' : Vec F S256 .f32} {w : Vec F S16 .f32} (h : Got s P t.val c)
    (hw : ∀ l : Fin 16, w (ln l) = scoreAt s (P (16 * t.val + l.val)))
    (hc : ∀ j : Fin 256, c' (sl j) = if h : 16 * t.val ≤ j.val ∧ j.val < 16 * t.val + 16 then w (ln ⟨j.val - 16 * t.val, by omega⟩) else c (sl j)) :
    Got s P (t.val + 1) c' := by
  intro j hj
  rw [hc]
  by_cases hh : 16 * t.val ≤ j.val ∧ j.val < 16 * t.val + 16
  · rw [dif_pos hh, hw]
    refine congrArg (fun n => scoreAt s (P n)) ?_
    show 16 * t.val + (j.val - 16 * t.val) = j.val
    omega
  · rw [dif_neg hh]
    exact h j (by omega)

/-- A gather of sixteen by positions below 20000. -/
theorem gathered {s : Vec F S20000 .f32} {P : Nat → Nat} (hP : ∀ j, P j < 20000) {x : Vec F S16 .i32} {n : Nat}
    (hx : ∀ l : Fin 16, x (ln l) = BitVec.ofNat 32 (P (n + l.val))) (h) (l : Fin 16) :
    loadIdx s ![(x : IVec S16 32)] h (ln l) = scoreAt s (P (n + l.val)) := by
  show s (idxAt _ h (ln l)) = _
  unfold scoreAt
  refine congrArg s (funext fun a => Fin.ext ?_)
  obtain rfl : a = 0 := Subsingleton.elim _ _
  show (x (ln l)).toNat = P (n + l.val) % 20000
  rw [hx, BitVec.toNat_ofNat]
  have := hP (n + l.val)
  omega

/-- Sixteen slots' boxes collected. -/
theorem wp_gather {As Ae} (hAs : sv.view.set ⊆ As) (hAe : ev.view.set ⊆ Ae) {q q' : PosShare TreeShare} {fs : Buf (Elt F) (sv.view.loc (vec d i))}
    {fe : Buf (Elt F) (ev.view.loc (vec d i))} {s e : Vec F S20000 .f32} (hs : sv.view.read (Elt F) fs = s) (he : ev.view.read (Elt F) fe = e)
    {fi : Buf (Elt F) ((rowOf candi rr).view.loc (vec d i))} {P : Nat → Nat} (hP : ∀ j, P j < 20000)
    (hi : ∀ j : Fin 256, rd candi rr fi (sl j) = BitVec.ofNat 32 (P j.val)) (t : Fin k0_t1_loop.trips) (b : BitVec 32) :
    iprop(∃ gs ge, ⌜Got s P t.val (rd csb rr gs) ∧ Got e P t.val (rd ceb rr ge)⌝ ∗ heldOn d i sv As q fs ∗ heldOn d i ev Ae q' fe ∗ slotsPt d i candi rr fi
          ∗ slotsPt d i csb rr gs ∗ slotsPt d i ceb rr ge)
      ⊢ wp frame (wpE defs₀ 𝒱₀ (vec d i) none) Set.univ (gatherG (F := F) i rr sv ev candi csb ceb t b) fun _ =>
          iprop(∃ gs ge, ⌜Got s P (t.val + 1) (rd csb rr gs) ∧ Got e P (t.val + 1) (rd ceb rr ge)⌝ ∗ heldOn d i sv As q fs ∗ heldOn d i ev Ae q' fe
            ∗ slotsPt d i candi rr fi ∗ slotsPt d i csb rr gs ∗ slotsPt d i ceb rr ge) := by
  unfold gatherG
  simp only [Prog.lift, Prog.bind_op, Prog.bind_ret, Prog.pure_eq_ret, Prog.bind_assoc]
  iintro ⟨%gs, %ge, %h, Hs, He, Hi, Hgs, Hge⟩
  iapply (wp_slotLoad d i) $$ Hi
  iintro %x %hx Hi
  have hx' : ∀ l : Fin 16, x (ln l) = BitVec.ofNat 32 (P (16 * t.val + l.val)) := fun l => (hx l).trans (hi _)
  have hok : ∀ (a : Fin 1) (y : S16.Idx), ((![(x : IVec S16 32)] : Fin 1 → IVec S16 32) a y).toNat < S20000.size a := fun a y => by
    obtain rfl : a = 0 := Subsingleton.elim _ _
    obtain ⟨l, rfl⟩ : ∃ l, y = ln l := ⟨y 0, eq_ofLane y⟩
    show (x (ln l)).toNat < 20000
    have := hP (16 * t.val + l.val)
    rw [hx', BitVec.toNat_ofNat]
    omega
  rw [wp_assume_of (defs := defs₀) 𝒱₀ (vec d i) none Set.univ (show k0_chk7 x from ⟨hok, hok⟩)]
  iapply (SparseCore.wp_vectorLoadIdx (defs := defs₀) 𝒱₀ (vec d i) none Set.univ (base := sv) (q := q) (f := fs) (S := As) ((set_whole sv).trans_subset hAs)) $$ Hs
  iintro Hs
  iapply (wp_slotLoad d i) $$ Hgs
  iintro %_ %_ Hgs
  iapply (wp_slotStore d i) $$ Hgs
  iintro %gs' %hgs Hgs
  iapply (SparseCore.wp_vectorLoadIdx (defs := defs₀) 𝒱₀ (vec d i) none Set.univ (base := ev) (q := q') (f := fe) (S := Ae) ((set_whole ev).trans_subset hAe)) $$ He
  iintro He
  iapply (wp_slotLoad d i) $$ Hge
  iintro %_ %_ Hge
  iapply (wp_slotStore d i) $$ Hge
  iintro %ge' %hge Hge
  rw [wp_ret]
  imodintro
  iexists gs', ge'
  isplitr
  · ipureintro
    rw [read_whole sv, hs] at hgs
    rw [read_whole ev, he] at hge
    exact ⟨got_next h.1 (gathered hP hx' _) hgs, got_next h.2 (gathered hP hx' _) hge⟩
  · isplitl [Hs]
    · iexact Hs
    isplitl [He]
    · iexact He
    isplitl [Hi]
    · iexact Hi
    isplitl [Hgs] <;> iassumption

/-- What a row's slots hold in the end: the scores, and the two coordinates at the slots' positions. -/
structure Done (x : Vec F S20000 .f32) (thr : Vec F S16 .f32) (s e : Vec F S20000 .f32) (c cs ce : Vec F S256 .f32) : Prop where
  score : ∀ j : Fin 256, c (sl j) = scoreSlot x thr 20000 j.val
  fst : ∀ j : Fin 256, cs (sl j) = scoreAt s (posSlot x thr 20000 j.val)
  snd : ∀ j : Fin 256, ce (sl j) = scoreAt e (posSlot x thr 20000 j.val)

variable {thr_v : Memref sig .scVector .vmem S80 .f32}

/-- One row. -/
theorem wp_row {k : BitVec 32 → Prog (Eff F i) α} {A As Ae At} (hA : row.view.set ⊆ A) (hAs : sv.view.set ⊆ As) (hAe : ev.view.set ⊆ Ae) (hAt : thr_v.view.set ⊆ At)
    {q qs qe qt : PosShare TreeShare}
    {fr : Buf (Elt F) (row.view.loc (vec d i))} {fs : Buf (Elt F) (sv.view.loc (vec d i))} {fe : Buf (Elt F) (ev.view.loc (vec d i))}
    {ft : Buf (Elt F) (thr_v.view.loc (vec d i))} {x s e : Vec F S20000 .f32} {thr : Vec F S16 .f32}
    (hx : row.view.read (Elt F) fr = x) (hs : sv.view.read (Elt F) fs = s) (he : ev.view.read (Elt F) fe = e)
    (ht : (thr_v.access (Rect.unit (s := S80) ![16 * rr.val] S16.size (thr_inb rr))).read (Elt F) ft = thr)
    {fc : Buf (Elt F) ((rowOf cands rr).view.loc (vec d i))} {fi : Buf (Elt F) ((rowOf candi rr).view.loc (vec d i))}
    {gs : Buf (Elt F) ((rowOf csb rr).view.loc (vec d i))} {ge : Buf (Elt F) ((rowOf ceb rr).view.loc (vec d i))} :
    iprop((heldOn d i row A q fr ∗ heldOn d i sv As qs fs ∗ heldOn d i ev Ae qe fe ∗ heldOn d i thr_v At qt ft)
        ∗ slotsPt d i cands rr fc ∗ slotsPt d i candi rr fi ∗ slotsPt d i csb rr gs ∗ slotsPt d i ceb rr ge)
      ⊢ iprop((∀ (b : BitVec 32) (fc : Buf (Elt F) ((rowOf cands rr).view.loc (vec d i))) (fi : Buf (Elt F) ((rowOf candi rr).view.loc (vec d i)))
            (gs : Buf (Elt F) ((rowOf csb rr).view.loc (vec d i))) (ge : Buf (Elt F) ((rowOf ceb rr).view.loc (vec d i))),
            ⌜Done x thr s e (rd cands rr fc) (rd csb rr gs) (rd ceb rr ge)⌝ -∗
            ((heldOn d i row A q fr ∗ heldOn d i sv As qs fs ∗ heldOn d i ev Ae qe fe ∗ heldOn d i thr_v At qt ft)
              ∗ slotsPt d i cands rr fc ∗ slotsPt d i candi rr fi ∗ slotsPt d i csb rr gs ∗ slotsPt d i ceb rr ge) -∗
            wp frame (wpE defs₀ 𝒱₀ (vec d i) none) Set.univ (k b) Q)
        -∗ wp frame (wpE defs₀ 𝒱₀ (vec d i) none) Set.univ (rowG i rr row sv ev thr_v cands candi csb ceb >>= k) Q) := by
  unfold rowG
  simp only [Prog.lift, Prog.bind_op, Prog.bind_ret, Prog.pure_eq_ret, Prog.bind_assoc]
  iintro ⟨⟨Hr, Hs, He, Ht⟩, Hc, Hi, Hgs, Hge⟩ Hk
  -- the clearing
  iapply (Scf.wp_for_bind frame (wpE (defs₀ (F := F)) 𝒱₀ (vec d i) none) Set.univ _ _ _ k0_t1_ok _ _
    (fun n (_ : BitVec 32) => iprop(∃ fc fi, ⌜Clear n (rd cands rr fc) (rd candi rr fi)⌝ ∗ slotsPt d i cands rr fc ∗ slotsPt d i candi rr fi))
    (fun t b => wp_init t b)) $$ [Hc Hi]
  · iexists fc, fi
    isplitr
    · ipureintro
      intro j hj
      omega
    · isplitl [Hc] <;> iassumption
  iintro %b0 ⟨%fc0, %fi0, %h0, Hc, Hi⟩
  have hz : Placed x thr 0 (broadcast S16 0#32) (rd cands rr fc0) (rd candi rr fi0) :=
    Placed.zero (fun j => (h0 j (show j.val < 256 from j.isLt)).1) (fun j => (h0 j (show j.val < 256 from j.isLt)).2)
  -- the lane thresholds
  iapply (wp_load_rect (defs := defs₀) 𝒱₀ (vec d i) none Set.univ (m := thr_v) (r := Rect.unit (s := S80) ![16 * rr.val] S16.size (thr_inb rr))
    (q := qt) (f := ft) ((View.set_slice_subset _ _).trans hAt)) $$ Ht
  iintro Ht
  rw [ht]
  -- the scan
  iapply (Scf.wp_for_bind frame (wpE (defs₀ (F := F)) 𝒱₀ (vec d i) none) Set.univ _ _ _ k0_t2_ok _ _
    (fun n b => iprop(∃ fc fi, ⌜Placed x thr (64 * n) b (rd cands rr fc) (rd candi rr fi)⌝ ∗ heldOn d i row A q fr ∗ slotsPt d i cands rr fc ∗ slotsPt d i candi rr fi))
    (fun t b => wp_chunk hA hx t)) $$ [Hr Hc Hi]
  · iexists fc0, fi0
    isplitr
    · ipureintro
      exact hz
    · isplitl [Hr]
      · iexact Hr
      isplitl [Hc] <;> iassumption
  iintro %b1 ⟨%fc1, %fi1, %h1, H⟩
  have h1' : Placed x thr 19968 b1 (rd cands rr fc1) (rd candi rr fi1) := h1
  iapply (wp_sub hA hx (n := 19968) rfl rfl (by omega) (by omega) h1') $$ H
  iintro %b2 %fc2 %fi2 %h2 H
  iapply (wp_sub hA hx (n := 19984) rfl rfl (by omega) (by omega) h2) $$ H
  iintro %b3 %fc3 %fi3 %h3 ⟨Hr, Hc, Hi⟩
  -- the boxes
  iapply (Scf.wp_for_bind frame (wpE (defs₀ (F := F)) 𝒱₀ (vec d i) none) Set.univ _ _ _ k0_t3_ok _ _
    (fun n (_ : BitVec 32) => iprop(∃ gs ge, ⌜Got s (posSlot x thr 20000) n (rd csb rr gs) ∧ Got e (posSlot x thr 20000) n (rd ceb rr ge)⌝ ∗ heldOn d i sv As qs fs
          ∗ heldOn d i ev Ae qe fe ∗ slotsPt d i candi rr fi3 ∗ slotsPt d i csb rr gs ∗ slotsPt d i ceb rr ge))
    (fun t b => wp_gather hAs hAe hs he (posSlot_lt x thr) h3.pos t b)) $$ [Hs He Hi Hgs Hge]
  · iexists gs, ge
    isplitr
    · ipureintro
      exact ⟨fun j hj => absurd hj (Nat.not_lt_zero _), fun j hj => absurd hj (Nat.not_lt_zero _)⟩
    · isplitl [Hs]
      · iexact Hs
      isplitl [He]
      · iexact He
      isplitl [Hi]
      · iexact Hi
      isplitl [Hgs] <;> iassumption
  iintro %b4 ⟨%gs4, %ge4, %h4, Hs, He, Hi, Hgs, Hge⟩
  iapply Hk $$ %b4 %fc3 %fi3 %gs4 %ge4 [] [Hr Hs He Ht Hc Hi Hgs Hge]
  · ipureintro
    exact ⟨h3.score, fun j => h4.1 j (show j.val < 256 from j.isLt), fun j => h4.2 j (show j.val < 256 from j.isLt)⟩
  · isplitl [Hr Hs He Ht]
    · isplitl [Hr]
      · iexact Hr
      isplitl [Hs]
      · iexact Hs
      isplitl [He] <;> iassumption
    isplitl [Hc]
    · iexact Hc
    isplitl [Hi]
    · iexact Hi
    isplitl [Hgs] <;> iassumption

end Sub

end Cert.Proof.Sel
end
-- ==== Proof.Target.lean ====
/-
  What the kernel's three results hold, as functions of its arguments: slot `j` of row `r` holds the `j`-th score above
  its lane's threshold, and the two box coordinates of that score's position in the row's batch. And what the pieces of
  the arrays that one task reads and writes are in these terms.
-/
module

public import proofs.«01_k».proof.Proof.Row
public import Idealize.ShloMosaic.Lib.ValueIdxCore

@[expose] public section

noncomputable section

namespace Cert.Proof.Sel

open Cert.KernelIdeal Cert.KernelIdeal.Gen
open Idealize.ShloMosaic
open Idealize.ShloMosaic.ValueIdx (ix2 eq_ix2)

variable {F : FTy → Type} [FloatOps F]

/-! ## The results -/

section Results

variable (X : Vec F S160x20000 .f32) (T : Vec F S2560 .f32) (B : Vec F S8x20000 .f32)

/-- Row `r`'s scores, -/
def rowScores (r : Fin 160) : Vec F S20000 .f32 := fun x => X (ix2 r (x 0))

theorem thr_lt (r : Fin 160) (l : Fin 16) : 16 * r.val + l.val < 2560 := by
  have := r.isLt
  have := l.isLt
  omega

/-- its lanes' thresholds, -/
def rowThr (r : Fin 160) : Vec F S16 .f32 := fun l => T (Shape.ofLane (d := ![2560]) ⟨16 * r.val + (l 0).val, thr_lt r (l 0)⟩)

/-- the batch it belongs to, -/
def batchOf (r : Fin 160) : Fin 8 := ⟨r.val / 20, by have := r.isLt; omega⟩

/-- and one coordinate of the batch's boxes. -/
def boxes (b : Fin 8) : Vec F S20000 .f32 := fun x => B (ix2 b (x 0))

/-- The first result: the scores. -/
def outScore : Vec F S160x256 .f32 := fun y => scoreSlot (rowScores X (y 0)) (rowThr T (y 0)) 20000 (y 1).val

/-- The other two: a coordinate of the boxes. -/
def outBox : Vec F S160x256 .f32 := fun y =>
  scoreAt (boxes B (batchOf (y 0))) (posSlot (rowScores X (y 0)) (rowThr T (y 0)) 20000 (y 1).val)

end Results

/-! ## One task's pieces -/

variable (i : grid0.Coords)

/-- The `rr`-th of task `i`'s rows. -/
def rowNo (rr : Fin 5) : Fin 160 := ⟨10 * (i 1).val + 5 * (i 0).val + rr.val, by
  have h0 : (i 0).val < 2 := (i 0).isLt
  have h1 : (i 1).val < 16 := (i 1).isLt
  have := rr.isLt
  omega⟩

theorem boxOff_eq : ∀ i : grid0.Coords, k0_off1 i = ![(10 * (i 1).val + 5 * (i 0).val) / 20, 0] := by decide +kernel

/-- Where a row's element lies in the array it is a row of. -/
theorem emb_row {κ : Kind} {sp : Space} {e : EltTy} {A N : Nat} (m : Memref sig κ sp ⟨2, ![A, N]⟩ e) {off : Fin 2 → Nat}
    (h : ∀ a, off a + (![1, N] : Fin 2 → Nat) a ≤ (![A, N] : Fin 2 → Nat) a) (hs) (r : Fin A) (ho : off = ![r.val, 0]) (n : Fin N) :
    ((m.slice (Rect.unit (s := ⟨2, ![A, N]⟩) off ![1, N] h) (fun _ => rfl)).squeeze ⟨1, ![N]⟩ hs).view.emb (Shape.ofLane (d := ![N]) n)
      = m.view.emb (ix2 r n) := by
  subst ho
  refine congrArg m.view.emb (funext fun a => Fin.ext ?_)
  show ((Rect.unit (s := ⟨2, ![A, N]⟩) ![r.val, 0] ![1, N] h).emb (Shape.reshapeEquiv hs.numel_eq _) a).val = _
  have e1 := Shape.reshapeEquiv_cons_one (n := 1) (d := ![N]) hs.numel_eq (Shape.ofLane (d := ![N]) n)
  rw [Rect.emb_apply]
  match a with
  | ⟨0, _⟩ =>
    have := congrArg (fun z => (z ⟨0, by omega⟩).val) e1
    show r.val + 1 * _ = r.val
    erw [this]
    rfl
  | ⟨1, _⟩ =>
    have := congrArg (fun z => (z ⟨1, by omega⟩).val) e1
    show 0 + 1 * _ = n.val
    erw [this]
    simp
    rfl

/-- A row of scores read. -/
theorem read_inRow (m : Memref sig .scVector .hbm S160x20000 .f32) {off : Fin 2 → Nat} (h) (rr : Fin 5)
    (ho : off = ![(rowNo i rr).val, 0]) (f : m.view.ty.Contents (Elt F)) :
    (inRow m off h).view.read (Elt F) f = rowScores (m.view.read (Elt F) f) (rowNo i rr) := by
  funext x
  obtain ⟨n, rfl⟩ : ∃ n, x = ps n := ⟨x 0, eq_ofLane x⟩
  show _root_.cast _ (f ((inRow m off h).view.emb (ps n))) = _root_.cast _ (f (m.view.emb (ix2 (rowNo i rr) n)))
  rw [emb_row m h _ (rowNo i rr) ho n]

/-- A row of boxes read. -/
theorem read_boxRow (m : Memref sig .scVector .hbm S8x20000 .f32) (rr : Fin 5) (f : m.view.ty.Contents (Elt F)) :
    (boxRow i m).view.read (Elt F) f = boxes (m.view.read (Elt F) f) (batchOf (rowNo i rr)) := by
  funext x
  obtain ⟨n, rfl⟩ : ∃ n, x = ps n := ⟨x 0, eq_ofLane x⟩
  show _root_.cast _ (f ((boxRow i m).view.emb (ps n))) = _root_.cast _ (f (m.view.emb (ix2 (batchOf (rowNo i rr)) n)))
  have ho : k0_off1 i = ![(batchOf (rowNo i rr)).val, 0] := by
    rw [boxOff_eq]
    have : (10 * (i 1).val + 5 * (i 0).val) / 20 = (10 * (i 1).val + 5 * (i 0).val + rr.val) / 20 := by
      have := rr.isLt
      omega
    show _ = ![(10 * (i 1).val + 5 * (i 0).val + rr.val) / 20, 0]
    rw [this]
  rw [emb_row m (k0_off1_inb i) _ _ ho n]

/-- A row's thresholds, read out of the task's eighty. -/
theorem read_thr (thr_v : Memref sig .scVector .vmem S80 .f32) (ft : thr_v.view.ty.Contents (Elt F)) (m : Memref sig .scVector .hbm S2560 .f32)
    (f : m.view.ty.Contents (Elt F)) (h : thr_v.view.read (Elt F) ft = (thrRow i m).view.read (Elt F) f) (rr : Fin 5) :
    (thr_v.access (Rect.unit (s := S80) ![16 * rr.val] S16.size (thr_inb rr))).read (Elt F) ft = rowThr (m.view.read (Elt F) f) (rowNo i rr) := by
  funext x
  obtain ⟨l, rfl⟩ : ∃ l, x = ln l := ⟨x 0, eq_ofLane x⟩
  rw [read_unit thr_v (o := 16 * rr.val) rfl (thr_inb rr) ft l, h]
  show _root_.cast _ (f (m.view.emb _)) = _root_.cast _ (f (m.view.emb _))
  congr 3
  funext a
  obtain rfl : a = 0 := Subsingleton.elim _ _
  apply Fin.ext
  rw [Rect.emb_apply]
  show k0_off2 i 0 + 1 * (16 * rr.val + l.val) = 16 * (10 * (i 1).val + 5 * (i 0).val + rr.val) + l.val
  rw [k0_off2_eq]
  show 160 * (i 1).val + 80 * (i 0).val + 1 * (16 * rr.val + l.val) = _
  omega

/-- Where a slot lies in a result. -/
theorem emb_outRow (m : Memref sig .scVector .hbm S160x256 .f32) (rr : Fin 5) (j : Fin 256) :
    (outRow i rr m).view.emb (sl j) = m.view.emb (ix2 (rowNo i rr) j) :=
  emb_row m (k0_off52_inb i rr) _ (rowNo i rr) (k0_off52_eq i rr) j

end Cert.Proof.Sel
end
-- ==== Proof.Copies.lean ====
/-
  The task's copies. A copy in is one transfer on its cell: issued, it holds the scratch and the part of the array it
  reads; waited for, the scratch reads what the part read. The fifteen copies out share one cell and are waited for only
  at the end, when every row of slots has arrived and is given back.
-/
module

public import proofs.«01_k».proof.Proof.Target

@[expose] public section

noncomputable section

namespace Cert.Proof.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} [FloatOps F]

local notation "𝕄" => MT nD τ sig (HIx 1) (Elt F) ℕ UU ℕ

variable (d : Dev nD) (i : grid0.Coords)

/-- The counters' place in the ghost state. -/
abbrev EC : UEmb Counters (MT nD τ sig (HIx 1) (Elt F) ℕ UU ℕ) := countersEmb

/-- What the task owes, whatever it has waited for. -/
abbrev owing (O : CellTallies nD τ sig (HIx 1)) : sProp 𝕄 := iprop(∃ W, owes (vec d i) O W)

/-- The waits' evidence. -/
abbrev mayWait (O : CellTallies nD τ sig (HIx 1)) : sProp 𝕄 := Transfers.MayWaits (vec d i) (default : HIx 1) O

section In

variable {s : Shape} (src : Memref sig .scVector .hbm s .f32) (row : Memref sig .scVector .vmem s .f32) (sem : DmaSem sig)
  (q : PosShare TreeShare) (X : Buf (Elt F) (src.view.loc (vec d i)))

/-- A copy in, issued: the transfer, and what it does not read of the array. -/
def coming : sProp 𝕄 :=
  iprop((∃ fr : Buf (Elt F) (row.view.loc (vec d i)), ⌜row.view.read (Elt F) fr = src.view.read (Elt F) X⌝ ∗
      Transfers.Flight EC (vec d i) (.dma sem) (default : HIx 1) row.view.dmaCredit
        iprop((row.view.loc (vec d i) ↦{fullShare} fr) ∗ (src.view.loc (vec d i) ↦[src.view.set]{q} X)))
    ∗ (src.view.loc (vec d i) ↦[Finset.univ \ src.view.set]{q} X))

variable {d i src row sem q X} {α : Type} {Q : α → sProp (MT nD τ sig (HIx 1) (Elt F) ℕ UU ℕ)} {k : PUnit → Prog (Eff F i) α}

/-- Issuing a copy in. -/
theorem wp_fetch (hs : 0 < s.numel) {h1 h2 h3} {fd : Buf (Elt F) (row.view.loc (vec d i))} :
    iprop((src.view.loc (vec d i) ↦{q} X) ∗ (row.view.loc (vec d i) ↦{fullShare} fd) ∗ semVal (vec d i, .dma sem) 0)
      ⊢ iprop((coming d i src row sem q X -∗ wp frame (wpE defs₀ 𝒱₀ (vec d i) none) Set.univ (k ⟨⟩) Q)
        -∗ wp frame (wpE defs₀ 𝒱₀ (vec d i) none) Set.univ (.op (.enqueueDma src (.here row) (.dma sem) h1 h2 h3) k) Q) := by
  iintro ⟨Hx, Hr, Hv⟩ Hk
  ihave Hx' := (pointsTo_split_subset (q := q) (f := X) (Finset.subset_univ src.view.set)).1 $$ Hx
  icases Hx' with ⟨Hx, Hrest⟩
  iapply (Transfers.wp_dmaLocal EC (defs := defs₀) 𝒱₀ (vec d i) none (default : HIx 1) row.view.dmaCredit rfl (View.dmaCredit_pos _ hs)
    (Finset.subset_univ _)) $$ [Hx Hr Hv]
  · isplitl [Hx]
    · iexact Hx
    isplitl [Hr] <;> iassumption
  iintro HF
  iapply Hk
  unfold coming
  isplitl [HF]
  · iexists (row.view.write (Elt F) fd (src.view.read (Elt F) X) Finset.univ)
    isplitr
    · ipureintro
      exact View.read_write_univ _ _
    · iexact HF
  · iexact Hrest

/-- Waiting for it. -/
theorem wp_arrive {src' : Memref sig .scVector .hbm s .f32} {h1 h2} {O : CellTallies nD τ sig (HIx 1)} :
    iprop(coming d i src row sem q X ∗ owing d i O ∗ mayWait d i O)
      ⊢ iprop((∀ fr : Buf (Elt F) (row.view.loc (vec d i)), ⌜row.view.read (Elt F) fr = src.view.read (Elt F) X⌝ -∗
            ((src.view.loc (vec d i) ↦{q} X) ∗ (row.view.loc (vec d i) ↦{fullShare} fr) ∗ semVal (vec d i, .dma sem) 0 ∗ owing d i O)
            -∗ wp frame (wpE defs₀ 𝒱₀ (vec d i) none) Set.univ (k ⟨⟩) Q)
        -∗ wp frame (wpE defs₀ 𝒱₀ (vec d i) none) Set.univ (.op (.waitDma2 sem src' row h1 h2) k) Q) := by
  unfold coming
  iintro ⟨⟨⟨%fr, %hr, HF⟩, Hrest⟩, ⟨%W, HO⟩, Hmw⟩ Hk
  iapply (Transfers.wp_waitLocalO EC (defs := defs₀) 𝒱₀ (vec d i) none (default : HIx 1) rfl) $$ [HF HO Hmw]
  · isplitl [HF]
    · iexact HF
    isplitl [HO]
    · iexact HO
    iapply (Transfers.MayWaits.elim (.dma sem)) $$ Hmw
  iintro ⟨⟨Hr, Hx⟩, Hv, HO⟩
  iapply Hk $$ %fr %hr
  isplitl [Hx Hrest]
  · iapply (pointsTo_split_subset (q := q) (f := X) (Finset.subset_univ src.view.set)).2
    isplitl [Hx] <;> iassumption
  isplitl [Hr]
  · iexact Hr
  isplitl [Hv]
  · iexact Hv
  iexists _
  iexact HO

end In

section Out

/-- A row of slots arrived in a result whose contents are `O`, and the slots given back. -/
def piece (o : Memref sig .scVector .hbm S160x256 .f32) (b : Memref sig .scVector .vmem S1280 .f32) (rr : Fin 5)
    (O : Buf (Elt F) (o.view.loc (vec d i))) : sProp 𝕄 :=
  iprop(((outRow i rr o).view.loc (vec d i) ↦[(outRow i rr o).view.set]{fullShare} O) ∗ ∃ f, slotsPt d i b rr f)

instance {o b rr O} : Storable (upEmb : UEmb _ 𝕄) (piece (F := F) d i o b rr O) := by unfold piece; infer_instance

variable (o6 o7 o8 : Memref sig .scVector .hbm S160x256 .f32) (b6 b7 b8 : Memref sig .scVector .vmem S1280 .f32)
  (O6 : Buf (Elt F) (o6.view.loc (vec d i))) (O7 : Buf (Elt F) (o7.view.loc (vec d i))) (O8 : Buf (Elt F) (o8.view.loc (vec d i)))
  (sem : DmaSem sig)

/-- The fifteen, in the order they are issued. -/
def pieces (t : Fin 15) : sProp 𝕄 :=
  if t.val % 3 = 0 then piece d i o6 b6 ⟨t.val / 3, by omega⟩ O6
  else if t.val % 3 = 1 then piece d i o7 b7 ⟨t.val / 3, by omega⟩ O7
  else piece d i o8 b8 ⟨t.val / 3, by omega⟩ O8

instance (t : Fin 15) : Storable (upEmb : UEmb _ 𝕄) (pieces (F := F) d i o6 o7 o8 b6 b7 b8 O6 O7 O8 t) := by
  unfold pieces
  split_ifs <;> infer_instance

theorem pieces_6 (rr : Fin 5) (h : 3 * rr.val < 15) : pieces d i o6 o7 o8 b6 b7 b8 O6 O7 O8 ⟨3 * rr.val, h⟩ = piece (F := F) d i o6 b6 rr O6 := by
  have e : (⟨3 * rr.val / 3, by omega⟩ : Fin 5) = rr := Fin.ext (by show 3 * rr.val / 3 = rr.val; omega)
  unfold pieces
  rw [if_pos (show 3 * rr.val % 3 = 0 by omega)]
  show piece d i o6 b6 ⟨3 * rr.val / 3, _⟩ O6 = _
  rw [e]

theorem pieces_7 (rr : Fin 5) (h : 3 * rr.val + 1 < 15) :
    pieces d i o6 o7 o8 b6 b7 b8 O6 O7 O8 ⟨3 * rr.val + 1, h⟩ = piece (F := F) d i o7 b7 rr O7 := by
  have e : (⟨(3 * rr.val + 1) / 3, by omega⟩ : Fin 5) = rr := Fin.ext (by show (3 * rr.val + 1) / 3 = rr.val; omega)
  unfold pieces
  rw [if_neg (show ¬ (3 * rr.val + 1) % 3 = 0 by omega), if_pos (show (3 * rr.val + 1) % 3 = 1 by omega)]
  show piece d i o7 b7 ⟨(3 * rr.val + 1) / 3, _⟩ O7 = _
  rw [e]

theorem pieces_8 (rr : Fin 5) (h : 3 * rr.val + 2 < 15) :
    pieces d i o6 o7 o8 b6 b7 b8 O6 O7 O8 ⟨3 * rr.val + 2, h⟩ = piece (F := F) d i o8 b8 rr O8 := by
  have e : (⟨(3 * rr.val + 2) / 3, by omega⟩ : Fin 5) = rr := Fin.ext (by show (3 * rr.val + 2) / 3 = rr.val; omega)
  unfold pieces
  rw [if_neg (show ¬ (3 * rr.val + 2) % 3 = 0 by omega), if_neg (show ¬ (3 * rr.val + 2) % 3 = 1 by omega)]
  show piece d i o8 b8 ⟨(3 * rr.val + 2) / 3, _⟩ O8 = _
  rw [e]

/-- The cell's state with the first `n` issued and `u` units waited for, `N` units a copy. -/
abbrev leaving (N n u : Nat) : sProp 𝕄 :=
  Transfers.Batch EC (vec d i) (.dma sem) (default : HIx 1) N (pieces d i o6 o7 o8 b6 b7 b8 O6 O7 O8) n u

variable {d i} {α : Type} {Q : α → sProp (MT nD τ sig (HIx 1) (Elt F) ℕ UU ℕ)} {k : PUnit → Prog (Eff F i) α} {N : Nat}

/-- One row of slots starts to go out, as the batch's `n`-th copy. -/
theorem wp_leave {o : Memref sig .scVector .hbm S160x256 .f32} {b : Memref sig .scVector .vmem S1280 .f32} {sem : DmaSem sig} {rr : Fin 5}
    {O g : Buf (Elt F) ((outRow i rr o).view.loc (vec d i))} {f : Buf (Elt F) ((rowOf b rr).view.loc (vec d i))} {D : Fin 15 → sProp (MT nD τ sig (HIx 1) (Elt F) ℕ UU ℕ)}
    {n : Nat} (hn : n < 15) (hN : (outRow i rr o).view.amount (.dma sem) = N) (hD : D ⟨n, hn⟩ = piece d i o b rr O)
    (hv : ∀ j : Fin 256, rd b rr f (sl j) = o.view.read (Elt F) O (ix2 (rowNo i rr) j)) {h1 h2 h3} :
    iprop(slotsPt d i b rr f ∗ ((outRow i rr o).view.loc (vec d i) ↦[(outRow i rr o).view.set]{fullShare} g)
        ∗ Transfers.Batch EC (vec d i) (.dma sem) (default : HIx 1) N D n 0)
      ⊢ iprop((Transfers.Batch EC (vec d i) (.dma sem) (default : HIx 1) N D (n + 1) 0 -∗ wp frame (wpE defs₀ 𝒱₀ (vec d i) none) Set.univ (k ⟨⟩) Q)
        -∗ wp frame (wpE defs₀ 𝒱₀ (vec d i) none) Set.univ (.op (.enqueueDma (rowOf b rr) (.here (outRow i rr o)) (.dma sem) h1 h2 h3) k) Q) := by
  have hc : ((outRow i rr o).view.loc (vec d i) ↦[(outRow i rr o).view.set]{fullShare}
        (outRow i rr o).view.write (Elt F) g ((rowOf b rr).view.read (Elt F) f) Finset.univ : sProp (MT nD τ sig (HIx 1) (Elt F) ℕ UU ℕ))
      = ((outRow i rr o).view.loc (vec d i) ↦[(outRow i rr o).view.set]{fullShare} O) := by
    refine pointsTo_congr fun y hy => ?_
    obtain ⟨x, -, rfl⟩ := Finset.mem_map.1 hy
    obtain ⟨j, rfl⟩ : ∃ j, x = sl j := ⟨x 0, eq_ofLane x⟩
    have h1 := View.read_write_of_mem (v := (outRow i rr o).view) g ((rowOf b rr).view.read (Elt F) f) (Finset.mem_univ (sl j))
    have h2 : (outRow i rr o).view.read (Elt F) O (sl j) = o.view.read (Elt F) O (ix2 (rowNo i rr) j) := by
      show _root_.cast _ (O _) = _root_.cast _ (O _)
      rw [emb_outRow]
    exact (cast_inj _).1 (h1.trans ((hv j).trans h2.symm))
  refine Transfers.wp_dmaBatch EC (defs := defs₀) 𝒱₀ (vec d i) none (default : HIx 1) N hN (Finset.Subset.refl _) hn (Nat.zero_le _) ?_
  rw [hD]
  unfold piece
  iintro ⟨Hd, Hs⟩
  isplitl [Hd]
  · iapply (Entails.of_eq hc) $$ Hd
  · iexists f
    iexact Hs

end Out

end Cert.Proof.Sel
end
-- ==== Proof.Pieces.lean ====
/-
  The pieces. A (1280) scratch is its five rows of slots, and the part of a result that one task writes is the task's five
  rows; and the fifteen pieces that the copies out bring back are the three parts written and the rows of slots.
-/
module

public import proofs.«01_k».proof.Proof.Copies
public import Idealize.ShloMosaic.Lib.Ring

@[expose] public section

noncomputable section

namespace Cert.Proof.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} [FloatOps F]

local notation "𝕄" => MT nD τ sig (HIx 1) (Elt F) ℕ UU ℕ

variable (d : Dev nD) (i : grid0.Coords)

/-! ## The rows of slots -/

section Windows

variable {e : EltTy} (b : Memref sig .scVector .vmem S1280 e)

/-- The elements of row `rr`'s slots. -/
abbrev slotSet (rr : Fin 5) : Finset (Idx (b.view.loc (vec d i))) := (rowOf b rr).view.set

omit [FloatOps F] in
theorem mem_rowOf (rr : Fin 5) (x : S1280.Idx) : b.view.emb x ∈ (rowOf b rr).view.set ↔ (x 0).val / 256 = rr.val := by
  show b.view.emb x ∈ (b.view.slice (Rect.unit (s := S1280) ![256 * rr.val] S256.size (row_inb rr))).set ↔ _
  rw [View.set_slice, Finset.mem_map', Rect.mem_set_unit]
  constructor
  · intro h
    have h0 : 256 * rr.val ≤ (x 0).val ∧ (x 0).val < 256 * rr.val + 256 := h 0
    omega
  · intro h a
    obtain rfl : a = 0 := Subsingleton.elim _ _
    show 256 * rr.val ≤ (x 0).val ∧ (x 0).val < 256 * rr.val + 256
    omega

omit [FloatOps F] in
theorem windows_disjoint (r r' : Fin 5) (h : r ≠ r') : Disjoint (slotSet d i b r) (slotSet d i b r') := by
  refine Finset.disjoint_left.2 fun y hy hy' => h (Fin.ext ?_)
  obtain ⟨x, -, rfl⟩ := Finset.mem_map.1 (View.set_slice_subset _ _ hy)
  exact ((mem_rowOf b r x).1 hy).symm.trans ((mem_rowOf b r' x).1 hy')

omit [FloatOps F] in
theorem windows_cover (hb : b.view.set = Finset.univ) : Finset.univ.biUnion (slotSet d i b) = Finset.univ := by
  refine Finset.eq_univ_of_forall fun y => ?_
  have hy : y ∈ b.view.set := by
    rw [hb]
    exact Finset.mem_univ _
  obtain ⟨x, -, rfl⟩ := Finset.mem_map.1 hy
  have hx : (x 0).val < 1280 := (x 0).isLt
  have h5 : (x 0).val / 256 < 5 := by omega
  have hm : b.view.emb x ∈ slotSet d i b ⟨(x 0).val / 256, h5⟩ := (mem_rowOf b ⟨(x 0).val / 256, h5⟩ x).2 (Eq.refl ((x 0).val / 256))
  exact Finset.mem_biUnion.2 ⟨_, Finset.mem_univ _, hm⟩

/-- A scratch held whole is its rows of slots, -/
theorem windows_split (hb : b.view.set = Finset.univ) (f : Buf (Elt F) (b.view.loc (vec d i))) :
    (b.view.loc (vec d i) ↦{fullShare} f : sProp 𝕄) = bigSep Finset.univ fun rr => slotsPt d i b rr f :=
  Ring.pointsTo_blocks (slotSet d i b) (windows_disjoint d i b) (windows_cover d i b hb) f

/-- and its rows of slots make it up again. -/
theorem windows_join (hb : b.view.set = Finset.univ) (f : Buf (Elt F) (b.view.loc (vec d i))) :
    (bigSep Finset.univ fun rr => iprop(∃ f, slotsPt d i b rr f)) ⊢ (iprop(∃ f, b.view.loc (vec d i) ↦{fullShare} f) : sProp 𝕄) :=
  Ring.pointsTo_blocks_join_exists (slotSet d i b) (windows_disjoint d i b) (windows_cover d i b hb) f

end Windows

/-! ## The rows of a result -/

section Rows

variable (o : Memref sig .scVector .hbm S160x256 .f32)

/-- The elements of the task's `rr`-th row of a result. -/
abbrev outSet (rr : Fin 5) : Finset (Idx (o.view.loc (vec d i))) := (outRow i rr o).view.set

/-- The elements of a result that task `i` writes. -/
def rowsOf : Finset (Idx (o.view.loc (vec d i))) :=
  (Finset.univ.filter fun y : S160x256.Idx => (y 0).val / 5 = 2 * (i 1).val + (i 0).val).map o.view.emb

omit [FloatOps F] in
theorem mem_outRow (rr : Fin 5) (y : S160x256.Idx) : o.view.emb y ∈ outSet d i o rr ↔ (y 0).val = (rowNo i rr).val := by
  have e0 : outSet d i o rr = (Rect.unit (s := S160x256) (k0_off52 i (BitVec.ofNat 32 rr.val)) S1x256.size (k0_off52_inb i rr)).set.map o.view.emb :=
    (View.set_reshape _ _).trans (View.set_slice _ _)
  show o.view.emb y ∈ outSet d i o rr ↔ _
  rw [e0, Finset.mem_map', Rect.mem_set_unit]
  have e : k0_off52 i (BitVec.ofNat 32 rr.val) = ![(rowNo i rr).val, 0] := k0_off52_eq i rr
  rw [e]
  constructor
  · intro h
    have h0 : (rowNo i rr).val ≤ (y 0).val ∧ (y 0).val < (rowNo i rr).val + 1 := h 0
    omega
  · intro h a
    match a with
    | ⟨0, _⟩ =>
      show (rowNo i rr).val ≤ (y 0).val ∧ (y 0).val < (rowNo i rr).val + 1
      omega
    | ⟨1, _⟩ =>
      have : (y 1).val < 256 := (y 1).isLt
      show 0 ≤ (y 1).val ∧ (y 1).val < 0 + 256
      omega

omit [FloatOps F] in
theorem outRow_sub (rr : Fin 5) {y} (hy : y ∈ (outRow i rr o).view.set) : ∃ x, o.view.emb x = y := by
  obtain ⟨j, -, rfl⟩ := Finset.mem_map.1 hy
  exact ⟨_, rfl⟩

omit [FloatOps F] in
theorem outRows_disjoint (r r' : Fin 5) (h : r ≠ r') : Disjoint (outSet d i o r) (outSet d i o r') := by
  refine Finset.disjoint_left.2 fun y hy hy' => h (Fin.ext ?_)
  obtain ⟨x, rfl⟩ := outRow_sub i o r hy
  have h1 := (mem_outRow d i o r x).1 hy
  have h2 := (mem_outRow d i o r' x).1 hy'
  have h3 : 10 * (i 1).val + 5 * (i 0).val + r.val = 10 * (i 1).val + 5 * (i 0).val + r'.val := h1.symm.trans h2
  omega

omit [FloatOps F] in
theorem outRows_cover : Finset.univ.biUnion (outSet d i o) = rowsOf d i o := by
  refine Finset.ext fun y => ?_
  constructor
  · intro hy
    obtain ⟨rr, -, hy⟩ := Finset.mem_biUnion.1 hy
    obtain ⟨x, rfl⟩ := outRow_sub i o rr hy
    have h1 : (x 0).val = 10 * (i 1).val + 5 * (i 0).val + rr.val := (mem_outRow d i o rr x).1 hy
    have := rr.isLt
    exact Finset.mem_map_of_mem _ (Finset.mem_filter.2 ⟨Finset.mem_univ _, by omega⟩)
  · intro hy
    obtain ⟨x, hx, rfl⟩ := Finset.mem_map.1 hy
    have hx := (Finset.mem_filter.1 hx).2
    refine Finset.mem_biUnion.2 ⟨⟨(x 0).val % 5, by omega⟩, Finset.mem_univ _, (mem_outRow d i o _ x).2 ?_⟩
    show (x 0).val = 10 * (i 1).val + 5 * (i 0).val + (x 0).val % 5
    omega

/-- The part of a result that a task writes is its five rows. -/
theorem rows_split (O : Buf (Elt F) (o.view.loc (vec d i))) :
    (o.view.loc (vec d i) ↦[rowsOf d i o]{fullShare} O : sProp 𝕄)
      = bigSep Finset.univ fun rr => (outRow i rr o).view.loc (vec d i) ↦[(outRow i rr o).view.set]{fullShare} O :=
  Ring.pointsTo_sub_blocks (outSet d i o) (outRows_disjoint d i o) (rowsOf d i o) (outRows_cover d i o) O

end Rows

/-! ## The fifteen -/

/-- Five, one by one. -/
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A part written, and the rows of slots it was written from. -/
theorem piece_five (o : Memref sig .scVector .hbm S160x256 .f32) (b : Memref sig .scVector .vmem S1280 .f32) (hb : b.view.set = Finset.univ)
    (O : Buf (Elt F) (o.view.loc (vec d i))) (f : Buf (Elt F) (b.view.loc (vec d i))) :
    (bigSep Finset.univ fun rr => piece d i o b rr O)
      ⊢ iprop((o.view.loc (vec d i) ↦[rowsOf d i o]{fullShare} O) ∗ ∃ f, b.view.loc (vec d i) ↦{fullShare} f) := by
  unfold piece
  rw [bigSep_sep', ← rows_split]
  iintro ⟨Ho, Hb⟩
  isplitl [Ho]
  · iexact Ho
  · iapply (windows_join d i b hb f) $$ Hb

/-- The fifteen pieces, result by result. -/
theorem pieces_all (o6 o7 o8 : Memref sig .scVector .hbm S160x256 .f32) (b6 b7 b8 : Memref sig .scVector .vmem S1280 .f32)
    (O6 : Buf (Elt F) (o6.view.loc (vec d i))) (O7 : Buf (Elt F) (o7.view.loc (vec d i))) (O8 : Buf (Elt F) (o8.view.loc (vec d i))) :
    bigSep Finset.univ (pieces d i o6 o7 o8 b6 b7 b8 O6 O7 O8)
      ⊢ iprop((bigSep Finset.univ fun rr => piece d i o6 b6 rr O6) ∗ (bigSep Finset.univ fun rr => piece d i o7 b7 rr O7)
          ∗ bigSep Finset.univ fun rr => piece d i o8 b8 rr O8) := by
  rw [five, five, five]
  refine (Entails.of_eq ((bigSep_univ_eq_bigSepL [0, 1, 2, 3, 4, 5, 6, 7, 8, 9, 10, 11, 12, 13, 14] (by decide) (by decide) _).trans
    (show _ = iprop(piece d i o6 b6 0 O6 ∗ piece d i o7 b7 0 O7 ∗ piece d i o8 b8 0 O8 ∗ piece d i o6 b6 1 O6 ∗ piece d i o7 b7 1 O7 ∗ piece d i o8 b8 1 O8 ∗ piece d i o6 b6 2 O6 ∗ piece d i o7 b7 2 O7
      ∗ piece d i o8 b8 2 O8 ∗ piece d i o6 b6 3 O6 ∗ piece d i o7 b7 3 O7 ∗ piece d i o8 b8 3 O8 ∗ piece d i o6 b6 4 O6 ∗ piece d i o7 b7 4 O7 ∗ piece d i o8 b8 4 O8) from rfl))).trans ?_
  iintro ⟨A0, A1, A2, A3, A4, A5, A6, A7, A8, A9, A10, A11, A12, A13, A14⟩
  isplitl [A0 A3 A6 A9 A12]
  · isplitl [A0]
    · iexact A0
    isplitl [A3]
    · iexact A3
    isplitl [A6]
    · iexact A6
    isplitl [A9] <;> iassumption
  isplitl [A1 A4 A7 A10 A13]
  · isplitl [A1]
    · iexact A1
    isplitl [A4]
    · iexact A4
    isplitl [A7]
    · iexact A7
    isplitl [A10] <;> iassumption
  isplitl [A2]
  · iexact A2
  isplitl [A5]
  · iexact A5
  isplitl [A8]
  · iexact A8
  isplitl [A11] <;> iassumption

end Cert.Proof.Sel
end
-- ==== Proof.Tile.lean ====
/-
  One row of a task, and the waits at a task's end: a row's slots are filled, the boxes at their positions read, and the
  three pieces sent out; each of the fifteen pieces sent out is then waited for, and lies in its result.
-/
module

public import proofs.«01_k».proof.Proof.Pieces

@[expose] public section

noncomputable section

namespace Cert.Proof.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} [FloatOps F]

local notation "𝕄" => MT nD τ sig (HIx 1) (Elt F) ℕ UU ℕ

variable {d : Dev nD} {i : grid0.Coords}

section Steps

variable {a6 a7 a8 : Memref sig .scVector .hbm S160x256 .f32} {a11 a12 : Memref sig .scVector .vmem S20000 .f32} {a13 : Memref sig .scVector .vmem S80 .f32}
  {a14 : Memref sig .scVector .vmem S1280 .f32} {a15 : Memref sig .scVector .vmem S1280 .i32} {a16 a17 : Memref sig .scVector .vmem S1280 .f32}
  {sOut : DmaSems sig S_} {X : Vec F S160x20000 .f32} {T : Vec F S2560 .f32} {B B' : Vec F S8x20000 .f32}
  {O6 : Buf (Elt F) (a6.view.loc (vec d i))} {O7 : Buf (Elt F) (a7.view.loc (vec d i))} {O8 : Buf (Elt F) (a8.view.loc (vec d i))}
  {fs : Buf (Elt F) (a11.view.loc (vec d i))} {fe : Buf (Elt F) (a12.view.loc (vec d i))} {ft : Buf (Elt F) (a13.view.loc (vec d i))}
  {N : Nat} {α : Type} {Q : α → sProp (MT nD τ sig (HIx 1) (Elt F) ℕ UU ℕ)} {k : PUnit → Prog (Eff F i) α}

variable (d i) in
/-- The boxes and thresholds, which every row reads. -/
abbrev standing (a11 a12 : Memref sig .scVector .vmem S20000 .f32) (a13 : Memref sig .scVector .vmem S80 .f32)
    (fs : Buf (Elt F) (a11.view.loc (vec d i))) (fe : Buf (Elt F) (a12.view.loc (vec d i))) (ft : Buf (Elt F) (a13.view.loc (vec d i))) : sProp 𝕄 :=
  iprop((a11.view.loc (vec d i) ↦{fullShare} fs) ∗ (a12.view.loc (vec d i) ↦{fullShare} fe) ∗ (a13.view.loc (vec d i) ↦{fullShare} ft))

variable (d i) in
/-- A row of a result, before it is written. -/
abbrev blank (o : Memref sig .scVector .hbm S160x256 .f32) (rr : Fin 5) (g : Buf (Elt F) (o.view.loc (vec d i))) : sProp 𝕄 :=
  (outRow i rr o).view.loc (vec d i) ↦[(outRow i rr o).view.set]{fullShare} g

/-- A row: its slots are found and start to go out. -/
theorem wp_rowOut (rr : Fin 5) (hN6 : (outRow i rr a6).view.amount (.dma sOut.sem) = N) (hN7 : (outRow i rr a7).view.amount (.dma sOut.sem) = N)
    (hN8 : (outRow i rr a8).view.amount (.dma sOut.sem) = N) (hO6 : a6.view.read (Elt F) O6 = outScore X T)
    (hO7 : a7.view.read (Elt F) O7 = outBox X T B) (hO8 : a8.view.read (Elt F) O8 = outBox X T B')
    (hs : a11.view.read (Elt F) fs = boxes B (batchOf (rowNo i rr))) (he : a12.view.read (Elt F) fe = boxes B' (batchOf (rowNo i rr)))
    (ht : (a13.access (Rect.unit (s := S80) ![16 * rr.val] S16.size (thr_inb rr))).read (Elt F) ft = rowThr T (rowNo i rr))
    {row : Memref sig .scVector .vmem S20000 .f32} {fr : Buf (Elt F) (row.view.loc (vec d i))}
    (hx : row.view.read (Elt F) fr = rowScores X (rowNo i rr))
    {g6 : Buf (Elt F) (a6.view.loc (vec d i))} {g7 : Buf (Elt F) (a7.view.loc (vec d i))} {g8 : Buf (Elt F) (a8.view.loc (vec d i))}
    {c14 : Buf (Elt F) (a14.view.loc (vec d i))} {c15 : Buf (Elt F) (a15.view.loc (vec d i))} {c16 : Buf (Elt F) (a16.view.loc (vec d i))}
    {c17 : Buf (Elt F) (a17.view.loc (vec d i))} :
    iprop((row.view.loc (vec d i) ↦{fullShare} fr) ∗ standing d i a11 a12 a13 fs fe ft
        ∗ (slotsPt d i a14 rr c14 ∗ slotsPt d i a15 rr c15 ∗ slotsPt d i a16 rr c16 ∗ slotsPt d i a17 rr c17)
        ∗ (blank d i a6 rr g6 ∗ blank d i a7 rr g7 ∗ blank d i a8 rr g8)
        ∗ leaving d i a6 a7 a8 a14 a16 a17 O6 O7 O8 sOut.sem N (3 * rr.val) 0)
      ⊢ iprop((iprop((row.view.loc (vec d i) ↦{fullShare} fr) ∗ standing d i a11 a12 a13 fs fe ft ∗ (∃ f, slotsPt d i a15 rr f)
            ∗ leaving d i a6 a7 a8 a14 a16 a17 O6 O7 O8 sOut.sem N (3 * rr.val + 3) 0) -∗ wp frame (wpE defs₀ 𝒱₀ (vec d i) none) Set.univ (k ⟨⟩) Q)
        -∗ wp frame (wpE defs₀ 𝒱₀ (vec d i) none) Set.univ (rowG i rr row a11 a12 a13 a14 a15 a16 a17 >>= fun _ => outsIssue i a6 a7 a8 a14 a16 a17 sOut rr >>= k) Q) := by
  have hrr := rr.isLt
  iintro ⟨Hr, ⟨Hs, He, Ht⟩, ⟨Hc, Hi, Hgs, Hge⟩, ⟨H6, H7, H8⟩, HB⟩ Hk
  iapply (wp_row (rr := rr) (Finset.subset_univ _) (Finset.subset_univ _) (Finset.subset_univ _) (Finset.subset_univ _) hx hs he ht) $$ [Hr Hs He Ht Hc Hi Hgs Hge]
  · isplitl [Hr Hs He Ht]
    · isplitl [Hr]
      · iexact Hr
      isplitl [Hs]
      · iexact Hs
      isplitl [He] <;> iassumption
    isplitl [Hc]
    · iexact Hc
    isplitl [Hi]
    · iexact Hi
    isplitl [Hgs] <;> iassumption
  iintro %b %fc %fi %gs %ge %hd ⟨⟨Hr, Hs, He, Ht⟩, Hc, Hi, Hgs, Hge⟩
  unfold outsIssue outIssue
  simp only [Prog.lift, Prog.bind_op, Prog.bind_ret, Prog.pure_eq_ret, Prog.bind_assoc]
  iapply (wp_leave (o := a6) (b := a14) (rr := rr) (O := O6) (g := g6) (show 3 * rr.val < 15 by omega) hN6 (pieces_6 d i a6 a7 a8 a14 a16 a17 O6 O7 O8 rr _)
    (fun j => by rw [hO6]; exact hd.score j)) $$ [Hc H6 HB]
  · isplitl [Hc]
    · iexact Hc
    isplitl [H6] <;> iassumption
  iintro HB
  iapply (wp_leave (o := a7) (b := a16) (rr := rr) (O := O7) (g := g7) (show 3 * rr.val + 1 < 15 by omega) hN7 (pieces_7 d i a6 a7 a8 a14 a16 a17 O6 O7 O8 rr _)
    (fun j => by rw [hO7]; exact hd.fst j)) $$ [Hgs H7 HB]
  · isplitl [Hgs]
    · iexact Hgs
    isplitl [H7] <;> iassumption
  iintro HB
  iapply (wp_leave (o := a8) (b := a17) (rr := rr) (O := O8) (g := g8) (show 3 * rr.val + 2 < 15 by omega) hN8 (pieces_8 d i a6 a7 a8 a14 a16 a17 O6 O7 O8 rr _)
    (fun j => by rw [hO8]; exact hd.snd j)) $$ [Hge H8 HB]
  · isplitl [Hge]
    · iexact Hge
    isplitl [H8] <;> iassumption
  iintro HB
  iapply Hk
  isplitl [Hr]
  · iexact Hr
  isplitl [Hs He Ht]
  · isplitl [Hs]
    · iexact Hs
    isplitl [He] <;> iassumption
  isplitl [Hi]
  · iexists fi
    iexact Hi
  · iexact HB

/-- One of the fifteen is waited for. -/
theorem wp_left {o : Memref sig .scVector .hbm S160x256 .f32} {b : Memref sig .scVector .vmem S1280 .f32} {sem : DmaSem sig} {rr : Fin 5}
    {D : Fin 15 → sProp (MT nD τ sig (HIx 1) (Elt F) ℕ UU ℕ)} (hN : (outRow i rr o).view.amount (.dma sem) = N) {n : Nat} (hn : n < 15) {O : CellTallies nD τ sig (HIx 1)} {h1 h2} :
    iprop(Transfers.Batch EC (vec d i) (.dma sem) (default : HIx 1) N D 15 (N * n) ∗ owing d i O ∗ mayWait d i O)
      ⊢ iprop((iprop(Transfers.Batch EC (vec d i) (.dma sem) (default : HIx 1) N D 15 (N * (n + 1)) ∗ owing d i O) -∗ wp frame (wpE defs₀ 𝒱₀ (vec d i) none) Set.univ (k ⟨⟩) Q)
        -∗ wp frame (wpE defs₀ 𝒱₀ (vec d i) none) Set.univ (.op (.waitDma2 sem (rowOf b rr) (outRow i rr o) h1 h2) k) Q) := by
  have hu : N * n + 1 * N ≤ N * 15 := by
    have := Nat.mul_le_mul_left N (show n + 1 ≤ 15 by omega)
    rw [Nat.mul_add] at this
    omega
  have e : N * (n + 1) = N * n + 1 * N := by rw [Nat.mul_add]; omega
  iintro ⟨HB, ⟨%W, HO⟩, Hmw⟩ Hk
  iapply (Transfers.wp_waitBatchMulO EC (defs := defs₀) 𝒱₀ (vec d i) none (default : HIx 1) 1 (hN.trans (Nat.one_mul N).symm) hu) $$ [HB HO Hmw]
  · isplitl [HB]
    · iexact HB
    isplitl [HO]
    · iexact HO
    iapply (Transfers.MayWaits.elim (.dma sem)) $$ Hmw
  iintro ⟨HB, HO⟩
  iapply Hk
  rw [e]
  isplitl [HB]
  · iexact HB
  iexists _
  iexact HO

/-- A row's three are waited for. -/
theorem wp_outsWait (rr : Fin 5) (hN6 : (outRow i rr a6).view.amount (.dma sOut.sem) = N) (hN7 : (outRow i rr a7).view.amount (.dma sOut.sem) = N)
    (hN8 : (outRow i rr a8).view.amount (.dma sOut.sem) = N) {D : Fin 15 → sProp (MT nD τ sig (HIx 1) (Elt F) ℕ UU ℕ)} {O : CellTallies nD τ sig (HIx 1)} :
    iprop(Transfers.Batch EC (vec d i) (.dma sOut.sem) (default : HIx 1) N D 15 (N * (3 * rr.val)) ∗ owing d i O ∗ mayWait d i O)
      ⊢ iprop((iprop(Transfers.Batch EC (vec d i) (.dma sOut.sem) (default : HIx 1) N D 15 (N * (3 * rr.val + 3)) ∗ owing d i O) -∗ wp frame (wpE defs₀ 𝒱₀ (vec d i) none) Set.univ (k ⟨⟩) Q)
        -∗ wp frame (wpE defs₀ 𝒱₀ (vec d i) none) Set.univ (outsWait i a6 a7 a8 a14 a16 a17 sOut rr >>= k) Q) := by
  have hrr := rr.isLt
  unfold outsWait outWait
  simp only [Prog.lift, Prog.bind_op, Prog.bind_ret, Prog.pure_eq_ret, Prog.bind_assoc]
  iintro ⟨HB, HO, #Hmw⟩ Hk
  iapply (wp_left hN6 (n := 3 * rr.val) (by omega)) $$ [HB HO]
  · isplitl [HB]
    · iexact HB
    isplitl [HO] <;> iassumption
  iintro ⟨HB, HO⟩
  iapply (wp_left hN7 (n := 3 * rr.val + 1) (by omega)) $$ [HB HO]
  · isplitl [HB]
    · iexact HB
    isplitl [HO] <;> iassumption
  iintro ⟨HB, HO⟩
  iapply (wp_left hN8 (n := 3 * rr.val + 2) (by omega)) $$ [HB HO]
  · isplitl [HB]
    · iexact HB
    isplitl [HO] <;> iassumption
  iintro ⟨HB, HO⟩
  iapply Hk
  isplitl [HB] <;> iassumption

end Steps

end Cert.Proof.Sel
end
-- ==== Proof.Task.lean ====
/-
  One task, whole: from the arrays it reads (at shares of their own), its part of the three results and its scratches, it
  ends with the same, its part of each result holding what `outScore` and `outBox` say.
-/
module

public import proofs.«01_k».proof.Proof.Tile

@[expose] public section

noncomputable section

namespace Cert.Proof.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2)

variable {F : FTy → Type} [FloatOps F]

local notation "𝕄" => MT nD τ sig (HIx 1) (Elt F) ℕ UU ℕ

variable {d : Dev nD} {i : grid0.Coords}

/-- The task. -/
theorem wp_task {a2 : Memref sig .scVector .hbm S160x20000 .f32} {a3 : Memref sig .scVector .hbm S2560 .f32}
    {a4 a5 : Memref sig .scVector .hbm S8x20000 .f32} {a6 a7 a8 : Memref sig .scVector .hbm S160x256 .f32}
    {a9 a10 a11 a12 : Memref sig .scVector .vmem S20000 .f32} {ha9 ha10 ha11 ha12} {a13 : Memref sig .scVector .vmem S80 .f32} {ha13}
    {a14 : Memref sig .scVector .vmem S1280 .f32} {a15 : Memref sig .scVector .vmem S1280 .i32}
    {a16 a17 : Memref sig .scVector .vmem S1280 .f32} {sIn sOut r0 r1 r2 : DmaSems sig S_}
    (h14 : a14.view.set = Finset.univ) (h15 : a15.view.set = Finset.univ) (h16 : a16.view.set = Finset.univ) (h17 : a17.view.set = Finset.univ)
    {N : Nat} (hN : 0 < N) (hN6 : ∀ {rr}, (outRow i rr a6).view.amount (.dma sOut.sem) = N)
    (hN7 : ∀ {rr}, (outRow i rr a7).view.amount (.dma sOut.sem) = N) (hN8 : ∀ {rr}, (outRow i rr a8).view.amount (.dma sOut.sem) = N)
    {q2 q3 q4 q5 : PosShare TreeShare} {f2 : Buf (Elt F) (a2.view.loc (vec d i))} {f3 : Buf (Elt F) (a3.view.loc (vec d i))}
    {f4 : Buf (Elt F) (a4.view.loc (vec d i))} {f5 : Buf (Elt F) (a5.view.loc (vec d i))}
    {g6 O6 : Buf (Elt F) (a6.view.loc (vec d i))} {g7 O7 : Buf (Elt F) (a7.view.loc (vec d i))} {g8 O8 : Buf (Elt F) (a8.view.loc (vec d i))}
    (hO6 : a6.view.read (Elt F) O6 = outScore (a2.view.read (Elt F) f2) (a3.view.read (Elt F) f3))
    (hO7 : a7.view.read (Elt F) O7 = outBox (a2.view.read (Elt F) f2) (a3.view.read (Elt F) f3) (a4.view.read (Elt F) f4))
    (hO8 : a8.view.read (Elt F) O8 = outBox (a2.view.read (Elt F) f2) (a3.view.read (Elt F) f3) (a5.view.read (Elt F) f5))
    {O : CellTallies nD τ sig (HIx 1)} :
    iprop(mayWait d i O ∗ ((a2.view.loc (vec d i) ↦{q2} f2) ∗ (a3.view.loc (vec d i) ↦{q3} f3) ∗ (a4.view.loc (vec d i) ↦{q4} f4) ∗ (a5.view.loc (vec d i) ↦{q5} f5))
        ∗ ((a6.view.loc (vec d i) ↦[rowsOf d i a6]{fullShare} g6) ∗ (a7.view.loc (vec d i) ↦[rowsOf d i a7]{fullShare} g7) ∗ (a8.view.loc (vec d i) ↦[rowsOf d i a8]{fullShare} g8))
        ∗ ((∃ f, a9.view.loc (vec d i) ↦{fullShare} f) ∗ (∃ f, a10.view.loc (vec d i) ↦{fullShare} f) ∗ (∃ f, a11.view.loc (vec d i) ↦{fullShare} f) ∗ (∃ f, a12.view.loc (vec d i) ↦{fullShare} f) ∗ (∃ f, a13.view.loc (vec d i) ↦{fullShare} f) ∗ (∃ f, a14.view.loc (vec d i) ↦{fullShare} f) ∗ (∃ f, a15.view.loc (vec d i) ↦{fullShare} f) ∗ (∃ f, a16.view.loc (vec d i) ↦{fullShare} f) ∗ (∃ f, a17.view.loc (vec d i) ↦{fullShare} f))
        ∗ (semVal (vec d i, .dma sIn.sem) 0 ∗ semVal (vec d i, .dma sOut.sem) 0 ∗ semVal (vec d i, .dma r0.sem) 0 ∗ semVal (vec d i, .dma r1.sem) 0 ∗ semVal (vec d i, .dma r2.sem) 0)
        ∗ owing d i O)
      ⊢ wp frame (wpE defs₀ 𝒱₀ (vec d i) none) Set.univ (bodyG i a2 a3 a4 a5 a6 a7 a8 a9 ha9 a10 ha10 a11 ha11 a12 ha12 a13 ha13 a14 a15 a16 a17 sIn sOut r0 r1 r2)
          fun _ => iprop(((a2.view.loc (vec d i) ↦{q2} f2) ∗ (a3.view.loc (vec d i) ↦{q3} f3) ∗ (a4.view.loc (vec d i) ↦{q4} f4) ∗ (a5.view.loc (vec d i) ↦{q5} f5))
            ∗ ((a6.view.loc (vec d i) ↦[rowsOf d i a6]{fullShare} O6) ∗ (a7.view.loc (vec d i) ↦[rowsOf d i a7]{fullShare} O7) ∗ (a8.view.loc (vec d i) ↦[rowsOf d i a8]{fullShare} O8))
            ∗ ((∃ f, a9.view.loc (vec d i) ↦{fullShare} f) ∗ (∃ f, a10.view.loc (vec d i) ↦{fullShare} f) ∗ (∃ f, a11.view.loc (vec d i) ↦{fullShare} f) ∗ (∃ f, a12.view.loc (vec d i) ↦{fullShare} f) ∗ (∃ f, a13.view.loc (vec d i) ↦{fullShare} f) ∗ (∃ f, a14.view.loc (vec d i) ↦{fullShare} f) ∗ (∃ f, a15.view.loc (vec d i) ↦{fullShare} f) ∗ (∃ f, a16.view.loc (vec d i) ↦{fullShare} f) ∗ (∃ f, a17.view.loc (vec d i) ↦{fullShare} f))
            ∗ (semVal (vec d i, .dma sIn.sem) 0 ∗ semVal (vec d i, .dma sOut.sem) 0 ∗ semVal (vec d i, .dma r0.sem) 0 ∗ semVal (vec d i, .dma r1.sem) 0 ∗ semVal (vec d i, .dma r2.sem) 0)
            ∗ owing d i O) := by
  iintro ⟨#Hmw, ⟨H2, H3, H4, H5⟩, ⟨H6, H7, H8⟩, ⟨⟨%c9, C9⟩, ⟨%c10, C10⟩, ⟨%c11, C11⟩, ⟨%c12, C12⟩, ⟨%c13, C13⟩, ⟨%c14, C14⟩, ⟨%c15, C15⟩, ⟨%c16, C16⟩, ⟨%c17, C17⟩⟩, ⟨VI, VO, V0, V1, V2⟩, HO⟩
  ihave C14 := (Entails.of_eq ((windows_split d i a14 h14 c14).trans (five _))) $$ C14
  icases C14 with ⟨A0, A1, A2, A3, A4⟩
  ihave C15 := (Entails.of_eq ((windows_split d i a15 h15 c15).trans (five _))) $$ C15
  icases C15 with ⟨D0, D1, D2, D3, D4⟩
  ihave C16 := (Entails.of_eq ((windows_split d i a16 h16 c16).trans (five _))) $$ C16
  icases C16 with ⟨S0, S1, S2, S3, S4⟩
  ihave C17 := (Entails.of_eq ((windows_split d i a17 h17 c17).trans (five _))) $$ C17
  icases C17 with ⟨E0, E1, E2, E3, E4⟩
  ihave H6 := (Entails.of_eq ((rows_split d i a6 g6).trans (five _))) $$ H6
  icases H6 with ⟨P0, P1, P2, P3, P4⟩
  ihave H7 := (Entails.of_eq ((rows_split d i a7 g7).trans (five _))) $$ H7
  icases H7 with ⟨U0, U1, U2, U3, U4⟩
  ihave H8 := (Entails.of_eq ((rows_split d i a8 g8).trans (five _))) $$ H8
  icases H8 with ⟨W0, W1, W2, W3, W4⟩
  imod (Transfers.batch_alloc' EC (vec d i) (default : HIx 1) N (pieces d i a6 a7 a8 a14 a16 a17 O6 O7 O8) (sm := .dma sOut.sem) (E := Set.univ)) $$ VO with HB
  unfold bodyG inIssue inWait
  simp only [Prog.lift, Prog.bind_op, Prog.bind_ret, Prog.pure_eq_ret, Prog.bind_assoc]
  iapply (wp_fetch (src := boxRow i a4) (row := a11) (sem := r0.sem) (by decide)) $$ [H4 C11 V0]
  · isplitl [H4]
    · iexact H4
    isplitl [C11] <;> iassumption
  iintro HF
  iapply (wp_arrive (src := boxRow i a4)) $$ [HF HO]
  · isplitl [HF]
    · iexact HF
    isplitl [HO] <;> iassumption
  iintro %fs %hs ⟨H4, C11, V0, HO⟩
  iapply (wp_fetch (src := boxRow i a5) (row := a12) (sem := r1.sem) (by decide)) $$ [H5 C12 V1]
  · isplitl [H5]
    · iexact H5
    isplitl [C12] <;> iassumption
  iintro HF
  iapply (wp_arrive (src := boxRow i a5)) $$ [HF HO]
  · isplitl [HF]
    · iexact HF
    isplitl [HO] <;> iassumption
  iintro %fe %he ⟨H5, C12, V1, HO⟩
  iapply (wp_fetch (src := thrRow i a3) (row := a13) (sem := r2.sem) (by decide)) $$ [H3 C13 V2]
  · isplitl [H3]
    · iexact H3
    isplitl [C13] <;> iassumption
  iintro HF
  iapply (wp_arrive (src := thrRow i a3)) $$ [HF HO]
  · isplitl [HF]
    · iexact HF
    isplitl [HO] <;> iassumption
  iintro %ft %ht ⟨H3, C13, V2, HO⟩
  have hs' := fun rr => hs.trans (read_boxRow i a4 rr f4)
  have he' := fun rr => he.trans (read_boxRow i a5 rr f5)
  have ht' := read_thr i a13 ft a3 f3 ht
  iapply (wp_fetch (src := inRow a2 (k0_off3 i) (k0_off3_inb i)) (row := a9) (sem := sIn.sem) (by decide)) $$ [H2 C9 VI]
  · isplitl [H2]
    · iexact H2
    isplitl [C9] <;> iassumption
  iintro HF
  iapply (wp_arrive (src := inRow a2 (k0_off3 i) (k0_off3_inb i))) $$ [HF HO]
  · isplitl [HF]
    · iexact HF
    isplitl [HO] <;> iassumption
  iintro %x0 %hx0 ⟨H2, C9, VI, HO⟩
  iapply (wp_fetch (src := inRow a2 (k0_off5 i) (k0_off5_inb i)) (row := a10) (sem := sIn.sem) (by decide)) $$ [H2 C10 VI]
  · isplitl [H2]
    · iexact H2
    isplitl [C10] <;> iassumption
  iintro HF
  iapply (wp_rowOut 0 hN6 hN7 hN8 hO6 hO7 hO8 (hs' 0) (he' 0) (ht' 0) (hx0.trans (read_inRow i a2 _ 0 (k0_off3_eq i) f2)))
    $$ [C9 C11 C12 C13 A0 D0 S0 E0 P0 U0 W0 HB]
  · isplitl [C9]
    · iexact C9
    isplitl [C11 C12 C13]
    · isplitl [C11]
      · iexact C11
      isplitl [C12] <;> iassumption
    isplitl [A0 D0 S0 E0]
    · isplitl [A0]
      · iexact A0
      isplitl [D0]
      · iexact D0
      isplitl [S0] <;> iassumption
    isplitl [P0 U0 W0]
    · isplitl [P0]
      · iexact P0
      isplitl [U0] <;> iassumption
    iexact HB
  iintro ⟨C9, ⟨C11, C12, C13⟩, D0, HB⟩
  iapply (wp_arrive (src := inRow a2 (k0_off5 i) (k0_off5_inb i))) $$ [HF HO]
  · isplitl [HF]
    · iexact HF
    isplitl [HO] <;> iassumption
  iintro %x1 %hx1 ⟨H2, C10, VI, HO⟩
  iapply (wp_fetch (src := inRow a2 (k0_off15 i) (k0_off15_inb i)) (row := a9) (sem := sIn.sem) (by decide)) $$ [H2 C9 VI]
  · isplitl [H2]
    · iexact H2
    isplitl [C9] <;> iassumption
  iintro HF
  iapply (wp_rowOut 1 hN6 hN7 hN8 hO6 hO7 hO8 (hs' 1) (he' 1) (ht' 1) (hx1.trans (read_inRow i a2 _ 1 (k0_off5_eq i) f2)))
    $$ [C10 C11 C12 C13 A1 D1 S1 E1 P1 U1 W1 HB]
  · isplitl [C10]
    · iexact C10
    isplitl [C11 C12 C13]
    · isplitl [C11]
      · iexact C11
      isplitl [C12] <;> iassumption
    isplitl [A1 D1 S1 E1]
    · isplitl [A1]
      · iexact A1
      isplitl [D1]
      · iexact D1
      isplitl [S1] <;> iassumption
    isplitl [P1 U1 W1]
    · isplitl [P1]
      · iexact P1
      isplitl [U1] <;> iassumption
    iexact HB
  iintro ⟨C10, ⟨C11, C12, C13⟩, D1, HB⟩
  iapply (wp_arrive (src := inRow a2 (k0_off15 i) (k0_off15_inb i))) $$ [HF HO]
  · isplitl [HF]
    · iexact HF
    isplitl [HO] <;> iassumption
  iintro %x2 %hx2 ⟨H2, C9, VI, HO⟩
  iapply (wp_fetch (src := inRow a2 (k0_off25 i) (k0_off25_inb i)) (row := a10) (sem := sIn.sem) (by decide)) $$ [H2 C10 VI]
  · isplitl [H2]
    · iexact H2
    isplitl [C10] <;> iassumption
  iintro HF
  iapply (wp_rowOut 2 hN6 hN7 hN8 hO6 hO7 hO8 (hs' 2) (he' 2) (ht' 2) (hx2.trans (read_inRow i a2 _ 2 (k0_off15_eq i) f2)))
    $$ [C9 C11 C12 C13 A2 D2 S2 E2 P2 U2 W2 HB]
  · isplitl [C9]
    · iexact C9
    isplitl [C11 C12 C13]
    · isplitl [C11]
      · iexact C11
      isplitl [C12] <;> iassumption
    isplitl [A2 D2 S2 E2]
    · isplitl [A2]
      · iexact A2
      isplitl [D2]
      · iexact D2
      isplitl [S2] <;> iassumption
    isplitl [P2 U2 W2]
    · isplitl [P2]
      · iexact P2
      isplitl [U2] <;> iassumption
    iexact HB
  iintro ⟨C9, ⟨C11, C12, C13⟩, D2, HB⟩
  iapply (wp_arrive (src := inRow a2 (k0_off25 i) (k0_off25_inb i))) $$ [HF HO]
  · isplitl [HF]
    · iexact HF
    isplitl [HO] <;> iassumption
  iintro %x3 %hx3 ⟨H2, C10, VI, HO⟩
  iapply (wp_fetch (src := inRow a2 (k0_off35 i) (k0_off35_inb i)) (row := a9) (sem := sIn.sem) (by decide)) $$ [H2 C9 VI]
  · isplitl [H2]
    · iexact H2
    isplitl [C9] <;> iassumption
  iintro HF
  iapply (wp_rowOut 3 hN6 hN7 hN8 hO6 hO7 hO8 (hs' 3) (he' 3) (ht' 3) (hx3.trans (read_inRow i a2 _ 3 (k0_off25_eq i) f2)))
    $$ [C10 C11 C12 C13 A3 D3 S3 E3 P3 U3 W3 HB]
  · isplitl [C10]
    · iexact C10
    isplitl [C11 C12 C13]
    · isplitl [C11]
      · iexact C11
      isplitl [C12] <;> iassumption
    isplitl [A3 D3 S3 E3]
    · isplitl [A3]
      · iexact A3
      isplitl [D3]
      · iexact D3
      isplitl [S3] <;> iassumption
    isplitl [P3 U3 W3]
    · isplitl [P3]
      · iexact P3
      isplitl [U3] <;> iassumption
    iexact HB
  iintro ⟨C10, ⟨C11, C12, C13⟩, D3, HB⟩
  iapply (wp_arrive (src := inRow a2 (k0_off35 i) (k0_off35_inb i))) $$ [HF HO]
  · isplitl [HF]
    · iexact HF
    isplitl [HO] <;> iassumption
  iintro %x4 %hx4 ⟨H2, C9, VI, HO⟩
  iapply (wp_rowOut 4 hN6 hN7 hN8 hO6 hO7 hO8 (hs' 4) (he' 4) (ht' 4) (hx4.trans (read_inRow i a2 _ 4 (k0_off35_eq i) f2)))
    $$ [C9 C11 C12 C13 A4 D4 S4 E4 P4 U4 W4 HB]
  · isplitl [C9]
    · iexact C9
    isplitl [C11 C12 C13]
    · isplitl [C11]
      · iexact C11
      isplitl [C12] <;> iassumption
    isplitl [A4 D4 S4 E4]
    · isplitl [A4]
      · iexact A4
      isplitl [D4]
      · iexact D4
      isplitl [S4] <;> iassumption
    isplitl [P4 U4 W4]
    · isplitl [P4]
      · iexact P4
      isplitl [U4] <;> iassumption
    iexact HB
  iintro ⟨C9, ⟨C11, C12, C13⟩, D4, HB⟩
  iapply (wp_outsWait 0 hN6 hN7 hN8) $$ [HB HO]
  · isplitl [HB]
    · iexact HB
    isplitl [HO] <;> iassumption
  iintro ⟨HB, HO⟩
  iapply (wp_outsWait 1 hN6 hN7 hN8) $$ [HB HO]
  · isplitl [HB]
    · iexact HB
    isplitl [HO] <;> iassumption
  iintro ⟨HB, HO⟩
  iapply (wp_outsWait 2 hN6 hN7 hN8) $$ [HB HO]
  · isplitl [HB]
    · iexact HB
    isplitl [HO] <;> iassumption
  iintro ⟨HB, HO⟩
  iapply (wp_outsWait 3 hN6 hN7 hN8) $$ [HB HO]
  · isplitl [HB]
    · iexact HB
    isplitl [HO] <;> iassumption
  iintro ⟨HB, HO⟩
  rw [← bind_pure (outsWait i a6 a7 a8 a14 a16 a17 sOut 4)]
  iapply (wp_outsWait 4 hN6 hN7 hN8) $$ [HB HO]
  · isplitl [HB]
    · iexact HB
    isplitl [HO] <;> iassumption
  iintro ⟨HB, HO⟩
  imod (Transfers.batch_collect' EC (vec d i) hN) $$ HB with ⟨HD, VO⟩
  ihave HD := (pieces_all d i a6 a7 a8 a14 a16 a17 O6 O7 O8) $$ HD
  icases HD with ⟨HD6, HD7, HD8⟩
  ihave HD6 := (piece_five d i a6 a14 h14 O6 c14) $$ HD6
  icases HD6 with ⟨H6, C14⟩
  ihave HD7 := (piece_five d i a7 a16 h16 O7 c16) $$ HD7
  icases HD7 with ⟨H7, C16⟩
  ihave HD8 := (piece_five d i a8 a17 h17 O8 c17) $$ HD8
  icases HD8 with ⟨H8, C17⟩
  ihave C15 := (windows_join d i a15 h15 c15) $$ [D0 D1 D2 D3 D4]
  · rw [five]
    isplitl [D0]
    · iexact D0
    isplitl [D1]
    · iexact D1
    isplitl [D2]
    · iexact D2
    isplitl [D3] <;> iassumption
  rw [wp_pure]
  imodintro
  isplitl [H2 H3 H4 H5]
  · isplitl [H2]
    · iexact H2
    isplitl [H3]
    · iexact H3
    isplitl [H4] <;> iassumption
  isplitl [H6 H7 H8]
  · isplitl [H6]
    · iexact H6
    isplitl [H7] <;> iassumption
  isplitl [C9 C10 C11 C12 C13 C14 C15 C16 C17]
  · isplitl [C9]
    · iexists _
      iexact C9
    isplitl [C10]
    · iexists _
      iexact C10
    isplitl [C11]
    · iexists _
      iexact C11
    isplitl [C12]
    · iexists _
      iexact C12
    isplitl [C13]
    · iexists _
      iexact C13
    isplitl [C14]
    · iexact C14
    isplitl [C15]
    · iexact C15
    isplitl [C16]
    · iexact C16
    iexact C17
  isplitl [VI VO V0 V1 V2]
  · isplitl [VI]
    · iexact VI
    isplitl [VO]
    · iexact VO
    isplitl [V0]
    · iexact V0
    isplitl [V1] <;> iassumption
  iexact HO

end Cert.Proof.Sel
end
-- ==== Proof.Payload.lean ====
/-
  What the launch hands out and gets back. Each of the two SparseCores, and each of a core's sixteen vector subcores, reads
  the four arrays at a share of its own and writes its own rows of the three results: core `c` and subcore `s` the five
  rows `10 s + 5 c, …, 10 s + 5 c + 4`. The rows come back holding what `outScore` and `outBox` say.
-/
module

public import proofs.«01_k».proof.Proof.Task
public import Idealize.ShloMosaic.Lib.SparseCore.Quiescent
public import Idealize.ShloMosaic.Lib.StableHlo.Run
public import Idealize.ShloMosaic.Lib.Pipeline.Kit

@[expose] public section

noncomputable section

namespace Cert.Proof.Sel

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Who writes which rows -/

/-- Core `c`'s rows, -/
def coreSet (c : Fin 2) : Finset S160x256.Idx := Finset.univ.filter fun y => (y 0).val / 5 % 2 = c.val

/-- and those of its subcore `s`. -/
def tileSet (c : Fin 2) (s : Fin 16) : Finset S160x256.Idx := Finset.univ.filter fun y => (y 0).val / 5 = 2 * s.val + c.val

theorem core_disjoint (c c' : Fin 2) (h : c ≠ c') : Disjoint (coreSet c) (coreSet c') :=
  Finset.disjoint_left.2 fun _ hy hy' => h (Fin.ext ((Finset.mem_filter.1 hy).2.symm.trans (Finset.mem_filter.1 hy').2))

theorem core_cover : Finset.univ.biUnion coreSet = Finset.univ := by
  refine Finset.eq_univ_of_forall fun y => ?_
  exact Finset.mem_biUnion.2 ⟨⟨(y 0).val / 5 % 2, Nat.mod_lt _ (by decide)⟩, Finset.mem_univ _, Finset.mem_filter.2 ⟨Finset.mem_univ _, Eq.refl _⟩⟩

theorem tile_disjoint (c : Fin 2) (s s' : Fin 16) (h : s ≠ s') : Disjoint (tileSet c s) (tileSet c s') := by
  refine Finset.disjoint_left.2 fun _ hy hy' => h (Fin.ext ?_)
  have h1 := (Finset.mem_filter.1 hy).2
  have h2 := (Finset.mem_filter.1 hy').2
  omega

theorem tile_cover (c : Fin 2) : Finset.univ.biUnion (tileSet c) = coreSet c := by
  refine Finset.ext fun y => ?_
  constructor
  · intro hy
    obtain ⟨s, -, hy⟩ := Finset.mem_biUnion.1 hy
    have h := (Finset.mem_filter.1 hy).2
    have hc := c.isLt
    exact Finset.mem_filter.2 ⟨Finset.mem_univ _, by omega⟩
  · intro hy
    have h := (Finset.mem_filter.1 hy).2
    have hy0 : (y 0).val < 160 := (y 0).isLt
    have h16 : (y 0).val / 5 / 2 < 16 := by omega
    exact Finset.mem_biUnion.2 ⟨⟨(y 0).val / 5 / 2, h16⟩, Finset.mem_univ _, Finset.mem_filter.2 ⟨Finset.mem_univ _, by
      show (y 0).val / 5 = 2 * ((y 0).val / 5 / 2) + c.val
      omega⟩⟩

/-! ## What is handed out -/

variable (m : (ℓ : Loc nD τ sig) → Buf (Elt F) ℓ) (d : Dev nD)

abbrev xLoc : Loc nD τ sig := (SparseCore.T d).loc main_arg0
abbrev wLoc : Loc nD τ sig := (SparseCore.T d).loc main_arg1
abbrev sLoc : Loc nD τ sig := (SparseCore.T d).loc main_arg2
abbrev eLoc : Loc nD τ sig := (SparseCore.T d).loc main_arg3
abbrev tLoc : Loc nD τ sig := (SparseCore.T d).loc main_v0
abbrev oLoc : Loc nD τ sig := (SparseCore.T d).loc main_v1_0
abbrev pLoc : Loc nD τ sig := (SparseCore.T d).loc main_v1_1
abbrev rLoc : Loc nD τ sig := (SparseCore.T d).loc main_v1_2

/-- The lane thresholds, flat, as the call gets them: the second argument row after row. -/
def thrs : Buf (Elt F) (tLoc d) := fun y => shapeCast S2560 (m (wLoc d)) shapeCasts_S160x16_S2560 y

/-- What the three results end holding. -/
def fin0 : Buf (Elt F) (oLoc d) := outScore (m (xLoc d)) (thrs m d)
def fin1 : Buf (Elt F) (pLoc d) := outBox (m (xLoc d)) (thrs m d) (m (sLoc d))
def fin2 : Buf (Elt F) (rLoc d) := outBox (m (xLoc d)) (thrs m d) (m (eLoc d))

/-- The four arrays, to be read at share `q`. -/
abbrev inputs (q : PosShare TreeShare) : sProp 𝕄 :=
  iprop((xLoc d ↦{q} m (xLoc d)) ∗ (tLoc d ↦{q} thrs m d) ∗ (sLoc d ↦{q} m (sLoc d)) ∗ (eLoc d ↦{q} m (eLoc d)))

/-- Some rows of the three results. -/
abbrev rows (A : Finset S160x256.Idx) (f : Buf (Elt F) (oLoc d)) (g : Buf (Elt F) (pLoc d)) (h : Buf (Elt F) (rLoc d)) : sProp 𝕄 :=
  iprop((oLoc d ↦[A]{fullShare} f) ∗ (pLoc d ↦[A]{fullShare} g) ∗ (rLoc d ↦[A]{fullShare} h))

/-- The shares: of a core, -/
abbrev coreShare (c : Fin 2) : PosShare TreeShare := Transfers.dealOf fullShare Finset.univ c

/-- and of a subcore. -/
abbrev tileShare (c : Fin 2) (s : Fin 16) : PosShare TreeShare := Transfers.dealOf (coreShare c) Finset.univ s

/-- The handshakes' payloads. -/
def P : (K (F := F)).Pay (nD := nD) (Val := Elt F) (Name := ℕ) (U := UU) where
  st := fun q d c => match q with
    | 0 => iprop(inputs m d (coreShare (Fin.cast nCore_zero c)) ∗ rows d (coreSet (Fin.cast nCore_zero c)) (m (oLoc d)) (m (pLoc d)) (m (rLoc d)))
  dn := fun q d c => match q with
    | 0 => iprop(inputs m d (coreShare (Fin.cast nCore_zero c)) ∗ rows d (coreSet (Fin.cast nCore_zero c)) (fin0 m d) (fin1 m d) (fin2 m d))
  go := fun q d c i => match q with
    | 0 => iprop(inputs m d (tileShare (Fin.cast nCore_zero c) (Fin.cast nSub_zero i))
        ∗ rows d (tileSet (Fin.cast nCore_zero c) (Fin.cast nSub_zero i)) (m (oLoc d)) (m (pLoc d)) (m (rLoc d)))
  td := fun q d c i => match q with
    | 0 => iprop(inputs m d (tileShare (Fin.cast nCore_zero c) (Fin.cast nSub_zero i))
        ∗ rows d (tileSet (Fin.cast nCore_zero c) (Fin.cast nSub_zero i)) (fin0 m d) (fin1 m d) (fin2 m d))
  x := fun _ _ => iprop(emp)

instance P_storable : (P (F := F) m).IsStorable where
  st q d c := match q with
    | 0 => (inferInstance : BI.Storable (upEmb : UEmb _ 𝕄)
        iprop(inputs m d (coreShare (Fin.cast nCore_zero c)) ∗ rows d (coreSet (Fin.cast nCore_zero c)) (m (oLoc d)) (m (pLoc d)) (m (rLoc d))))
  dn q d c := match q with
    | 0 => (inferInstance : BI.Storable (upEmb : UEmb _ 𝕄)
        iprop(inputs m d (coreShare (Fin.cast nCore_zero c)) ∗ rows d (coreSet (Fin.cast nCore_zero c)) (fin0 m d) (fin1 m d) (fin2 m d)))
  go q d c i := match q with
    | 0 => (inferInstance : BI.Storable (upEmb : UEmb _ 𝕄) iprop(inputs m d (tileShare (Fin.cast nCore_zero c) (Fin.cast nSub_zero i))
        ∗ rows d (tileSet (Fin.cast nCore_zero c) (Fin.cast nSub_zero i)) (m (oLoc d)) (m (pLoc d)) (m (rLoc d))))
  td q d c i := match q with
    | 0 => (inferInstance : BI.Storable (upEmb : UEmb _ 𝕄) iprop(inputs m d (tileShare (Fin.cast nCore_zero c) (Fin.cast nSub_zero i))
        ∗ rows d (tileSet (Fin.cast nCore_zero c) (Fin.cast nSub_zero i)) (fin0 m d) (fin1 m d) (fin2 m d)))

/-! ## Split and join -/

/-- The arrays at one share are the arrays at each of several shares dealt out of it; -/
theorem inputs_deal {n : Nat} [NeZero n] (q : PosShare TreeShare) :
    (inputs m d q : sProp 𝕄) = bigSep Finset.univ fun i : Fin n => inputs m d (Transfers.dealOf q Finset.univ i) := by
  have hne : (Finset.univ : Finset (Fin n)).Nonempty := ⟨0, Finset.mem_univ _⟩
  unfold inputs
  rw [bigSep_sep', bigSep_sep', bigSep_sep', ← Transfers.pointsTo_deal _ hne, ← Transfers.pointsTo_deal _ hne, ← Transfers.pointsTo_deal _ hne,
    ← Transfers.pointsTo_deal _ hne]

/-- and rows are held part by part. -/
theorem rows_parts {n : Nat} (A : Finset S160x256.Idx) (I : Fin n → Finset S160x256.Idx) (hd : ∀ b b', b ≠ b' → Disjoint (I b) (I b'))
    (hA : Finset.univ.biUnion I = A) (f : Buf (Elt F) (oLoc d)) (g : Buf (Elt F) (pLoc d)) (h : Buf (Elt F) (rLoc d)) :
    (rows d A f g h : sProp 𝕄) = bigSep Finset.univ fun i => rows d (I i) f g h := by
  unfold rows
  rw [bigSep_sep', bigSep_sep', Ring.pointsTo_sub_blocks (ℓ := oLoc d) I hd A hA f, Ring.pointsTo_sub_blocks (ℓ := pLoc d) I hd A hA g,
    Ring.pointsTo_sub_blocks (ℓ := rLoc d) I hd A hA h]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's part is its subcores'. -/
theorem core_tiles (c : Fin 2) (f : Buf (Elt F) (oLoc d)) (g : Buf (Elt F) (pLoc d)) (h : Buf (Elt F) (rLoc d)) :
    (iprop(inputs m d (coreShare c) ∗ rows d (coreSet c) f g h) : sProp 𝕄)
      = bigSep Finset.univ fun s : Fin 16 => iprop(inputs m d (tileShare c s) ∗ rows d (tileSet c s) f g h) := by
  rw [bigSep_sep', ← inputs_deal (n := 16), ← rows_parts d (coreSet c) (tileSet c) (tile_disjoint c) (tile_cover c)]

/-- The whole is the two cores'. -/
theorem whole_cores (f : Buf (Elt F) (oLoc d)) (g : Buf (Elt F) (pLoc d)) (h : Buf (Elt F) (rLoc d)) :
    (iprop(inputs m d fullShare ∗ rows d Finset.univ f g h) : sProp 𝕄)
      = bigSep Finset.univ fun c : Fin 2 => iprop(inputs m d (coreShare c) ∗ rows d (coreSet c) f g h) := by
  rw [bigSep_sep', ← inputs_deal (n := 2), ← rows_parts d Finset.univ coreSet core_disjoint core_cover]

theorem vecSplit : (K (F := F)).VecSplit' (P m) 0 := by
  intro d c
  show iprop(inputs m d (coreShare (Fin.cast nCore_zero c)) ∗ rows d (coreSet (Fin.cast nCore_zero c)) (m (oLoc d)) (m (pLoc d)) (m (rLoc d)))
    ⊢ |={Set.univ}=> iprop((bigSep Finset.univ fun i : Fin ((K (F := F)).nSub 0) =>
          iprop(inputs m d (tileShare (Fin.cast nCore_zero c) (Fin.cast nSub_zero i))
            ∗ rows d (tileSet (Fin.cast nCore_zero c) (Fin.cast nSub_zero i)) (m (oLoc d)) (m (pLoc d)) (m (rLoc d))))
      ∗ ((bigSep Finset.univ fun i : Fin ((K (F := F)).nSub 0) => iprop(inputs m d (tileShare (Fin.cast nCore_zero c) (Fin.cast nSub_zero i))
            ∗ rows d (tileSet (Fin.cast nCore_zero c) (Fin.cast nSub_zero i)) (fin0 m d) (fin1 m d) (fin2 m d)))
          -∗ iprop(inputs m d (coreShare (Fin.cast nCore_zero c)) ∗ rows d (coreSet (Fin.cast nCore_zero c)) (fin0 m d) (fin1 m d) (fin2 m d))))
  generalize Fin.cast nCore_zero c = c
  rw [bigSep_tasks (F := F) (fun s => iprop(inputs m d (tileShare c s) ∗ rows d (tileSet c s) (m (oLoc d)) (m (pLoc d)) (m (rLoc d)))),
    bigSep_tasks (F := F) (fun s => iprop(inputs m d (tileShare c s) ∗ rows d (tileSet c s) (fin0 m d) (fin1 m d) (fin2 m d))),
    ← core_tiles, ← core_tiles]
  iintro H
  imodintro
  isplitl [H]
  · iexact H
  iintro H
  iexact H

end Cert.Proof.Sel
end
-- ==== Proof.Body.lean ====
/-
  The kernel's body, in the steps of `Text`: the printed text, part by part, is the five rows' work written once and used
  five times.
-/
module
public import proofs.«01_k».proof.Proof.Text
@[expose] public section
noncomputable section
namespace Cert.Proof.Sel
open Cert.KernelIdeal Cert.KernelIdeal.Gen
open Idealize.ShloMosaic Idealize.SL.Sem
variable {F : FTy → Type} [FloatOps F]
section
variable (i : grid0.Coords) (arg2 : Memref sig .scVector .hbm S160x20000 .f32) (harg2 : arg2.IsWhole) (arg3 : Memref sig .scVector .hbm S2560 .f32) (harg3 : arg3.IsWhole) (arg4 : Memref sig .scVector .hbm S8x20000 .f32) (harg4 : arg4.IsWhole) (arg5 : Memref sig .scVector .hbm S8x20000 .f32) (harg5 : arg5.IsWhole) (arg6 : Memref sig .scVector .hbm S160x256 .f32) (harg6 : arg6.IsWhole) (arg7 : Memref sig .scVector .hbm S160x256 .f32) (harg7 : arg7.IsWhole) (arg8 : Memref sig .scVector .hbm S160x256 .f32) (harg8 : arg8.IsWhole) (arg9 : Memref sig .scVector .vmem S20000 .f32) (harg9 : arg9.IsWhole) (arg10 : Memref sig .scVector .vmem S20000 .f32) (harg10 : arg10.IsWhole) (arg11 : Memref sig .scVector .vmem S20000 .f32) (harg11 : arg11.IsWhole) (arg12 : Memref sig .scVector .vmem S20000 .f32) (harg12 : arg12.IsWhole) (arg13 : Memref sig .scVector .vmem S80 .f32) (harg13 : arg13.IsWhole) (arg14 : Memref sig .scVector .vmem S1280 .f32) (harg14 : arg14.IsWhole) (arg15 : Memref sig .scVector .vmem S1280 .i32) (harg15 : arg15.IsWhole) (arg16 : Memref sig .scVector .vmem S1280 .f32) (harg16 : arg16.IsWhole) (arg17 : Memref sig .scVector .vmem S1280 .f32) (harg17 : arg17.IsWhole) (arg18 : DmaSems sig S_) (arg19 : DmaSems sig S_) (v557_r0 : DmaSems sig S_) (v557_r1 : DmaSems sig S_) (v557_r2 : DmaSems sig S_)
set_option maxRecDepth 65536 in
set_option maxHeartbeats 4000000 in
/-- The printed body is `bodyG`. -/
theorem body_eq : cc0__sc_select_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v557_r0 v557_r1 v557_r2 = bodyG i arg2 arg3 arg4 arg5 arg6 arg7 arg8 arg9 harg9 arg10 harg10 arg11 harg11 arg12 harg12 arg13 harg13 arg14 arg15 arg16 arg17 arg18 arg19 v557_r0 v557_r1 v557_r2 := by
  rw [cc0__sc_select_body_eq_skeleton]
  unfold cc0__sc_select_body_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  simp only [k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel]
  unfold bodyG outsIssue outsWait outIssue outWait inIssue inWait rowG subG
  simp only [Prog.lift, Prog.bind_op, Prog.bind_ret, Prog.pure_eq_ret, Prog.bind_assoc]
  rfl
end
end Cert.Proof.Sel
end
-- ==== Proof.Obligation.lean ====
/-
  The task as the launch asks for it: from its part of the call's arrays and everything that is its own, it ends with its
  part of the results written and everything of its own given back.
-/
module

public import proofs.«01_k».proof.Proof.Payload
public import proofs.«01_k».proof.Proof.Body

@[expose] public section

noncomputable section

namespace Cert.Proof.Sel

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What is the task's own -/

/-- Out of all the things of a set, the ones some `Fin n` names, and the rest. -/
theorem bigSep_named {I : Type} [DecidableEq I] {n : Nat} (A : Finset I) (e : Fin n → I) (he : Function.Injective e) (hA : ∀ j, e j ∈ A)
    (Φ : I → sProp 𝕄) :
    bigSep A Φ = iprop((bigSep Finset.univ fun j => Φ (e j)) ∗ bigSep (A \ Finset.univ.map ⟨e, he⟩) Φ) := by
  have hsub : Finset.univ.map ⟨e, he⟩ ⊆ A := fun y hy => by
    obtain ⟨j, -, rfl⟩ := Finset.mem_map.1 hy
    exact hA j
  have hm := Idealize.SL.BI.bigSep_map (s := (Finset.univ : Finset (Fin n))) ⟨e, he⟩ (Φ := Φ)
  have hu := SparseCore.bigSep_union' (Finset.disjoint_sdiff (s := Finset.univ.map ⟨e, he⟩) (t := A)) (Φ := Φ)
  rw [Finset.union_sdiff_of_subset hsub, hm] at hu
  exact hu

/-- The nine scratch buffers, -/
def scratch : Fin 9 → Ref sig .scVector :=
  ![cc0_scratch0, cc0_scratch1, cc0_scratch2, cc0_scratch3, cc0_scratch4, cc0_scratch5, cc0_scratch6, cc0_scratch7, cc0_scratch8]

theorem scratch_injective : Function.Injective scratch := by decide

/-- and the five counters copies are waited for on. -/
def counter : Fin 5 → SemLoc sig :=
  ![.dma cc0_scratch9.sem, .dma cc0_scratch10.sem, .dma cc0_scoped0.sem, .dma cc0_scoped1.sem, .dma cc0_scoped2.sem]

theorem counter_injective : Function.Injective counter := by decide

theorem counter_scoped : ∀ j, (counter j).isScoped .scVector = true := by decide

variable (d : Dev nD) (i : grid0.Coords)

abbrev scratchRef (j : Fin 9) : DevRef τ sig := (Proc.scVector (cV i) (jV i)).devRef (scratch j)

theorem scratchRef_injective : Function.Injective (scratchRef i) := fun _ _ h => scratch_injective (Proc.devRef_injective _ h)

abbrev counterCell (j : Fin 5) : GSem nD τ sig := (vec d i, counter j)

theorem counterCell_injective : Function.Injective (counterCell d i) := fun _ _ h => counter_injective (congrArg Prod.snd h)

/-- The rest of its buffers, and of its counters. -/
def otherBufs : sProp 𝕄 :=
  bigSep (ownRefs (τ := τ) (.scVector (cV i) (jV i)) \ Finset.univ.map ⟨scratchRef i, scratchRef_injective i⟩)
    fun b => iprop(∃ f, ((d, b) : Loc nD τ sig) ↦{fullShare} f)
def otherSems : sProp 𝕄 :=
  bigSep (ownCells (vec d i) \ Finset.univ.map ⟨counterCell d i, counterCell_injective d i⟩) fun g => semVal g 0

theorem own_bufs : (ownBufs (vec d i) : sProp 𝕄)
    = iprop(((∃ f, (vec d i).loc cc0_scratch0 ↦{fullShare} f) ∗ (∃ f, (vec d i).loc cc0_scratch1 ↦{fullShare} f)
        ∗ (∃ f, (vec d i).loc cc0_scratch2 ↦{fullShare} f) ∗ (∃ f, (vec d i).loc cc0_scratch3 ↦{fullShare} f)
        ∗ (∃ f, (vec d i).loc cc0_scratch4 ↦{fullShare} f) ∗ (∃ f, (vec d i).loc cc0_scratch5 ↦{fullShare} f)
        ∗ (∃ f, (vec d i).loc cc0_scratch6 ↦{fullShare} f) ∗ (∃ f, (vec d i).loc cc0_scratch7 ↦{fullShare} f)
        ∗ (∃ f, (vec d i).loc cc0_scratch8 ↦{fullShare} f)) ∗ otherBufs d i) := by
  unfold SparseCore.Cfg.ownBufs
  refine (bigSep_named (n := 9) _ (scratchRef i) (scratchRef_injective i) (fun j => SparseCore.Cfg.mem_ownRefs_of_owner ?_) _).trans ?_
  · revert j
    intro j
    fin_cases j <;> rfl
  · rw [bigSep_univ_eq_bigSepL [0, 1, 2, 3, 4, 5, 6, 7, 8] (by decide) (by decide)]
    rfl

theorem own_sems : (ownSems0 (vec d i) : sProp 𝕄)
    = iprop((semVal (vec d i, .dma cc0_scratch9.sem) 0 ∗ semVal (vec d i, .dma cc0_scratch10.sem) 0 ∗ semVal (vec d i, .dma cc0_scoped0.sem) 0
        ∗ semVal (vec d i, .dma cc0_scoped1.sem) 0 ∗ semVal (vec d i, .dma cc0_scoped2.sem) 0) ∗ otherSems d i) := by
  unfold SparseCore.Cfg.ownSems0
  refine (bigSep_named (n := 5) _ (counterCell d i) (counterCell_injective d i) (fun j => mem_ownCells.mpr ⟨rfl, counter_scoped j⟩) _).trans ?_
  rw [bigSep_univ_eq_bigSepL [0, 1, 2, 3, 4] (by decide) (by decide)]
  rfl

/-! ## The task -/

variable (m : (ℓ : Loc nD τ sig) → Buf (Elt F) ℓ)

/-- Its core and its place there, by which its rows and its share are named. -/
abbrev coreOf : Fin 2 := ⟨(i 0).val, (i 0).isLt⟩
abbrev placeOf : Fin 16 := ⟨(i 1).val, (i 1).isLt⟩

/-- One row of a result is worth this much of a counter. -/
abbrev rowAmount : Nat := (outRow i 0 (Memref.whole main_v1_0_scv)).view.amount (.dma (cc0_scratch10 : DmaSems sig S_).sem)

theorem rowAmount_pos : 0 < rowAmount i := View.dmaCredit_pos _ (by decide)

theorem rows_whole0 : rowsOf d i (Memref.whole main_v1_0_scv) = tileSet (coreOf i) (placeOf i) := Finset.map_refl
theorem rows_whole1 : rowsOf d i (Memref.whole main_v1_1_scv) = tileSet (coreOf i) (placeOf i) := Finset.map_refl
theorem rows_whole2 : rowsOf d i (Memref.whole main_v1_2_scv) = tileSet (coreOf i) (placeOf i) := Finset.map_refl

theorem read_fin0 : (Memref.whole main_v1_0_scv).view.read (Elt F) (fin0 m d)
    = outScore ((Memref.whole main_arg0_scv).view.read (Elt F) (m (xLoc d))) ((Memref.whole main_v0_scv).view.read (Elt F) (thrs m d)) := by
  have h1 : (Memref.whole main_arg0_scv).view.read (Elt F) (m (xLoc d)) = m (xLoc d) := rfl
  have h2 : (Memref.whole main_v0_scv).view.read (Elt F) (thrs m d) = thrs m d := rfl
  rw [h1, h2]
  exact (show ∀ f : Buf (Elt F) (oLoc d), (Memref.whole main_v1_0_scv).view.read (Elt F) f = f from fun _ => rfl) (fin0 m d)

theorem read_fin1 : (Memref.whole main_v1_1_scv).view.read (Elt F) (fin1 m d)
    = outBox ((Memref.whole main_arg0_scv).view.read (Elt F) (m (xLoc d))) ((Memref.whole main_v0_scv).view.read (Elt F) (thrs m d))
        ((Memref.whole main_arg2_scv).view.read (Elt F) (m (sLoc d))) := by
  have h1 : (Memref.whole main_arg0_scv).view.read (Elt F) (m (xLoc d)) = m (xLoc d) := rfl
  have h2 : (Memref.whole main_v0_scv).view.read (Elt F) (thrs m d) = thrs m d := rfl
  have h3 : (Memref.whole main_arg2_scv).view.read (Elt F) (m (sLoc d)) = m (sLoc d) := rfl
  rw [h1, h2, h3]
  exact (show ∀ f : Buf (Elt F) (pLoc d), (Memref.whole main_v1_1_scv).view.read (Elt F) f = f from fun _ => rfl) (fin1 m d)

theorem read_fin2 : (Memref.whole main_v1_2_scv).view.read (Elt F) (fin2 m d)
    = outBox ((Memref.whole main_arg0_scv).view.read (Elt F) (m (xLoc d))) ((Memref.whole main_v0_scv).view.read (Elt F) (thrs m d))
        ((Memref.whole main_arg3_scv).view.read (Elt F) (m (eLoc d))) := by
  have h1 : (Memref.whole main_arg0_scv).view.read (Elt F) (m (xLoc d)) = m (xLoc d) := rfl
  have h2 : (Memref.whole main_v0_scv).view.read (Elt F) (thrs m d) = thrs m d := rfl
  have h3 : (Memref.whole main_arg3_scv).view.read (Elt F) (m (eLoc d)) = m (eLoc d) := rfl
  rw [h1, h2, h3]
  exact (show ∀ f : Buf (Elt F) (rLoc d), (Memref.whole main_v1_2_scv).view.read (Elt F) f = f from fun _ => rfl) (fin2 m d)

theorem tile_body (hF : (K (F := F)).Facts) (O : CellTallies nD τ sig (HIx 1)) (W : Waits sig (HIx 1)) (hO : ∀ g, O g none = 0) :
    iprop(levAts (K (F := F)).L (K (F := F)).lev ∗ emp
        ∗ (inputs m d (tileShare (coreOf i) (placeOf i)) ∗ rows d (tileSet (coreOf i) (placeOf i)) (m (oLoc d)) (m (pLoc d)) (m (rLoc d)))
        ∗ scopedBufs (vec d i) ∗ scopedSems0 (vec d i) ∗ owes (vec d i) O W)
      ⊢ wp frame (wpE (defs₀ (F := F)) 𝒱₀ (vec d i) none) Set.univ
          (cc0__sc_select_body i (Memref.whole main_arg0_scv) (Memref.isWhole_whole _) (Memref.whole main_v0_scv) (Memref.isWhole_whole _)
            (Memref.whole main_arg2_scv) (Memref.isWhole_whole _) (Memref.whole main_arg3_scv) (Memref.isWhole_whole _)
            (Memref.whole main_v1_0_scv) (Memref.isWhole_whole _) (Memref.whole main_v1_1_scv) (Memref.isWhole_whole _)
            (Memref.whole main_v1_2_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) (Memref.whole cc0_scratch8) (Memref.isWhole_whole _)
            cc0_scratch9 cc0_scratch10 cc0_scoped0 cc0_scoped1 cc0_scoped2)
          fun _ => iprop((inputs m d (tileShare (coreOf i) (placeOf i)) ∗ rows d (tileSet (coreOf i) (placeOf i)) (fin0 m d) (fin1 m d) (fin2 m d))
            ∗ scopedBufs (vec d i) ∗ scopedSems0 (vec d i)
            ∗ ∃ W', ⌜∀ p ∈ W', p ∈ W ∨ p.2 = none ∨ p.2 = some (0 : Fin 1)⌝ ∗ owes (vec d i) O W') := by
  rw [(K (F := F)).scopedBufs_V hF d (cV i) (jV i), SparseCore.Cfg.scopedSems0_V (Val := Elt F) d (cV i) (jV i), own_bufs, own_sems, body_eq]
  have hw := wp_task (F := F) (d := d) (i := i) (a2 := Memref.whole main_arg0_scv) (a3 := Memref.whole main_v0_scv) (a4 := Memref.whole main_arg2_scv)
    (a5 := Memref.whole main_arg3_scv) (a6 := Memref.whole main_v1_0_scv) (a7 := Memref.whole main_v1_1_scv) (a8 := Memref.whole main_v1_2_scv)
    (a9 := Memref.whole cc0_scratch0) (a10 := Memref.whole cc0_scratch1) (a11 := Memref.whole cc0_scratch2) (a12 := Memref.whole cc0_scratch3)
    (ha9 := Memref.isWhole_whole _) (ha10 := Memref.isWhole_whole _) (ha11 := Memref.isWhole_whole _) (ha12 := Memref.isWhole_whole _)
    (a13 := Memref.whole cc0_scratch4) (ha13 := Memref.isWhole_whole _) (a14 := Memref.whole cc0_scratch5) (a15 := Memref.whole cc0_scratch6)
    (a16 := Memref.whole cc0_scratch7) (a17 := Memref.whole cc0_scratch8) (sIn := cc0_scratch9) (sOut := cc0_scratch10)
    (r0 := cc0_scoped0) (r1 := cc0_scoped1) (r2 := cc0_scoped2)
    (View.set_whole _) (View.set_whole _) (View.set_whole _) (View.set_whole _) (rowAmount_pos i) rfl rfl rfl
    (q2 := tileShare (coreOf i) (placeOf i)) (q3 := tileShare (coreOf i) (placeOf i)) (q4 := tileShare (coreOf i) (placeOf i))
    (q5 := tileShare (coreOf i) (placeOf i)) (f2 := m (xLoc d)) (f3 := thrs m d) (f4 := m (sLoc d)) (f5 := m (eLoc d))
    (g6 := m (oLoc d)) (O6 := fin0 m d) (g7 := m (pLoc d)) (O7 := fin1 m d) (g8 := m (rLoc d)) (O8 := fin2 m d)
    (read_fin0 d m) (read_fin1 d m) (read_fin2 d m) (O := O)
  rw [rows_whole0, rows_whole1, rows_whole2] at hw
  iintro ⟨#Hlv, -, ⟨Hin, Hrows⟩, ⟨Hb, Hbo⟩, ⟨Hs, Hso⟩, HO⟩
  ihave Hmw := (show levAts (K (F := F)).L (K (F := F)).lev ⊢ Transfers.MayWaits (vec d i) (default : HIx 1) O from
    (K (F := F)).mayWaits_none (thr := vec d i) hO) $$ Hlv
  iapply (wp_wand frame _ _) $$ [Hin Hrows Hb Hs HO Hmw]
  · iapply hw
    isplitl [Hmw]; · iexact Hmw
    isplitl [Hin]; · iexact Hin
    isplitl [Hrows]; · iexact Hrows
    isplitl [Hb]; · iexact Hb
    isplitl [Hs]; · iexact Hs
    iexists W
    iexact HO
  iintro %_ ⟨Hin, Hrows, Hb, Hs, ⟨%W', HO⟩⟩
  isplitl [Hin Hrows]
  · isplitl [Hin]; · iexact Hin
    iexact Hrows
  isplitl [Hb Hbo]
  · isplitl [Hb]; · iexact Hb
    iexact Hbo
  isplitl [Hs Hso]
  · isplitl [Hs]; · iexact Hs
    iexact Hso
  iexists W'
  isplitr
  swap; · iexact HO
  ipureintro; intro p _
  rcases p.2 with _ | q
  · exact .inr (.inl rfl)
  · exact .inr (.inr (congrArg some (Subsingleton.elim q 0)))

/-! ## The obligation -/

/-- The coordinates of a task. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_select_body (coordsV c s)
            (Memref.whole main_arg0_scv) (Memref.isWhole_whole _) (Memref.whole main_v0_scv) (Memref.isWhole_whole _)
            (Memref.whole main_arg2_scv) (Memref.isWhole_whole _) (Memref.whole main_arg3_scv) (Memref.isWhole_whole _)
            (Memref.whole main_v1_0_scv) (Memref.isWhole_whole _) (Memref.whole main_v1_1_scv) (Memref.isWhole_whole _)
            (Memref.whole main_v1_2_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) (Memref.whole cc0_scratch8) (Memref.isWhole_whole _)
            cc0_scratch9 cc0_scratch10 cc0_scoped0 cc0_scoped1 cc0_scoped2) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) m hF O W hO

end Cert.Proof.Sel
end
-- ==== Proof.Launch.lean ====
/-
  The whole program, run: the second argument laid out flat, then the one call; at the end the four arguments are as they
  were and the three results hold `fin0`, `fin1` and `fin2`, at any float values.
-/
module

public import proofs.«01_k».proof.Proof.Obligation

@[expose] public section

noncomputable section

namespace Cert.Proof.Sel

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element: the handshakes' rounds, nothing of the kernel's own -/

def u₀ : UU := (initOf (K (F := F)).hsCells (K (F := F)).hsToks, 1)

theorem nothing_each {I : Type} (A : Finset I) : (bigSep A fun _ => iprop(emp)) = (iprop(emp) : sProp 𝕄) := bigSep_emp_const A

theorem hu₀ : (ownU (u₀ (F := F)) : sProp 𝕄)
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_each]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_each]
  iempintro

/-! ## The program on the TensorCore -/

abbrev x' : DevRef τ sig := Proc.devRef .tc (main_arg0 : Ref sig .tc)
abbrev w' : DevRef τ sig := Proc.devRef .tc (main_arg1 : Ref sig .tc)
abbrev s' : DevRef τ sig := Proc.devRef .tc (main_arg2 : Ref sig .tc)
abbrev e' : DevRef τ sig := Proc.devRef .tc (main_arg3 : Ref sig .tc)
abbrev t' : DevRef τ sig := Proc.devRef .tc (main_v0 : Ref sig .tc)
abbrev o' : DevRef τ sig := Proc.devRef .tc (main_v1_0 : Ref sig .tc)
abbrev p' : DevRef τ sig := Proc.devRef .tc (main_v1_1 : Ref sig .tc)
abbrev r' : DevRef τ sig := Proc.devRef .tc (main_v1_2 : Ref sig .tc)

/-- The one operation before the call: the second argument, flat. -/
abbrev opFlat : HloOp τ sig (Elt F) := StableHlo.reshape main_arg1 main_v0 (rfl : (.f32 : EltTy) = .f32) shapeCasts_S160x16_S2560

/-- The TensorCore's arrays. -/
abbrev S8 : Finset (DevRef τ sig) := {x', w', s', e', t', o', p', r'}

variable (d : Dev nD)

theorem held_S8 (W : Valuation τ sig (Elt F)) :
    (StableHlo.held (SparseCore.T d) S8 W : sProp 𝕄)
      = iprop((xLoc d ↦{fullShare} W x') ∗ (wLoc d ↦{fullShare} W w') ∗ (sLoc d ↦{fullShare} W s') ∗ (eLoc d ↦{fullShare} W e')
          ∗ (tLoc d ↦{fullShare} W t') ∗ (oLoc d ↦{fullShare} W o') ∗ (pLoc d ↦{fullShare} W p') ∗ rLoc d ↦{fullShare} W r') := by
  unfold StableHlo.held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (W : (b : Ref sig .tc) → Buf (Elt F) ((d.tc : Thread nD τ).loc b)) :
    (unscopedBufs d W : sProp 𝕄)
      = iprop((xLoc d ↦{fullShare} W main_arg0) ∗ (wLoc d ↦{fullShare} W main_arg1) ∗ (sLoc d ↦{fullShare} W main_arg2) ∗ (eLoc d ↦{fullShare} W main_arg3)
          ∗ (tLoc d ↦{fullShare} W main_v0) ∗ (oLoc d ↦{fullShare} W main_v1_0) ∗ (pLoc d ↦{fullShare} W main_v1_1)
          ∗ rLoc d ↦{fullShare} W main_v1_2) := by
  unfold unscopedBufs
  rw [show (Finset.univ.filter fun b : Ref sig .tc => ¬ b.isScoped)
      = {main_arg0, main_arg1, main_arg2, main_arg3, main_v0, main_v1_0, main_v1_1, main_v1_2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The memory at the start, and after the operation. -/
def V0 : Valuation τ sig (Elt F) := fun b => m (d, b)

theorem unscoped_held : (unscopedBufs d (fun b => m ((SparseCore.T d).loc b)) : sProp 𝕄) = StableHlo.held (SparseCore.T d) S8 (V0 m d) := by
  rw [unscopedBufs_eq, held_S8]; rfl

theorem flat_same {b : DevRef τ sig} (h : b ∉ ({t'} : Finset (DevRef τ sig))) : (opFlat (F := F)).result (V0 m d) b = m (d, b) :=
  (opFlat (F := F)).result_of_not_mem _ h

theorem flat_thrs : (opFlat (F := F)).result (V0 m d) t' = thrs m d :=
  (StableHlo.reshape_result _ _ _ _ _ _ _).trans rfl

theorem held_flat :
    (StableHlo.held (SparseCore.T d) S8 ((opFlat (F := F)).result (V0 m d)) : sProp 𝕄)
      = iprop((xLoc d ↦{fullShare} m (xLoc d)) ∗ (wLoc d ↦{fullShare} m (wLoc d)) ∗ (sLoc d ↦{fullShare} m (sLoc d)) ∗ (eLoc d ↦{fullShare} m (eLoc d))
          ∗ (tLoc d ↦{fullShare} thrs m d) ∗ (oLoc d ↦{fullShare} m (oLoc d)) ∗ (pLoc d ↦{fullShare} m (pLoc d)) ∗ rLoc d ↦{fullShare} m (rLoc d)) := by
  rw [held_S8, flat_thrs, flat_same m d (show x' ∉ ({t'} : Finset (DevRef τ sig)) by decide), flat_same m d (show w' ∉ ({t'} : Finset (DevRef τ sig)) by decide),
    flat_same m d (show s' ∉ ({t'} : Finset (DevRef τ sig)) by decide), flat_same m d (show e' ∉ ({t'} : Finset (DevRef τ sig)) by decide),
    flat_same m d (show o' ∉ ({t'} : Finset (DevRef τ sig)) by decide), flat_same m d (show p' ∉ ({t'} : Finset (DevRef τ sig)) by decide),
    flat_same m d (show r' ∉ ({t'} : Finset (DevRef τ sig)) by decide)]

theorem hFlat : (opFlat (F := F)).bufs ⊆ S8 := show ({w', t'} : Finset (DevRef τ sig)) ⊆ S8 by decide

theorem st0_eq : (bigSep Finset.univ fun c : Fin ((K (F := F)).nCore 0) => (P m).st 0 d c)
    = iprop(inputs m d fullShare ∗ rows d Finset.univ (m (oLoc d)) (m (pLoc d)) (m (rLoc d))) :=
  (bigSep_cores (F := F) fun c => iprop(inputs m d (coreShare c) ∗ rows d (coreSet c) (m (oLoc d)) (m (pLoc d)) (m (rLoc d)))).trans
    (whole_cores m d _ _ _).symm

theorem dn0_eq : (bigSep Finset.univ fun c : Fin ((K (F := F)).nCore 0) => (P m).dn 0 d c)
    = iprop(inputs m d fullShare ∗ rows d Finset.univ (fin0 m d) (fin1 m d) (fin2 m d)) :=
  (bigSep_cores (F := F) fun c => iprop(inputs m d (coreShare c) ∗ rows d (coreSet c) (fin0 m d) (fin1 m d) (fin2 m d))).trans
    (whole_cores m d _ _ _).symm

/-- What the program leaves the claims: the arguments as they were, the results. -/
abbrev FIN : sProp 𝕄 :=
  iprop((xLoc d ↦{fullShare} m (xLoc d)) ∗ (wLoc d ↦{fullShare} m (wLoc d)) ∗ (sLoc d ↦{fullShare} m (sLoc d)) ∗ (eLoc d ↦{fullShare} m (eLoc d))
    ∗ (oLoc d ↦{fullShare} fin0 m d) ∗ (pLoc d ↦{fullShare} fin1 m d) ∗ rLoc d ↦{fullShare} fin2 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S8) hFlat (V := V0 m d)) $$ [Hb Hheld]
  · isplitl [Hb] <;> iassumption
  iintro ⟨Hb, Hheld⟩
  rw [wp_ret]; imodintro
  ihave Hh := (Entails.of_eq (held_flat (F := F) m d)) $$ Hheld
  icases Hh with ⟨Hx, Hw, Hs, He, Ht, Ho, Hp, Hr⟩
  iapply ((K (F := F)).wp_run (D (F := F)) 𝒱 (EH := EH) (P := P m) κ d 0) $$ [Hst Hx Hw Hs He Ht Ho Hp Hr Hb Hts]
  isplitr; · iexact Hctx
  isplitl [Hst]; · iexact Hst
  isplitl [Hx Hs He Ht Ho Hp Hr]
  · rw [st0_eq]
    isplitl [Hx Hs He Ht]
    · isplitl [Hx]; · iexact Hx
      isplitl [Ht]; · iexact Ht
      isplitl [Hs]; · iexact Hs
      iexact He
    isplitl [Ho]; · iexact Ho
    isplitl [Hp]; · iexact Hp
    iexact Hr
  iintro ⟨Hst, Hdn⟩
  ihave Hdn' := (Entails.of_eq (dn0_eq m d)) $$ Hdn
  icases Hdn' with ⟨⟨Hx, Ht, Hs, He⟩, ⟨Ho, Hp, Hr⟩⟩
  imodintro
  isplitl [Hst]; · iexact Hst
  isplitr [Hb Hts]
  · isplitl [Hx]; · iexact Hx
    isplitl [Hw]; · iexact Hw
    isplitl [Hs]; · iexact Hs
    isplitl [He]; · iexact He
    isplitl [Ho]; · iexact Ho
    isplitl [Hp]; · iexact Hp
    iexact Hr
  isplitl [Hb] <;> iassumption

/-! ## What the final state holds -/

/-- An array held whole is what the memory holds. -/
theorem held_mem (st : Phys nD τ sig (Elt F)) (ℓ : Loc nD τ sig) (f : Buf (Elt F) ℓ) :
    (iprop(SI st ∗ (ℓ ↦{fullShare} f)) : sProp 𝕄) ⊢ iprop(⌜st.mem.mem ℓ = f⌝ ∗ SI st) := by
  iintro ⟨HSI, H⟩
  ihave H := (persistent_entails_right (SI_pointsTo_agree (st := st) (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- The facts the claims read. -/
def fq (d : Dev nD) (st : Phys nD τ sig (Elt F)) : Prop :=
  (st.mem.mem (oLoc d) = fin0 m d ∧ st.mem.mem (pLoc d) = fin1 m d ∧ st.mem.mem (rLoc d) = fin2 m d)
    ∧ (st.mem.mem (xLoc d) = m (xLoc d) ∧ st.mem.mem (wLoc d) = m (wLoc d) ∧ st.mem.mem (sLoc d) = m (sLoc d) ∧ st.mem.mem (eLoc d) = m (eLoc d))

theorem hfin (d : Dev nD) (st : Phys nD τ sig (Elt F)) : iprop(FIN m d ∗ SI st) ⊢ (⌜fq m d st⌝ : sProp 𝕄) := by
  iintro ⟨⟨Hx, Hw, Hs, He, Ho, Hp, Hr⟩, HSI⟩
  ihave H := (held_mem st (xLoc d) _) $$ [HSI Hx]
  · isplitl [HSI] <;> iassumption
  icases H with ⟨%hx, HSI⟩
  ihave H := (held_mem st (wLoc d) _) $$ [HSI Hw]
  · isplitl [HSI] <;> iassumption
  icases H with ⟨%hw, HSI⟩
  ihave H := (held_mem st (sLoc d) _) $$ [HSI Hs]
  · isplitl [HSI] <;> iassumption
  icases H with ⟨%hs, HSI⟩
  ihave H := (held_mem st (eLoc d) _) $$ [HSI He]
  · isplitl [HSI] <;> iassumption
  icases H with ⟨%he, HSI⟩
  ihave H := (held_mem st (oLoc d) _) $$ [HSI Ho]
  · isplitl [HSI] <;> iassumption
  icases H with ⟨%ho, HSI⟩
  ihave H := (held_mem st (pLoc d) _) $$ [HSI Hp]
  · isplitl [HSI] <;> iassumption
  icases H with ⟨%hp, HSI⟩
  ihave H := (held_mem st (rLoc d) _) $$ [HSI Hr]
  · isplitl [HSI] <;> iassumption
  icases H with ⟨%hr, -⟩
  ipureintro; exact ⟨⟨ho, hp, hr⟩, hx, hw, hs, he⟩

/-! ## The run -/

def QC : PUnit × MemSt nD τ sig (Elt F) → Prop := fun r =>
  (∀ c : Dev nD, (r.2.mem (oLoc c) = fin0 m c ∧ r.2.mem (pLoc c) = fin1 m c ∧ r.2.mem (rLoc c) = fin2 m c)
    ∧ (r.2.mem (xLoc c) = m (xLoc c) ∧ r.2.mem (wLoc c) = m (wLoc c) ∧ r.2.mem (sLoc c) = m (sLoc c) ∧ r.2.mem (eLoc c) = m (eLoc c)))
    ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sel
end
-- ==== Proof.Frames.lean ====
/-
  The three frames: each program runs to its end, leaves its arguments as they were and every semaphore at zero. The
  kernel's two texts are one program, whose run is `run_main`; the reference has no semaphores.
-/
module

public import proofs.«01_k».proof.Defs
public import proofs.«01_k».proof.Proof.Gen.Kernel
public import proofs.«01_k».proof.Proof.Gen.ReferenceIdeal.Run
public import Idealize.ShloMosaic.Lib.Quiescent
public import proofs.«01_k».proof.Proof.Launch

@[expose] public section

noncomputable section

namespace Cert.Proof

open Idealize.ShloMosaic Idealize.SL.Sem

/-- The kernel's frame on the machine's own floats. -/
theorem frame_kernel : Cert.quiescent_Kernel (hKernel := Cert.Kernel.Gen.facts) := fun m ρ _ =>
  (θ_run (Cert.KernelIdeal.defs (F := Bits)) _ _).mono (fun _ h => ⟨fun c => (h.1 c).2, h.2⟩) (Sel.run_main (F := Bits) m ρ)

/-- The kernel's frame on the ideal ones. -/
theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (Sel.run_main (F := Ideal) m ρ)

/-- The reference's frame. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2, sem_eq_zero_of_no_sems (by decide) r.2⟩) (Cert.ReferenceIdeal.Value.run (F := Ideal) m ρ)

end Cert.Proof

end
-- ==== Proof.RefCounts.lean ====
/-
  Two counts the reference takes of a mask, of any sizes: the running count along each row of a matrix, and the number of
  marks along the last of three axes.
-/
module

public import Idealize.ShloMosaic.Lib.Routing.Ops
public import Idealize.ShloMosaic.Lib.Routing.Count
public import Idealize.ShloMosaic.Lib.StableHlo.Predicate
public import Idealize.ShloMosaic.Lib.ValueIdxCore

@[expose] public section

noncomputable section

namespace Cert.Proof.Ref

open Idealize.ShloMosaic
open Idealize.ShloMosaic.ValueIdx
open Idealize.ShloMosaic.Routing

/-- A window that spans one row sums that row alone: the matrix's sum at row `r` is the sum over row `r` by itself. -/
theorem window_row {R N Nm1 : Nat} (hN : Nm1 + 1 = N) (x : IVec (shape2 R N) 32) (init : IVec shape0 32)
    (h : (shape2 R N).ReduceWindows (![1, N] : Fin 2 → Nat) ![1, 1] ![0, Nm1] ![0, 0] (shape2 R N))
    (h' : (shape2 1 N).ReduceWindows (![1, N] : Fin 2 → Nat) ![1, 1] ![0, Nm1] ![0, 0] (shape2 1 N)) (hu : 0 < shape0.numel)
    (r : Fin R) (j : Fin N) :
    Host.reduceWindow IntOp.addi ![1, N] ![1, 1] ![0, Nm1] ![0, 0] x init h hu (ix2 r j)
      = Host.reduceWindow IntOp.addi ![1, N] ![1, 1] ![0, Nm1] ![0, 0] (fun y : (shape2 1 N).Idx => x (ix2 r (y 1))) init h' hu
          (ix2 (0 : Fin 1) j) := by
  unfold Host.reduceWindow
  refine congrArg (fun g => List.foldl g _ _) (funext fun a => funext fun n => congrArg (IntOp.addi a) ?_)
  have hw : ((shape2 1 N).rowMajor.symm n 0).val = 0 := by
    have : ((shape2 1 N).rowMajor.symm n 0).val < 1 := ((shape2 1 N).rowMajor.symm n 0).isLt
    omega
  have hr := r.isLt
  dsimp only
  by_cases hc : Nm1 ≤ j.val * 1 + ((shape2 1 N).rowMajor.symm n 1).val ∧ j.val * 1 + ((shape2 1 N).rowMajor.symm n 1).val - Nm1 < N
  · rw [dif_pos fun a => by
        match a with
        | ⟨0, _⟩ =>
          show 0 ≤ r.val * 1 + ((shape2 1 N).rowMajor.symm n 0).val ∧ r.val * 1 + ((shape2 1 N).rowMajor.symm n 0).val - 0 < R
          rw [hw]
          omega
        | ⟨1, _⟩ => exact hc,
      dif_pos fun a => by
        match a with
        | ⟨0, _⟩ =>
          show 0 ≤ 0 * 1 + ((shape2 1 N).rowMajor.symm n 0).val ∧ 0 * 1 + ((shape2 1 N).rowMajor.symm n 0).val - 0 < 1
          rw [hw]
          omega
        | ⟨1, _⟩ => exact hc]
    refine congrArg x (funext fun a => Fin.ext ?_)
    match a with
    | ⟨0, _⟩ =>
      show r.val * 1 + ((shape2 1 N).rowMajor.symm n 0).val - 0 = r.val
      rw [hw]
      omega
    | ⟨1, _⟩ => rfl
  · rw [dif_neg fun hin => hc (hin 1), dif_neg fun hin => hc (hin 1)]

/-- The running count along the rows of a mask: at `(r, j)` it is how many of row `r`'s first `j + 1` entries are marked. -/
theorem running_count {R N Nm1 : Nat} (hN : Nm1 + 1 = N) (x : IVec (shape2 R N) 1) (hw : 1 < 32) (r : Fin R) (p : Nat → Prop) [DecidablePred p]
    (hx : ∀ n : Fin N, x (ix2 r n) = 1#1 ↔ p n.val) (init : IVec shape0 32) (hinit : init ix0 = 0#32)
    (h : (shape2 R N).ReduceWindows (![1, N] : Fin 2 → Nat) ![1, 1] ![0, Nm1] ![0, 0] (shape2 R N)) (hu : 0 < shape0.numel) (j : Fin N) :
    Host.reduceWindow IntOp.addi ![1, N] ![1, 1] ![0, Nm1] ![0, 0] (extui 32 x hw) init h hu (ix2 r j)
      = BitVec.ofNat 32 (Nat.count p (j.val + 1)) := by
  have h' : (shape2 1 N).ReduceWindows (![1, N] : Fin 2 → Nat) ![1, 1] ![0, Nm1] ![0, 0] (shape2 1 N) :=
    ⟨rfl, fun a => match a with
      | ⟨0, _⟩ => (by decide : 0 < 1 ∧ 1 ≤ 0 + 1 + 0 ∧ 1 = (0 + 1 + 0 - 1) / 1 + 1)
      | ⟨1, _⟩ => by
        show 0 < 1 ∧ N ≤ Nm1 + N + 0 ∧ N = (Nm1 + N + 0 - N) / 1 + 1
        refine ⟨by omega, by omega, ?_⟩
        rw [Nat.div_one]
        omega⟩
  rw [window_row hN _ init h h' hu r j, cumsum2 hN _ (fun n => if p n then 1 else 0) (fun n => ?_) init hinit h' hu j, sum_map_ite]
  show (x (ix2 r n)).setWidth 32 = _
  by_cases hp : p n.val
  · rw [if_pos hp, (hx n).2 hp]; rfl
  · rw [if_neg hp, eq_zero_of_ne_one fun e => hp ((hx n).1 e)]; rfl

/-- The marks along the last of three axes, counted. -/
theorem marks_count {R J N : Nat} (hN : N < 2 ^ 32) (x : IVec (shape3 R J N) 1) (hw : 1 < 32) (h : (shape3 R J N).ReducesTo [2] (shape2 R J))
    (hu : 0 < shape0.numel) (r : Fin R) (j : Fin J) (p : Nat → Prop) [DecidablePred p] (hx : ∀ n : Fin N, x (ix3 r j n) = 1#1 ↔ p n.val) :
    Host.reduce IntOp.addi (extui 32 x hw) (constantI shape0 32 0#32) h hu (ix2 r j) = BitVec.ofNat 32 (Nat.count p N) := by
  classical
  have hdrop : ∀ i : (shape3 R J N).Idx, h.drop i = ix2 r j ↔ i = ix3 r j (i 2) := fun i => by
    have h0 : (h.drop i 0 : Nat) = i 0 := Shape.ReducesTo.drop_apply_val h i 0
    have h1 : (h.drop i 1 : Nat) = i 1 := Shape.ReducesTo.drop_apply_val h i 1
    constructor
    · intro e
      rw [e] at h0 h1
      funext a
      match a with
      | ⟨0, _⟩ => exact Fin.ext h0.symm
      | ⟨1, _⟩ => exact Fin.ext h1.symm
      | ⟨2, _⟩ => rfl
    · intro e
      funext a
      match a with
      | ⟨0, _⟩ => exact Fin.ext (h0.trans (congrArg (fun i => (i 0).val) e))
      | ⟨1, _⟩ => exact Fin.ext (h1.trans (congrArg (fun i => (i 1).val) e))
  have hsum : ∑ i ∈ Finset.univ.filter (fun i : (shape3 R J N).Idx => h.drop i = ix2 r j), (extui 32 x hw i).toNat = Nat.count p N := by
    rw [← card_filter_fin N p, Finset.card_filter]
    refine Finset.sum_bij' (fun i _ => i 2) (fun n _ => ix3 r j n) (fun _ _ => Finset.mem_univ _)
      (fun n _ => Finset.mem_filter.2 ⟨Finset.mem_univ _, (hdrop _).2 rfl⟩) (fun i hi => ((hdrop i).1 (Finset.mem_filter.1 hi).2).symm)
      (fun _ _ => rfl) fun i hi => ?_
    have e := (hdrop i).1 (Finset.mem_filter.1 hi).2
    show ((x i).setWidth 32).toNat = _
    rw [StableHlo.Predicate.toNat_setWidth_bit]
    refine if_congr ?_ rfl rfl
    rw [e]
    exact hx (i 2)
  apply BitVec.eq_of_toNat_eq
  have hle : Nat.count p N < 2 ^ 32 := Nat.lt_of_le_of_lt (Nat.count_le _) hN
  rw [Host.reduce_eq_fold, BitVec.toNat_ofNat, Nat.mod_eq_of_lt hle]
  exact (StableHlo.Predicate.toNat_fold_addi _ _ (hsum ▸ hle)).trans hsum

end Cert.Proof.Ref

end
-- ==== Proof.RefValue.lean ====
/-
  The reference's results, step by step and entry by entry: which scores exceed their lane's threshold, how many do up to
  each position, where the `j`-th of them is, and what is read there.
-/
module

public import proofs.«01_k».proof.Proof.RefCounts
public import proofs.«01_k».proof.Proof.Target
public import proofs.«01_k».proof.Proof.Gen.ReferenceIdeal.Run

@[expose] public section

noncomputable section

namespace Cert.Proof.Ref

open Cert.ReferenceIdeal Cert.ReferenceIdeal.Gen
open Idealize.ShloMosaic
open Idealize.ShloMosaic.ValueIdx
open Cert.Proof.Sel (IsHit scoreAt rowScores rowThr posOf posSlot scoreSlot held_pos held_neg posOf_lt posSlot_lt boxes batchOf outScore outBox
  noScore)

variable {F : FTy → Type} [FloatOps F]

/-! ## The steps -/

section Steps

variable (X : Vec F S160x20000 .f32) (W : Vec F S160x16 .f32)

/-- Every position's threshold: its row's sixteen, repeated along the row. -/
def limits : Vec F S160x20000 .f32 :=
  shapeCast S160x20000 (broadcastInDim S1x160x1250x16 ![0, 1, 2, 3] bcast_S1x160x1x16_S1x160x1250x16_0_1_2_3
    (shapeCast S1x160x1x16 W shapeCasts_S160x16_S1x160x1x16)) shapeCasts_S1x160x1250x16_S160x20000

/-- The scores above theirs. -/
def above : IVec S160x20000 1 := cmpf .ogt X (limits W)

/-- How many of a row's scores up to a position are above. -/
def ranks : IVec S160x20000 32 :=
  Host.reduceWindow IntOp.addi ![1, 20000] ![1, 1] ![0, 19999] ![0, 0] (extui 32 (above X W) natLt_1_32)
    (broadcastInDim S_ ![] bcast_S_S_ (constantI S_ 32 0#32)) reduceWindows_S160x20000_S160x20000_w1s1p0_0_w20000s1p19999_0 h_S_

/-- Row, slot and position: the rank there does not exceed the slot. -/
def before : IVec S160x256x20000 1 :=
  cmpi .sle (broadcastInDim S160x256x20000 ![0, 1, 2] bcast_S160x1x20000_S160x256x20000_0_1_2
      (broadcastInDim S160x1x20000 ![0, 2] bcast_S160x20000_S160x1x20000_0_2 (ranks X W)))
    (broadcastInDim S160x256x20000 ![0, 1, 2] bcast_S1x256x1_S160x256x20000_0_1_2
      (broadcastInDim S1x256x1 ![1] bcast_S256_S1x256x1_1 (iotaInDim S256 32 0)))

/-- How many positions those are. -/
def reach : IVec S160x256 32 :=
  Host.reduce IntOp.addi (extui 32 (before X W) natLt_1_32) (constantI S_ 32 0#32) reducesTo_S160x256x20000_S160x256_d2 h_S_

/-- The slots that are taken. -/
def found : IVec S160x256 1 :=
  cmpi .slt (broadcastInDim S160x256 ![0, 1] bcast_S1x256_S160x256_0_1 (broadcastInDim S1x256 ![1] bcast_S256_S1x256_1 (iotaInDim S256 32 0)))
    (broadcastInDim S160x256 ![0, 1] bcast_S160x1_S160x256_0_1
      (extractStridedSlice S160x1 ![0, 19999] (ranks X W) slices_S160x20000_S160x1_0_19999))

/-- Each slot's position in its row, -/
def places : IVec S160x256 32 :=
  select (found X W) (reach X W) (broadcastInDim S160x256 ![] bcast_S_S160x256 (id (constantI S_ 32 0#32)))

/-- and in the rows laid end to end. -/
def flats : IVec S160x256 32 :=
  addi (broadcastInDim S160x256 ![0, 1] bcast_S160x1_S160x256_0_1
      (muli (broadcastInDim S160x1 ![0] bcast_S160_S160x1_0 (iotaInDim S160 32 0))
        (broadcastInDim S160x1 ![] bcast_S_S160x1 (constantI S_ 32 20000#32))))
    (places X W)

/-- What an array of rows holds at the slots' positions. -/
def picks (Y : Vec F S160x20000 .f32) : Vec F S160x256 .f32 :=
  Host.gather gather_S3200000_S160x256x1_S160x256_n_0_n_n_0_2_1 (shapeCast S3200000 Y shapeCasts_S160x20000_S3200000)
    (broadcastInDim S160x256x1 ![0, 1] bcast_S160x256_S160x256x1_0_1 (flats X W))

/-- The first result. -/
def scores : Vec F S160x256 .f32 :=
  select (found X W) (picks X W X) (broadcastInDim S160x256 ![] bcast_S_S160x256 (id (constant S_ .f32 0xBF800000#32)))

/-- A batch's boxes, once for each of its rows. -/
def spread (B : Vec F S8x20000 .f32) : Vec F S160x20000 .f32 :=
  shapeCast S160x20000 (broadcastInDim S8x20x20000 ![0, 2] bcast_S8x20000_S8x20x20000_0_2 B) shapeCasts_S8x20x20000_S160x20000

/-- The thresholds laid flat, as the kernel takes them. -/
def flatThr : Vec F Cert.KernelIdeal.S2560 .f32 :=
  shapeCast Cert.KernelIdeal.S2560 W Cert.KernelIdeal.Gen.shapeCasts_S160x16_S2560

end Steps

/-! ## Their entries -/

section Entries

variable (X : Vec F S160x20000 .f32) (W : Vec F S160x16 .f32) (r : Fin 160)

theorem lane_lt (n : Nat) : n % 16 < 16 := Nat.mod_lt _ (by decide)

theorem limits_ap (n : Fin 20000) : limits W (ix2 r n) = W (ix2 r ⟨n.val % 16, lane_lt _⟩) := by
  have hn := n.isLt
  unfold limits
  refine (shapeCast_apply _ _ _ (ix4 (0 : Fin 1) r (⟨n.val / 16, by omega⟩ : Fin 1250) (⟨n.val % 16, lane_lt _⟩ : Fin 16)) ?_).trans
    (shapeCast_apply _ _ _ _ ?_)
  · rw [Shape.rowMajor_val_four, Shape.rowMajor_val_two]
    show ((0 * 160 + r.val) * 1250 + n.val / 16) * 16 + n.val % 16 = r.val * 20000 + n.val
    omega
  · rw [Shape.rowMajor_val_four, Shape.rowMajor_val_two]
    show r.val * 16 + n.val % 16 = ((0 * 160 + r.val) * 1 + 0) * 16 + n.val % 16
    omega

theorem flatThr_ap (l : Fin 16) : rowThr (flatThr W) r (Cert.Proof.Sel.ln l) = W (ix2 r l) := by
  refine shapeCast_apply _ _ _ _ ?_
  rw [Shape.rowMajor_val_one, Shape.rowMajor_val_two]
  show r.val * 16 + l.val = 16 * r.val + l.val
  omega

/-- Row `r`'s hits. -/
abbrev Hit : Nat → Prop := IsHit (rowScores X r) (rowThr (flatThr W) r)

theorem scoreAt_row (n : Fin 20000) : scoreAt (rowScores X r) n.val = X (ix2 r n) := by
  have e : n.val % 20000 = n.val := Nat.mod_eq_of_lt n.isLt
  show X (ix2 r ⟨n.val % 20000, _⟩) = X (ix2 r n)
  exact congrArg (fun k => X (ix2 r k)) (Fin.ext e)

theorem above_ap (n : Fin 20000) : above X W (ix2 r n) = 1#1 ↔ Hit X W r n.val := by
  show FloatOps.cmpf .ogt (X (ix2 r n)) (limits W (ix2 r n)) = 1#1 ↔ FloatOps.cmpf .ogt (scoreAt (rowScores X r) n.val) (rowThr (flatThr W) r (Cert.Proof.Sel.ln ⟨n.val % 16, lane_lt _⟩)) = 1#1
  rw [limits_ap, flatThr_ap, scoreAt_row]

theorem ranks_ap (n : Fin 20000) : ranks X W (ix2 r n) = BitVec.ofNat 32 (Nat.count (Hit X W r) (n.val + 1)) :=
  running_count (Nm1 := 19999) rfl (above X W) natLt_1_32 r (Hit X W r) (above_ap X W r) _ rfl _ h_S_ n

theorem count_le (n : Nat) (h : n ≤ 20000) : Nat.count (Hit X W r) n < 2 ^ 31 :=
  Nat.lt_of_le_of_lt (Nat.count_le _) (Nat.lt_of_le_of_lt h (by decide))

theorem toNat_small {n : Nat} (h : n < 2 ^ 31) : (BitVec.ofNat 32 n).toNat = n := by
  rw [BitVec.toNat_ofNat]
  exact Nat.mod_eq_of_lt (by omega)

/-- The comparisons with a slot's number, read at an entry. -/
theorem before_entry (R : IVec S160x20000 32) (j : Fin 256) (n : Fin 20000) :
    cmpi .sle (broadcastInDim S160x256x20000 ![0, 1, 2] bcast_S160x1x20000_S160x256x20000_0_1_2
        (broadcastInDim S160x1x20000 ![0, 2] bcast_S160x20000_S160x1x20000_0_2 R))
      (broadcastInDim S160x256x20000 ![0, 1, 2] bcast_S1x256x1_S160x256x20000_0_1_2
        (broadcastInDim S1x256x1 ![1] bcast_S256_S1x256x1_1 (iotaInDim S256 32 0))) (ix3 r j n)
      = IntOp.cmpi .sle (R (ix2 r n)) (BitVec.ofNat 32 j.val) :=
  congrArg (fun k => IntOp.cmpi .sle k (BitVec.ofNat 32 j.val))
    (congrArg R (funext fun a => by match a with | ⟨0, _⟩ => rfl | ⟨1, _⟩ => rfl))

theorem found_entry (R : IVec S160x20000 32) (j : Fin 256) :
    cmpi .slt (broadcastInDim S160x256 ![0, 1] bcast_S1x256_S160x256_0_1 (broadcastInDim S1x256 ![1] bcast_S256_S1x256_1 (iotaInDim S256 32 0)))
      (broadcastInDim S160x256 ![0, 1] bcast_S160x1_S160x256_0_1
        (extractStridedSlice S160x1 ![0, 19999] R slices_S160x20000_S160x1_0_19999)) (ix2 r j)
      = IntOp.cmpi .slt (BitVec.ofNat 32 j.val) (R (ix2 r (⟨19999, by decide⟩ : Fin 20000))) :=
  congrArg (fun k => IntOp.cmpi .slt (BitVec.ofNat 32 j.val) k)
    (congrArg R (funext fun a => by match a with | ⟨0, _⟩ => exact Fin.ext (Nat.zero_add _) | ⟨1, _⟩ => rfl))

theorem before_ap (j : Fin 256) (n : Fin 20000) : before X W (ix3 r j n) = 1#1 ↔ Nat.count (Hit X W r) (n.val + 1) ≤ j.val := by
  have hc := count_le X W r (n.val + 1) n.isLt
  have hj : j.val < 2 ^ 31 := Nat.lt_of_lt_of_le j.isLt (by decide)
  have e : before X W (ix3 r j n) = IntOp.cmpi .sle (ranks X W (ix2 r n)) (BitVec.ofNat 32 j.val) := before_entry r (ranks X W) j n
  rw [e, ranks_ap, StableHlo.Predicate.sle_iff_toNat (by rw [toNat_small hc]; exact hc) (by rw [toNat_small hj]; exact hj), toNat_small hc,
    toNat_small hj]

theorem reach_ap (j : Fin 256) : reach X W (ix2 r j) = BitVec.ofNat 32 (posOf (Hit X W r) j.val) := by
  unfold posOf
  exact marks_count (by decide) (before X W) natLt_1_32 _ h_S_ r j (fun n => Nat.count (Hit X W r) (n + 1) ≤ j.val) (before_ap X W r j)

theorem found_ap (j : Fin 256) : found X W (ix2 r j) = 1#1 ↔ j.val < Nat.count (Hit X W r) 20000 := by
  have hc := count_le X W r 20000 (Nat.le_refl _)
  have hj : j.val < 2 ^ 31 := Nat.lt_of_lt_of_le j.isLt (by decide)
  have e : found X W (ix2 r j) = IntOp.cmpi .slt (BitVec.ofNat 32 j.val) (ranks X W (ix2 r (⟨19999, by decide⟩ : Fin 20000))) :=
    found_entry r (ranks X W) j
  have e' : ranks X W (ix2 r (⟨19999, by decide⟩ : Fin 20000)) = BitVec.ofNat 32 (Nat.count (Hit X W r) 20000) := ranks_ap X W r ⟨19999, by decide⟩
  rw [e, e', StableHlo.Predicate.slt_iff_toNat (by rw [toNat_small hj]; exact hj) (by rw [toNat_small hc]; exact hc), toNat_small hc,
    toNat_small hj]

theorem places_ap (j : Fin 256) :
    places X W (ix2 r j) = BitVec.ofNat 32 (posSlot (rowScores X r) (rowThr (flatThr W) r) 20000 j.val) := by
  unfold places posSlot
  by_cases h : j.val < Nat.count (Hit X W r) 20000
  · rw [held_pos h, select_apply, (found_ap X W r j).2 h, select_one]
    exact reach_ap X W r j
  · rw [held_neg h, select_apply, eq_zero_of_ne_one fun e => h ((found_ap X W r j).1 e), select_zero]
    rfl

theorem flats_ap (j : Fin 256) :
    flats X W (ix2 r j) = BitVec.ofNat 32 (r.val * 20000 + posSlot (rowScores X r) (rowThr (flatThr W) r) 20000 j.val) := by
  show BitVec.ofNat 32 r.val * 20000#32 + places X W (ix2 r j) = _
  rw [places_ap, BitVec.ofNat_add, BitVec.ofNat_mul]

theorem picks_ap (Y : Vec F S160x20000 .f32) (j : Fin 256) :
    picks X W Y (ix2 r j) = scoreAt (rowScores Y r) (posSlot (rowScores X r) (rowThr (flatThr W) r) 20000 j.val) := by
  have hp := posSlot_lt (rowScores X r) (rowThr (flatThr W) r) j.val
  have hfl := flats_ap X W r j
  revert hp hfl
  generalize posSlot (rowScores X r) (rowThr (flatThr W) r) 20000 j.val = p
  intro hp hfl
  have hr := r.isLt
  unfold picks
  refine (gather_take_apply (N := 3200000) (R := 160) (C := 256) (by decide) _ _ _ (ix2 r j)).trans ?_
  refine (shapeCast_apply _ _ _ (ix2 r ⟨p, hp⟩) ?_).trans (scoreAt_row Y r ⟨p, hp⟩).symm
  have e : ∀ z : S160x256.Idx, z = ix2 r j → min ((flats X W z).toInt.toNat) (3200000 - 1) = r.val * 20000 + p := fun z hz => by
    have hs : r.val * 20000 + p < 2 ^ 31 := by omega
    rw [hz, hfl, StableHlo.Predicate.toInt_eq_toNat_of_lt (by rw [toNat_small hs]; exact hs), toNat_small hs]
    omega
  rw [Shape.rowMajor_val_one, Shape.rowMajor_val_two]
  exact (e _ (funext fun a => by match a with | ⟨0, _⟩ => rfl | ⟨1, _⟩ => rfl)).symm

theorem posSlot_taken (x : Vec F Cert.KernelIdeal.S20000 .f32) (thr : Vec F Cert.KernelIdeal.S16 .f32) (n j : Nat) (h : j < Nat.count (IsHit x thr) n) :
    posSlot x thr n j = posOf (IsHit x thr) j :=
  held_pos (V := id) (z := 0) h

theorem scores_taken (j : Fin 256) (h : j.val < Nat.count (Hit X W r) 20000) :
    scores X W (ix2 r j) = scoreAt (rowScores X r) (posOf (Hit X W r) j.val) := by
  unfold scores
  rw [select_apply, (found_ap X W r j).2 h, select_one, picks_ap]
  exact congrArg (scoreAt (rowScores X r)) (posSlot_taken _ _ _ _ h)

theorem scores_empty (j : Fin 256) (h : ¬ j.val < Nat.count (Hit X W r) 20000) : scores X W (ix2 r j) = (noScore : Elt F .f32) := by
  unfold scores
  rw [select_apply, eq_zero_of_ne_one fun e => h ((found_ap X W r j).1 e), select_zero]
  rfl

theorem scores_ap (j : Fin 256) : scores X W (ix2 r j) = scoreSlot (rowScores X r) (rowThr (flatThr W) r) 20000 j.val := by
  by_cases h : j.val < Nat.count (Hit X W r) 20000
  · have e : scoreSlot (rowScores X r) (rowThr (flatThr W) r) 20000 j.val = scoreAt (rowScores X r) (posOf (Hit X W r) j.val) := held_pos h
    rw [e]
    exact scores_taken X W r j h
  · have e : scoreSlot (rowScores X r) (rowThr (flatThr W) r) 20000 j.val = noScore := held_neg h
    rw [e]
    exact scores_empty X W r j h

theorem spread_row (B : Vec F S8x20000 .f32) : rowScores (spread B) r = boxes B (batchOf r) := by
  funext x
  have hr := r.isLt
  obtain ⟨n, rfl⟩ : ∃ n : Fin 20000, x = Cert.Proof.Sel.ps n := ⟨x 0, Cert.Proof.Sel.eq_ofLane x⟩
  show spread B (ix2 r n) = B (ix2 (batchOf r) n)
  unfold spread
  refine (shapeCast_apply _ _ _ (ix3 (batchOf r) (⟨r.val % 20, Nat.mod_lt _ (by decide)⟩ : Fin 20) n) ?_).trans ?_
  · rw [Shape.rowMajor_val_three, Shape.rowMajor_val_two]
    show (r.val / 20 * 20 + r.val % 20) * 20000 + n.val = r.val * 20000 + n.val
    omega
  · exact congrArg B (funext fun a => by match a with | ⟨0, _⟩ => rfl | ⟨1, _⟩ => rfl)

end Entries

/-! ## The results, equal -/

section Equal

variable (X : Vec F S160x20000 .f32) (W : Vec F S160x16 .f32)

/-- The reference's first result is the kernel's, -/
theorem scores_eq : scores X W = outScore X (flatThr W) := by
  funext y
  obtain ⟨r, j, rfl⟩ : ∃ r j, y = ix2 r j := ⟨y 0, y 1, eq_ix2 y⟩
  exact scores_ap X W r j

/-- and so is a coordinate of the boxes. -/
theorem picks_eq (B : Vec F S8x20000 .f32) : picks X W (spread B) = outBox X (flatThr W) B := by
  funext y
  obtain ⟨r, j, rfl⟩ : ∃ r j, y = ix2 r j := ⟨y 0, y 1, eq_ix2 y⟩
  rw [picks_ap, spread_row]
  rfl

end Equal

end Cert.Proof.Ref

end
-- ==== Proof.Agree.lean ====
/-
  The kernel and the reference agree: from the same arguments both end with the same three results.
-/
module

public import proofs.«01_k».proof.Defs
public import proofs.«01_k».proof.Proof.Launch
public import proofs.«01_k».proof.Proof.RefValue

@[expose] public section

noncomputable section

namespace Cert.Proof

open Idealize.ShloMosaic Idealize.ShloMosaic.TcCoe Idealize.SL.Sem

section Reference

open Cert.ReferenceIdeal

variable {F : FTy → Type} [FloatOps F]

/-- The reference's run, its results named. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v29)
          = Ref.scores (m ((c.tc : Thread nD τ).loc main_arg0)) (m ((c.tc : Thread nD τ).loc main_arg1))
        ∧ r.2.mem ((c.tc : Thread nD τ).loc main_v34)
          = Ref.picks (m ((c.tc : Thread nD τ).loc main_arg0)) (m ((c.tc : Thread nD τ).loc main_arg1)) (Ref.spread (m ((c.tc : Thread nD τ).loc main_arg2)))
        ∧ r.2.mem ((c.tc : Thread nD τ).loc main_v39)
          = Ref.picks (m ((c.tc : Thread nD τ).loc main_arg0)) (m ((c.tc : Thread nD τ).loc main_arg1)) (Ref.spread (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨⟨(h c).1, (h c).2.1, (h c).2.2.1⟩, (h c).2.2.2⟩) (Value.run m ρ)

end Reference

/-- The value claim. -/
theorem agree : Cert.algebraic_KernelIdeal_ReferenceIdeal (hKernelIdeal := Cert.KernelIdeal.Gen.facts)
    (hReferenceIdeal := Cert.ReferenceIdeal.Gen.facts) := fun m ρ m' ρ' _ hin =>
  ⟨fun c => Sel.fin0 m c, fun c => Sel.fin1 m c, fun c => Sel.fin2 m c,
    (θ_run (Cert.KernelIdeal.defs (F := Ideal)) _ _).mono (fun _ h c => ⟨(h.1 c).1.1, (h.1 c).1.2.1, (h.1 c).1.2.2, (h.1 c).2⟩)
      (Sel.run_main (F := Ideal) m ρ),
    (θ_run (Cert.ReferenceIdeal.defs (F := Ideal)) _ _).mono (fun r h c => by
      obtain ⟨⟨h0, h1, h2⟩, ha⟩ := h c
      obtain ⟨e0, e1, e2, e3⟩ := hin c
      refine ⟨h0.trans ?_, h1.trans ?_, h2.trans ?_, ha⟩
      · rw [e0, e1]
        exact Ref.scores_eq _ _
      · rw [e0, e1, e2]
        exact Ref.picks_eq _ _ _
      · rw [e0, e1, e3]
        exact Ref.picks_eq _ _ _) (run_reference (F := Ideal) m' ρ')⟩

end Cert.Proof

end
-- ==== Proof.Ranks.lean ====
/-
  The order of a row's candidates: the greater score first, and of equal ones the earlier position. A candidate's rank is
  the number of those before it; a stable sort by the scores alone puts at place `k` the candidate of rank `k`, so a sum over
  the row in which all the other candidates are taken zero times reads what the sorted row holds there.
-/
module

public import Idealize.ShloMosaic.Lib.SortPrefix
public import Idealize.ShloMosaic.PureOps.Ideal.Laws

@[expose] public section

noncomputable section

namespace Cert.Proof.Ord

open Idealize.ShloMosaic

/-! ## A stable sort by a key is the sort by the key and then the position -/

section Stable

variable {n : ℕ} (gt : Fin n → Fin n → Bool) (same : Fin n → Fin n → Bool)

/-- First by the key, then by the position. -/
def first : Fin n → Fin n → Bool := fun a b => gt a b || (same a b && decide (a < b))

theorem sort_eq (l : List (Fin n)) (hl : l.Pairwise (· < ·)) : stableSort gt l = stableSort (first gt same) l := by
  induction l with
  | nil => rfl
  | cons a l ih =>
    rw [List.pairwise_cons] at hl
    unfold stableSort
    rw [ih hl.2]
    refine insertBefore_congr _ _ a _ fun b hb => ?_
    have h : a < b := hl.1 b ((perm_stableSort _ l).mem_iff.mp hb)
    simp [first, not_lt.2 h.le]

theorem sortedFrom_eq : sortedFrom gt = sortedFrom (first gt same) := by
  funext k
  unfold sortedFrom
  rw [List.get_of_eq (show sortPositions n gt = sortPositions n (first gt same) from sort_eq gt same (List.finRange n) (List.pairwise_lt_finRange n))]
  rfl

end Stable

/-! ## Ranks -/

section Rank

variable {n : ℕ} (x : Fin n → EReal)

/-- `j` is before `i`. -/
def Ahead (j i : Fin n) : Prop := x i < x j ∨ (x j = x i ∧ j < i)

instance (j i : Fin n) : Decidable (Ahead x j i) := Classical.propDecidable _

/-- How many are before `i`. -/
def rankOf (i : Fin n) : ℕ := (Finset.univ.filter fun j => Ahead x j i).card

/-- The candidate that the sort puts at place `k`. -/
def atPlace (k : Fin n) : Fin n := sortedFrom (fun a b => decide (x b < x a)) k

theorem total : StrictTotalBefore (first (fun a b => decide (x b < x a)) fun a b => decide (x a = x b)) :=
  StrictTotalBefore.of_key_then_position (fun a b : EReal => decide (b < a)) x (fun a => by simp)
    (fun a b c h h' => by
      simp only [decide_eq_true_eq] at h h' ⊢
      exact h'.trans h)
    (fun a b => by
      simp only [decide_eq_true_eq]
      rcases lt_trichotomy a b with h | h | h
      · exact Or.inr (Or.inr h)
      · exact Or.inr (Or.inl h)
      · exact Or.inl h)

theorem first_iff (a b : Fin n) : first (fun a b => decide (x b < x a)) (fun a b => decide (x a = x b)) a b = true ↔ Ahead x a b := by
  simp [first, Ahead]

theorem atPlace_injective : Function.Injective (atPlace x) := sortedFrom_injective _

theorem atPlace_surjective : Function.Surjective (atPlace x) := sortedFrom_surjective _

theorem ahead_iff (i k : Fin n) : Ahead x (atPlace x i) (atPlace x k) ↔ i < k := by
  have hB := total x
  have hle : ∀ i k : Fin n, i < k → ¬ Ahead x (atPlace x k) (atPlace x i) := fun i k h => by
    rw [← first_iff]
    unfold atPlace
    rw [sortedFrom_eq _ fun a b => decide (x a = x b)]
    rw [sortedFrom_noInversion _ _ (fun a b h => hB.asymm a b h) (fun _ _ h => h) hB.negTrans i k h]
    decide
  constructor
  · intro h
    by_contra hn
    rcases lt_or_eq_of_le (not_lt.1 hn) with h' | h'
    · exact hle k i h' h
    · subst h'
      exact absurd ((first_iff x _ _).2 h) (by rw [hB.irrefl]; decide)
  · intro h
    rcases hB.total (atPlace x i) (atPlace x k) fun e => h.ne (atPlace_injective x e) with h' | h'
    · exact (first_iff x _ _).1 h'
    · exact absurd ((first_iff x _ _).1 h') (hle i k h)

/-- The candidate at place `k` has `k` before it, -/
theorem rank_atPlace (k : Fin n) : rankOf x (atPlace x k) = k.val := by
  unfold rankOf
  have e : (Finset.univ.filter fun j => Ahead x j (atPlace x k)) = (Finset.univ.filter fun i => i < k).map ⟨atPlace x, atPlace_injective x⟩ := by
    ext j
    obtain ⟨i, rfl⟩ := atPlace_surjective x j
    simp only [Finset.mem_filter, Finset.mem_univ, true_and, Finset.mem_map, Function.Embedding.coeFn_mk]
    rw [ahead_iff]
    exact ⟨fun h => ⟨i, h, rfl⟩, fun ⟨i', h, e⟩ => atPlace_injective x e ▸ h⟩
  rw [e, Finset.card_map]
  exact (congrArg Finset.card (Finset.ext fun i => by simp)).trans (Fin.card_Iio k)

/-- and it is the only one. -/
theorem rank_iff (i k : Fin n) : rankOf x i = k.val ↔ i = atPlace x k := by
  obtain ⟨p, rfl⟩ := atPlace_surjective x i
  rw [rank_atPlace]
  exact ⟨fun h => congrArg (atPlace x) (Fin.ext h), fun h => congrArg Fin.val (atPlace_injective x h)⟩

/-- A sum that takes the candidate of rank `k` once and the others zero times. -/
theorem sum_placed (y : Fin n → EReal) (k : Fin n) : (∑ i, y i * if rankOf x i = k.val then 1 else 0) = y (atPlace x k) := by
  rw [Finset.sum_eq_single (atPlace x k) (fun i _ h => by rw [if_neg fun e => h ((rank_iff x i k).1 e), mul_zero])
    (fun h => absurd (Finset.mem_univ _) h), if_pos (rank_atPlace x k), mul_one]

end Rank

/-! ## A rank as a float -/

/-- A sum of ones is their number. -/
theorem sum_ones {ι : Type} [Fintype ι] (P : ι → Prop) [DecidablePred P] :
    (∑ i, if P i then (1 : EReal) else 0) = ((Finset.univ.filter P).card : EReal) := by
  rw [Finset.sum_boole]

/-- The row's two halves counted one after the other. -/
theorem rank_halves (x : Fin 256 → EReal) (i : Fin 256) :
    (0 + ∑ k : Fin 128, if Ahead x ⟨k.val, by omega⟩ i then (1 : EReal) else 0) + (∑ k : Fin 128, if Ahead x ⟨128 + k.val, by omega⟩ i then (1 : EReal) else 0)
      = (rankOf x i : EReal) := by
  unfold rankOf
  rw [zero_add, ← sum_ones]
  exact (Fin.sum_univ_add (a := 128) (b := 128) fun j : Fin 256 => if Ahead x j i then (1 : EReal) else 0).symm

/-- A rank is a place's number as floats when it is as numbers. -/
theorem rank_same (a b : ℕ) : ((a : EReal) = (b : EReal)) ↔ a = b := Nat.cast_inj

end Cert.Proof.Ord

end
-- ==== Proof.Levels.lean ====
/-
  The levels a row's threshold is sought among: the single floats from 0.01 on, in the order of their words. The search
  settles a word's bits from the highest down and ends at the last level below a given score; a level is below the row's
  score of rank `k` exactly when more than `k` scores are above it.
-/
module

public import proofs.«01_k».proof.Proof.Ranks

@[expose] public section

noncomputable section

namespace Cert.Proof.Thr

open Idealize.ShloMosaic
open Cert.Proof.Ord (Ahead rankOf atPlace rank_atPlace)

/-! ## Positive floats are in the order of their words -/

/-- What a positive normal word denotes. -/
def word (w : ℕ) : ℝ := ((2 ^ 23 + w % 2 ^ 23 : ℕ) : ℝ) * (2 : ℝ) ^ (((w / 2 ^ 23 : ℕ) : ℤ) - 150)

theorem word_lt {w w' : ℕ} (h : w < w') : word w < word w' := by
  have hle : w / 2 ^ 23 ≤ w' / 2 ^ 23 := Nat.div_le_div_right h.le
  rcases hle.eq_or_lt with he | hlt
  · have hm : 2 ^ 23 + w % 2 ^ 23 < 2 ^ 23 + w' % 2 ^ 23 := by omega
    unfold word
    rw [he]
    exact mul_lt_mul_of_pos_right (Nat.cast_lt.2 hm) (by positivity)
  · have hm : 2 ^ 23 + w % 2 ^ 23 < 2 ^ 23 * 2 := by omega
    have hm' : 2 ^ 23 ≤ 2 ^ 23 + w' % 2 ^ 23 := by omega
    unfold word
    calc ((2 ^ 23 + w % 2 ^ 23 : ℕ) : ℝ) * (2 : ℝ) ^ (((w / 2 ^ 23 : ℕ) : ℤ) - 150)
        < ((2 ^ 23 * 2 : ℕ) : ℝ) * (2 : ℝ) ^ (((w / 2 ^ 23 : ℕ) : ℤ) - 150) := mul_lt_mul_of_pos_right (Nat.cast_lt.2 hm) (by positivity)
      _ = ((2 ^ 23 : ℕ) : ℝ) * (2 : ℝ) ^ (((w / 2 ^ 23 : ℕ) : ℤ) - 150 + 1) := by
          rw [zpow_add_one₀ (by norm_num)]
          push_cast
          ring
      _ ≤ ((2 ^ 23 + w' % 2 ^ 23 : ℕ) : ℝ) * (2 : ℝ) ^ (((w' / 2 ^ 23 : ℕ) : ℤ) - 150) :=
          mul_le_mul (Nat.cast_le.2 hm') (zpow_le_zpow_right₀ (by norm_num) (by omega)) (by positivity) (by positivity)

theorem word_eq (w : ℕ) (h : 2 ^ 23 ≤ w) (h' : w < 255 * 2 ^ 23) : Ideal.ofBits .f32 (BitVec.ofNat 32 w) = (word w : EReal) := by
  have hw : (BitVec.ofNat 32 w).toNat = w := by
    rw [BitVec.toNat_ofNat]
    exact Nat.mod_eq_of_lt (by omega)
  have hs : ((BitVec.ofNat 32 w).extractLsb' (8 + 23) 1 == 1#1) = false := by
    rw [beq_eq_false_iff_ne]
    intro e
    have e := congrArg BitVec.toNat e
    rw [BitVec.extractLsb'_toNat, hw, Nat.shiftRight_eq_div_pow] at e
    have : w / 2 ^ (8 + 23) = 0 := Nat.div_eq_of_lt (by omega)
    rw [this] at e
    exact absurd e (by decide)
  have he : ((BitVec.ofNat 32 w).extractLsb' 23 8).toNat = w / 2 ^ 23 := by
    rw [BitVec.extractLsb'_toNat, hw, Nat.shiftRight_eq_div_pow]
    omega
  have hf : ((BitVec.ofNat 32 w).extractLsb' 0 23).toNat = w % 2 ^ 23 := by
    rw [BitVec.extractLsb'_toNat, hw, Nat.shiftRight_eq_div_pow]
    omega
  show Ideal.ieee 8 23 (BitVec.ofNat 32 w) = _
  unfold Ideal.ieee word
  dsimp only
  rw [hs, he, hf, if_neg (by omega), if_neg (by omega)]
  congr 1
  simp only [Bool.false_eq_true, if_false]
  rw [one_mul]
  congr 2
  norm_num
  ring

/-- The word of the first level, 0.01. -/
abbrev base : ℕ := 1008981770

/-- How many levels there are. -/
abbrev count : ℕ := 67108864

/-- Level `n`. -/
def level (n : ℕ) : EReal := Ideal.ofBits .f32 (BitVec.ofNat 32 (base + n))

theorem level_lt {n n' : ℕ} (h : n < n') (h' : n' < count) : level n < level n' := by
  have hb : base = 1008981770 := rfl
  have hc : count = 67108864 := rfl
  unfold level
  rw [word_eq _ (by omega) (by omega), word_eq _ (by omega) (by omega)]
  exact EReal.coe_lt_coe_iff.2 (word_lt (by omega))

theorem level_le {n n' : ℕ} (h : n ≤ n') (h' : n' < count) : level n ≤ level n' := by
  rcases h.eq_or_lt with rfl | h
  · exact le_rfl
  · exact (level_lt h h').le

/-! ## The search, a bit at a time -/

section Search

variable (P : ℕ → Prop) [DecidablePred P]

/-- The word's value after `k` bits have been settled. -/
def search : ℕ → ℕ
  | 0 => 0
  | k + 1 => if P (search k + 2 ^ (25 - k)) then search k + 2 ^ (25 - k) else search k

/-- What holds of it: the bits still to settle are zero, the level is taken (or the first), and none further on than those
bits reach is. -/
theorem search_inv (hP : ∀ n n', n ≤ n' → n' < count → P n' → P n) : ∀ k, k ≤ 26 →
    2 ^ (26 - k) ∣ search P k ∧ search P k + 2 ^ (26 - k) ≤ count ∧ (search P k = 0 ∨ P (search P k))
      ∧ ∀ n, search P k + 2 ^ (26 - k) ≤ n → n < count → ¬ P n := by
  intro k
  induction k with
  | zero =>
    intro _
    have e : 2 ^ (26 - 0) = count := by norm_num
    rw [e, show search P 0 = 0 from rfl, Nat.zero_add]
    exact ⟨Nat.dvd_zero _, le_refl _, Or.inl rfl, fun n h h' => absurd h' (not_lt.2 h)⟩
  | succ k ih =>
    intro hk
    obtain ⟨hd, hs, hp, hn⟩ := ih (by omega)
    have e : 2 ^ (26 - k) = 2 * 2 ^ (25 - k) := by
      rw [show 26 - k = (25 - k) + 1 by omega, pow_succ, mul_comm]
    have e' : 26 - (k + 1) = 25 - k := by omega
    have hpos : 0 < 2 ^ (25 - k) := by positivity
    rw [e', show search P (k + 1) = if P (search P k + 2 ^ (25 - k)) then search P k + 2 ^ (25 - k) else search P k from rfl]
    rw [e] at hd hs hn
    by_cases h : P (search P k + 2 ^ (25 - k))
    · rw [if_pos h]
      refine ⟨Dvd.dvd.add ((Nat.dvd_mul_left _ _).trans hd) (dvd_refl _), by omega, Or.inr h, fun n h1 h2 => hn n (by omega) h2⟩
    · rw [if_neg h]
      refine ⟨(Nat.dvd_mul_left _ _).trans hd, by omega, hp, fun n h1 h2 h3 => h (hP _ n h1 h2 h3)⟩

/-- It ends at the last level taken. -/
theorem search_end (hP : ∀ n n', n ≤ n' → n' < count → P n' → P n) :
    search P 26 < count ∧ (search P 26 = 0 ∨ P (search P 26)) ∧ ∀ n, n < count → P n → n ≤ search P 26 := by
  obtain ⟨-, hs, hp, hn⟩ := search_inv P hP 26 (le_refl _)
  rw [show 2 ^ (26 - 26) = 1 from rfl] at hs hn
  refine ⟨by omega, hp, fun n h h' => ?_⟩
  by_contra hlt
  exact hn n (by omega) h h'

end Search

/-- The number of the last level below a score. -/
def lastBelow (T : EReal) : ℕ := search (fun n => level n < T) 26

theorem below_mono (T : EReal) : ∀ n n', n ≤ n' → n' < count → level n' < T → level n < T :=
  fun _ _ h h' hT => (level_le h h').trans_lt hT

theorem lastBelow_lt (T : EReal) : lastBelow T < count := (search_end _ (below_mono T)).1

/-- The last level below a score, or the first level when none is, as the maximum over all the levels. -/
theorem best_eq (T : EReal) :
    (Finset.univ : Finset (Fin count)).fold max ⊥ (fun n => if level n.val < T then level n.val else level 0) = level (lastBelow T) := by
  obtain ⟨hs, hp, hn⟩ := search_end _ (below_mono T)
  refine le_antisymm (Finset.fold_max_le _ |>.2 ⟨bot_le, fun n _ => ?_⟩) (Finset.le_fold_max _ |>.2 (Or.inr ⟨⟨lastBelow T, hs⟩, Finset.mem_univ _, ?_⟩))
  · by_cases h : level n.val < T
    · rw [if_pos h]
      exact level_le (hn _ n.isLt h) hs
    · rw [if_neg h]
      exact level_le (Nat.zero_le _) hs
  · show level (lastBelow T) ≤ if level (lastBelow T) < T then level (lastBelow T) else level 0
    rcases hp with h0 | h
    · rw [show lastBelow T = 0 from h0, ite_self]
    · exact (if_pos h).ge

/-! ## How many scores are above a level -/

/-- More than `k` scores are above `v` exactly when the score of rank `k` is. -/
theorem above_iff {n : ℕ} (x : Fin n → EReal) (k : Fin n) (v : EReal) :
    k.val + 1 ≤ (Finset.univ.filter fun j => v < x j).card ↔ v < x (atPlace x k) := by
  have hr := rank_atPlace x k
  unfold rankOf at hr
  constructor
  · intro h
    by_contra hv
    have hv := not_lt.1 hv
    have : (Finset.univ.filter fun j => v < x j).card ≤ (Finset.univ.filter fun j => Ahead x j (atPlace x k)).card :=
      Finset.card_le_card fun j hj => by
        rw [Finset.mem_filter] at hj ⊢
        exact ⟨hj.1, Or.inl (hv.trans_lt hj.2)⟩
    omega
  · intro hv
    have hmem : atPlace x k ∉ Finset.univ.filter fun j => Ahead x j (atPlace x k) := fun h => by
      rw [Finset.mem_filter] at h
      rcases h.2 with h | h
      · exact lt_irrefl _ h
      · exact lt_irrefl _ h.2
    have := Finset.card_le_card (s := insert (atPlace x k) (Finset.univ.filter fun j => Ahead x j (atPlace x k)))
      (t := Finset.univ.filter fun j => v < x j) fun j hj => by
        rw [Finset.mem_filter]
        refine ⟨Finset.mem_univ _, ?_⟩
        rcases Finset.mem_insert.1 hj with rfl | h
        · exact hv
        · rcases (Finset.mem_filter.1 h).2 with h | h
          · exact hv.trans h
          · exact h.1 ▸ hv
    rw [Finset.card_insert_of_notMem hmem, hr] at this
    exact this

/-! ## The words -/

/-- Setting a bit in a word that has it and those below it zero adds it. -/
theorem or_add (s i : ℕ) (h : 2 ^ (i + 1) ∣ s) : s ||| 2 ^ i = s + 2 ^ i := by
  obtain ⟨a, rfl⟩ := h
  exact (Nat.two_pow_add_eq_or_of_lt (Nat.pow_lt_pow_right (by norm_num) (Nat.lt_succ_self i)) a).symm

end Cert.Proof.Thr

end
-- ==== Proof.Placed.lean ====
/-
  The ordering call: each grid point ranks eight rows' candidates and lays each candidate's score and box down at its rank,
  so that the three results are the arguments read row by row in the candidates' order.
-/
module

public import proofs.«01_k».proof.Proof.Ranks
public import proofs.«01_k».proof.Proof.Gen.OrderIdeal.Value
public import Idealize.ShloMosaic.Lib.Pipeline.ValueKit
public import Idealize.ShloMosaic.Lib.StableHlo.Predicate
public import Idealize.ShloMosaic.Lib.Pointwise

@[expose] public section

noncomputable section

namespace Cert.Proof.Ord

open Cert.OrderIdeal Cert.OrderIdeal.Gen
open Idealize.ShloMosaic Idealize.ShloMosaic.TcCoe Idealize.SL.Sem

/-! ## Bits and small numbers as floats -/

theorem bit_float (b : BitVec 1) : (FloatOps.sitofp .f32 (b.setWidth 32) : Ideal .f32) = if b = 1#1 then (1 : EReal) else 0 := by
  show (((b.setWidth 32).toInt : ℝ) : EReal) = _
  rcases (show b = 0#1 ∨ b = 1#1 by revert b; decide) with rfl | rfl
  · rw [if_neg (by decide), show ((0#1 : BitVec 1).setWidth 32).toInt = 0 from by decide]
    norm_num
  · rw [if_pos rfl, show ((1#1 : BitVec 1).setWidth 32).toInt = 1 from by decide]
    norm_num

theorem bool_bit (p : Prop) [Decidable p] : BitVec.ofBool (decide p) = 1#1 ↔ p := by
  by_cases h : p <;> simp [h]

theorem nat_float (a n : ℕ) (h : a + n < 256) : (FloatOps.sitofp .f32 (IntOp.addi (BitVec.ofNat 32 a) (BitVec.ofNat 32 n)) : Ideal .f32) = ((a + n : ℕ) : EReal) := by
  show (((BitVec.ofNat 32 a + BitVec.ofNat 32 n).toInt : ℝ) : EReal) = _
  have e : (BitVec.ofNat 32 a + BitVec.ofNat 32 n).toInt = ((a + n : ℕ) : ℤ) := by
    rw [← BitVec.ofNat_add, BitVec.toInt_eq_toNat_of_lt (by rw [BitVec.toNat_ofNat]; omega), BitVec.toNat_ofNat, Nat.mod_eq_of_lt (by omega)]
  rw [e]
  norm_cast

/-- The comparison that ranks, as a bit. -/
theorem ahead_bit (x : Fin 256 → EReal) (a n : ℕ) (h : a + n < 256) (i : Fin 256) :
    IntOp.ori (BitVec.ofBool (decide (x i < x ⟨a + n, h⟩))) (IntOp.andi (BitVec.ofBool (decide (x ⟨a + n, h⟩ = x i)))
      (IntOp.cmpi .slt (IntOp.addi (BitVec.ofNat 32 a) (BitVec.ofNat 32 n)) (BitVec.ofNat 32 i.val))) = 1#1 ↔ Ahead x ⟨a + n, h⟩ i := by
  have hi := i.isLt
  have e : IntOp.addi (BitVec.ofNat 32 a) (BitVec.ofNat 32 n) = BitVec.ofNat 32 (a + n) := (BitVec.ofNat_add a n).symm
  have hs : ∀ k : ℕ, k < 256 → (BitVec.ofNat 32 k).toNat = k := fun k hk => by
    rw [BitVec.toNat_ofNat]
    omega
  have hc : IntOp.cmpi .slt (BitVec.ofNat 32 (a + n)) (BitVec.ofNat 32 i.val) = 1#1 ↔ (⟨a + n, h⟩ : Fin 256) < i := by
    rw [StableHlo.Predicate.slt_iff_toNat (by rw [hs _ h]; omega) (by rw [hs _ hi]; omega), hs _ h, hs _ hi]
    exact Iff.rfl
  rw [e]
  have hb : ∀ (p q : Prop) [Decidable p] [Decidable q] (b : BitVec 1),
      IntOp.ori (BitVec.ofBool (decide p)) (IntOp.andi (BitVec.ofBool (decide q)) b) = 1#1 ↔ p ∨ (q ∧ b = 1#1) := fun p q _ _ b => by
    by_cases hp : p <;> by_cases hq : q <;> rcases (show b = 0#1 ∨ b = 1#1 by revert b; decide) with rfl | rfl <;> simp [hp, hq] <;> decide
  rw [hb, hc]
  exact Iff.rfl

/-! ## One grid point -/

/-- Row `r` of a block. -/
abbrev rowOf (v : Vec Ideal S8x256 .f32) (r : Fin 8) : Fin 256 → EReal := fun k => v (ix2 r k)

/-- The rank that a grid point computes. -/
theorem ranks_at (v : Vec Ideal S8x256 .f32) (r : Fin 8) (i : Fin 256) : k0_pay2 v (ix2 r i) = (rankOf (rowOf v r) i : EReal) := by
  rw [← rank_halves, zero_add]
  pointwise [k0_pay2]
  refine congrArg₂ (fun a b : EReal => a + b) (Finset.sum_congr rfl fun k _ => ?_) (Finset.sum_congr rfl fun k _ => ?_)
  · have h : 0 + k.val < 256 := by omega
    have e : (⟨k.val, by omega⟩ : Fin 256) = ⟨0 + k.val, h⟩ := Fin.ext (Nat.zero_add _).symm
    rw [bit_float, e]
    exact if_congr (ahead_bit (rowOf v r) 0 k.val h i) rfl rfl
  · rw [bit_float]
    exact if_congr (ahead_bit (rowOf v r) 128 k.val (by omega) i) rfl rfl

/-- A sum over the row that takes the candidate whose rank is the place's number. -/
theorem placed_sum (v y : Vec Ideal S8x256 .f32) (r : Fin 8) (a n : ℕ) (h : a + n < 256) :
    (∑ x : Fin 256, y (ix2 r x) * (FloatOps.sitofp .f32 (BitVec.setWidth 32
      (BitVec.ofBool (decide (k0_pay2 v (ix2 r x) = FloatOps.sitofp .f32 (IntOp.addi (BitVec.ofNat 32 a) (BitVec.ofNat 32 n)))))) : Ideal .f32) : EReal)
      = y (ix2 r (atPlace (rowOf v r) ⟨a + n, h⟩)) := by
  rw [← sum_placed (rowOf v r) (fun k => y (ix2 r k)) ⟨a + n, h⟩]
  refine Finset.sum_congr rfl fun x _ => congrArg (fun z : EReal => y (ix2 r x) * z) ?_
  rw [bit_float, ranks_at, nat_float a n h]
  refine if_congr ?_ rfl rfl
  rw [bool_bit]
  exact rank_same _ _

theorem placed_sum_first (v y : Vec Ideal S8x256 .f32) (r : Fin 8) (n : ℕ) (h : n < 256) :
    (∑ x : Fin 256, y (ix2 r x) * (FloatOps.sitofp .f32 (BitVec.setWidth 32
      (BitVec.ofBool (decide (k0_pay2 v (ix2 r x) = FloatOps.sitofp .f32 (IntOp.addi (BitVec.ofNat 32 0) (BitVec.ofNat 32 n)))))) : Ideal .f32) : EReal)
      = y (ix2 r (atPlace (rowOf v r) ⟨n, h⟩)) := by
  have e : (⟨n, h⟩ : Fin 256) = ⟨0 + n, by omega⟩ := Fin.ext (Nat.zero_add n).symm
  rw [e]
  exact placed_sum v y r 0 n _

/-- A block laid out in the order of another's rows. -/
def placedBlock (v y : Vec Ideal S8x256 .f32) : Vec Ideal S8x256 .f32 := fun i => y (ix2 (i 0) (atPlace (rowOf v (i 0)) (i 1)))

theorem whole_read (v : Vec Ideal S8x256 .f32) : View.ld v r0_0 = v :=
  View.ld_unit_zero (funext fun a => by match a with | ⟨0, _⟩ => rfl | ⟨1, _⟩ => rfl) _ v

theorem placedBlock_at (v y : Vec Ideal S8x256 .f32) {i : S8x256.Idx} {r : Fin 8} {k : Fin 256} (h0 : (i 0).val = r.val) (h1 : (i 1).val = k.val) :
    placedBlock v y i = y (ix2 r (atPlace (rowOf v r) k)) := by
  obtain rfl : i = ix2 r k := funext fun a => Fin.ext (match a with | ⟨0, _⟩ => h0 | ⟨1, _⟩ => h1)
  rfl

/-- A half of a grid point's result, from its payload's entries. -/
theorem half_low (v y : Vec Ideal S8x256 .f32) (w : Vec Ideal S8x128 .f32)
    (h : ∀ (r : Fin 8) (n : Fin 128), w (ix2 r n) = y (ix2 r (atPlace (rowOf v r) ⟨n.val, by omega⟩))) (x : S8x128.Idx) :
    w x = placedBlock v y (r0_1.emb x) := by
  obtain ⟨r, n, rfl⟩ : ∃ (r : Fin 8) (n : Fin 128), x = ix2 r n := ⟨x 0, x 1, funext fun a => by match a with | ⟨0, _⟩ => rfl | ⟨1, _⟩ => rfl⟩
  rw [h]
  refine (placedBlock_at v y ?_ ?_).symm
  · show 0 + 1 * r.val = r.val
    omega
  · show 0 + 1 * n.val = n.val
    omega

theorem half_high (v y : Vec Ideal S8x256 .f32) (w : Vec Ideal S8x128 .f32)
    (h : ∀ (r : Fin 8) (n : Fin 128), w (ix2 r n) = y (ix2 r (atPlace (rowOf v r) ⟨128 + n.val, by omega⟩))) (x : S8x128.Idx) :
    w x = placedBlock v y (r0_2.emb x) := by
  obtain ⟨r, n, rfl⟩ : ∃ (r : Fin 8) (n : Fin 128), x = ix2 r n := ⟨x 0, x 1, funext fun a => by match a with | ⟨0, _⟩ => rfl | ⟨1, _⟩ => rfl⟩
  rw [h]
  refine (placedBlock_at v y ?_ ?_).symm
  · show 0 + 1 * r.val = r.val
    omega
  · show 128 + 1 * n.val = 128 + n.val
    omega

/-- The results of a grid point: the block of scores laid out in its own order, -/
theorem out3_eq (v s e : Vec Ideal S8x256 .f32) : out0_3 v s e = placedBlock v v := by
  funext y
  unfold_out out0_3
  rw [whole_read]
  refine View.canon_apply_of_pieces (placedBlock v v) _ (fun p hp x => ?_) y (cover0_3 _ _ y)
  simp only [List.mem_cons, List.not_mem_nil, or_false] at hp
  rcases hp with rfl | rfl
  · refine half_high v v _ (fun r n => ?_) x
    pointwise [k0_pay9, k0_pay8]
    exact placed_sum v v r 128 n.val _
  · refine half_low v v _ (fun r n => ?_) x
    pointwise [k0_pay5, k0_pay4, k0_pay3]
    exact placed_sum_first v v r n.val (by omega)

/-- and the two blocks of box coordinates in the same order. -/
theorem out4_eq (v s e : Vec Ideal S8x256 .f32) : out0_4 v s e = placedBlock v s := by
  funext y
  unfold_out out0_4
  rw [whole_read, whole_read]
  refine View.canon_apply_of_pieces (placedBlock v s) _ (fun p hp x => ?_) y (cover0_4 _ _ y)
  simp only [List.mem_cons, List.not_mem_nil, or_false] at hp
  rcases hp with rfl | rfl
  · refine half_high v s _ (fun r n => ?_) x
    pointwise [k0_pay10, k0_pay8]
    exact placed_sum v s r 128 n.val _
  · refine half_low v s _ (fun r n => ?_) x
    pointwise [k0_pay6, k0_pay4, k0_pay3]
    exact placed_sum_first v s r n.val (by omega)

theorem out5_eq (v s e : Vec Ideal S8x256 .f32) : out0_5 v s e = placedBlock v e := by
  funext y
  unfold_out out0_5
  rw [whole_read, whole_read]
  refine View.canon_apply_of_pieces (placedBlock v e) _ (fun p hp x => ?_) y (cover0_5 _ _ y)
  simp only [List.mem_cons, List.not_mem_nil, or_false] at hp
  rcases hp with rfl | rfl
  · refine half_high v e _ (fun r n => ?_) x
    pointwise [k0_pay1, k0_pay8]
    exact placed_sum v e r 128 n.val _
  · refine half_low v e _ (fun r n => ?_) x
    pointwise [k0_pay7, k0_pay4, k0_pay3]
    exact placed_sum_first v e r n.val (by omega)

/-! ## The results -/

variable (m : (ℓ : Loc nD τ sig) → Buf (Elt Ideal) ℓ) (c : Dev nD)

/-- An array laid out row by row in the order of another's rows. -/
def placed (v y : Vec Ideal S160x256 .f32) : Vec Ideal S160x256 .f32 :=
  fun i => y (ix2 (i 0) (atPlace (fun k => v (ix2 (i 0) k)) (i 1)))

abbrev arg0 : Vec Ideal S160x256 .f32 := m ((c.tc : Thread nD τ).loc main_arg0)
abbrev arg1 : Vec Ideal S160x256 .f32 := m ((c.tc : Thread nD τ).loc main_arg1)
abbrev arg2 : Vec Ideal S160x256 .f32 := m ((c.tc : Thread nD τ).loc main_arg2)

/-- Each window's block at a point: eight rows, whole. -/
theorem idx_all : ∀ t : Fin cfg0.N, (win0_0.index t = ![t.val, 0] ∧ win0_1.index t = ![t.val, 0] ∧ win0_2.index t = ![t.val, 0])
    ∧ win0_3.index t = ![t.val, 0] ∧ win0_4.index t = ![t.val, 0] ∧ win0_5.index t = ![t.val, 0] :=
  (by decide +kernel : ∀ t : Fin grid0.N, (win0_0.index t = ![t.val, 0] ∧ win0_1.index t = ![t.val, 0] ∧ win0_2.index t = ![t.val, 0])
    ∧ win0_3.index t = ![t.val, 0] ∧ win0_4.index t = ![t.val, 0] ∧ win0_5.index t = ![t.val, 0])

/-- The array's row that is a block's. -/
abbrev rowAt (t : Fin cfg0.N) (r : Fin 8) : Fin 160 := ⟨t.val * 8 + r.val, by have := t.isLt; have : cfg0.N = 20 := rfl; omega⟩

theorem block0 (t : Fin cfg0.N) (r : Fin 8) (k : Fin 256) : iblk m c 0 t (ix2 r k) = arg0 m c (ix2 (rowAt t r) k) := by
  blk_ext [iblk, V, idx_all t]

theorem block1 (t : Fin cfg0.N) (r : Fin 8) (k : Fin 256) : iblk m c 1 t (ix2 r k) = arg1 m c (ix2 (rowAt t r) k) := by
  blk_ext [iblk, V, idx_all t]

theorem block2 (t : Fin cfg0.N) (r : Fin 8) (k : Fin 256) : iblk m c 2 t (ix2 r k) = arg2 m c (ix2 (rowAt t r) k) := by
  blk_ext [iblk, V, idx_all t]

/-- A block laid out in order is the array laid out in order, at the block's rows. -/
theorem placed_block (V Y : Vec Ideal S160x256 .f32) (v y : Vec Ideal S8x256 .f32) (t : Fin cfg0.N)
    (hv : ∀ r k, v (ix2 r k) = V (ix2 (rowAt t r) k)) (hy : ∀ r k, y (ix2 r k) = Y (ix2 (rowAt t r) k)) (r : Fin 8) (k : Fin 256) :
    placedBlock v y (ix2 r k) = placed V Y (ix2 (rowAt t r) k) := by
  show y (ix2 r (atPlace (rowOf v r) k)) = Y (ix2 (rowAt t r) (atPlace (fun k => V (ix2 (rowAt t r) k)) k))
  rw [hy, show rowOf v r = fun k => V (ix2 (rowAt t r) k) from funext fun k => hv r k]

/-- The three results. -/
theorem final3 : (dats m 0 c).arrAt 3 cfg0.N = placed (arg0 m c) (arg0 m c) := by
  refine (dats m 0 c).arrAt_eq_of_covers 3 _ (by decide +kernel) fun t hf y => ?_
  blk_simp
  rw [after0_3, out3_eq]
  obtain ⟨r, k, rfl⟩ : ∃ (r : Fin 8) (k : Fin 256), y = ix2 r k := ⟨y 0, y 1, funext fun a => by match a with | ⟨0, _⟩ => rfl | ⟨1, _⟩ => rfl⟩
  refine (placed_block (arg0 m c) (arg0 m c) _ _ t (block0 m c t) (block0 m c t) r k).trans (congrArg _ ?_)
  blk_ext [idx_all t]

theorem final4 : (dats m 0 c).arrAt 4 cfg0.N = placed (arg0 m c) (arg1 m c) := by
  refine (dats m 0 c).arrAt_eq_of_covers 4 _ (by decide +kernel) fun t hf y => ?_
  blk_simp
  rw [after0_4, out4_eq]
  obtain ⟨r, k, rfl⟩ : ∃ (r : Fin 8) (k : Fin 256), y = ix2 r k := ⟨y 0, y 1, funext fun a => by match a with | ⟨0, _⟩ => rfl | ⟨1, _⟩ => rfl⟩
  refine (placed_block (arg0 m c) (arg1 m c) _ _ t (block0 m c t) (block1 m c t) r k).trans (congrArg _ ?_)
  blk_ext [idx_all t]

theorem final5 : (dats m 0 c).arrAt 5 cfg0.N = placed (arg0 m c) (arg2 m c) := by
  refine (dats m 0 c).arrAt_eq_of_covers 5 _ (by decide +kernel) fun t hf y => ?_
  blk_simp
  rw [after0_5, out5_eq]
  obtain ⟨r, k, rfl⟩ : ∃ (r : Fin 8) (k : Fin 256), y = ix2 r k := ⟨y 0, y 1, funext fun a => by match a with | ⟨0, _⟩ => rfl | ⟨1, _⟩ => rfl⟩
  refine (placed_block (arg0 m c) (arg2 m c) _ _ t (block0 m c t) (block2 m c t) r k).trans (congrArg _ ?_)
  blk_ext [idx_all t]

end Cert.Proof.Ord

end
-- ==== Proof.Seek.lean ====
/-
  The thresholds' call: for each row it settles the bits of a level's word from the highest down, taking a bit when at least
  200 of the row's scores are above the level, and ends at the last level below the row's 200th greatest score.
-/
module

public import proofs.«01_k».proof.Proof.Levels
public import proofs.«01_k».proof.Proof.Placed
public import proofs.«01_k».proof.Proof.Gen.ThreshIdeal.Value
public import Idealize.ShloMosaic.Lib.Pipeline.ValueKit
public import Idealize.ShloMosaic.Lib.Pointwise

@[expose] public section

noncomputable section

namespace Cert.Proof.Thr

open Cert.ThreshIdeal Cert.ThreshIdeal.Gen
open Idealize.ShloMosaic Idealize.ShloMosaic.TcCoe Idealize.SL.Sem
open Cert.Proof.Ord (atPlace bit_float bool_bit sum_ones)

/-! ## One trip -/

/-- Row `r` of the scores. -/
abbrev rowOf (v : Vec Ideal S160x20000 .f32) (r : Fin 160) : Fin 20000 → EReal := fun k => v (ix2 r k)

/-- The bit that trip `t` settles. -/
theorem bit_at : ∀ t : Fin 26, Scalar.shli 1#32 (Scalar.subi 25#32 (Scf.iv 0#32 1#32 t.val)) = BitVec.ofNat 32 (2 ^ (25 - t.val)) := by
  decide

theorem or_word (s i : ℕ) (h : 2 ^ (i + 1) ∣ s) : IntOp.ori (BitVec.ofNat 32 s) (BitVec.ofNat 32 (2 ^ i)) = BitVec.ofNat 32 (s + 2 ^ i) := by
  rw [← or_add s i h]
  exact BitVec.ofNat_or.symm

theorem two_hundred : Ideal.ofBits .f32 1128792064#32 = ((200 : ℕ) : EReal) := by
  rw [show (1128792064#32 : BitVec 32) = BitVec.ofNat 32 1128792064 from rfl, word_eq _ (by norm_num) (by norm_num),
    show word 1128792064 = ((200 : ℕ) : ℝ) by unfold word; norm_num]
  rfl

/-- A row's 200th greatest score. -/
abbrev scoreOf (v : Vec Ideal S160x20000 .f32) (r : Fin 160) : EReal := v (ix2 r (atPlace (rowOf v r) 199))

/-- The trip takes the bit when the level it leads to is below the row's 200th greatest score. -/
theorem trip_at (v : Vec Ideal S160x20000 .f32) (t : Fin k0_t1_loop.trips) (o : IVec S160x1 32) (r : Fin 160) (s : ℕ)
    (ho : o (ix2 r 0) = BitVec.ofNat 32 s) (hd : 2 ^ (25 - t.val + 1) ∣ s) :
    k0_pay2 v t o (ix2 r 0) = BitVec.ofNat 32 (if level (s + 2 ^ (25 - t.val)) < scoreOf v r then s + 2 ^ (25 - t.val) else s) := by
  have hb := bit_at ⟨t.val, t.isLt⟩
  dsimp only at hb
  have hl : Ideal.ofBits .f32 (IntOp.addi 1008981770#32 (BitVec.ofNat 32 (s + 2 ^ (25 - t.val)))) = level (s + 2 ^ (25 - t.val)) := by
    unfold level
    rw [BitVec.ofNat_add base]
    rfl
  pointwise [k0_pay2]
  rw [ho, hb, or_word _ _ hd, hl, two_hundred]
  generalize s + 2 ^ (25 - t.val) = s'
  have hc : (((200 : ℕ) : EReal) ≤ ∑ x : Fin 20000, (FloatOps.sitofp .f32 (BitVec.setWidth 32 (BitVec.ofBool (decide (level s' < v (ix2 r x))))) : Ideal .f32))
      ↔ level s' < scoreOf v r := by
    rw [← above_iff (rowOf v r) 199 (level s')]
    rw [Finset.sum_congr rfl fun x _ => (bit_float _).trans (if_congr (bool_bit (level s' < v (ix2 r x))) rfl rfl), sum_ones]
    exact Nat.cast_le
  exact (if_congr hc rfl rfl).trans (apply_ite (BitVec.ofNat 32) _ _ _).symm

/-! ## The trips -/

/-- What holds at first and is kept by every step holds at last. -/
theorem foldl_inv {σ : Type} (Q : ℕ → σ → Prop) : ∀ (n : ℕ) (g : Fin n → σ → σ) (init : σ), Q 0 init → (∀ (k : Fin n) (a : σ), Q k.val a → Q (k.val + 1) (g k a)) →
    Q n ((List.finRange n).foldl (fun a k => g k a) init)
  | 0, _, _, h0, _ => h0
  | n + 1, g, init, h0, hs => by
    rw [List.finRange_succ_last, List.foldl_append, List.foldl_map]
    exact hs (Fin.last n) _ (foldl_inv Q n (fun k => g k.castSucc) init h0 fun k a h => hs k.castSucc a h)

/-- All of them together find the last level below the row's 200th greatest score. -/
theorem fold_at (v : Vec Ideal S160x20000 .f32) (r : Fin 160) :
    Scf.fold (fun t o => k0_pay2 v t o) k0_pay1 (ix2 r 0) = BitVec.ofNat 32 (lastBelow (scoreOf v r)) := by
  rw [Scf.fold_eq]
  refine foldl_inv (fun k o => o (ix2 r 0) = BitVec.ofNat 32 (search (fun n => level n < scoreOf v r) k)) k0_t1_loop.trips (fun t o => k0_pay2 v t o) k0_pay1 rfl
    fun t o ho => ?_
  have ht : t.val < 26 := t.isLt
  have hd := (search_inv _ (below_mono (scoreOf v r)) t.val ht.le).1
  rw [show 26 - t.val = 25 - t.val + 1 by omega] at hd
  exact trip_at v t o r _ ho hd

theorem pay3_at (o : IVec S160x1 32) (r : Fin 160) (l : Fin 16) (n : ℕ) (ho : o (ix2 r 0) = BitVec.ofNat 32 n) (hn : n < count) :
    (k0_pay3 o : FVec Ideal S160x16 .f32) (ix2 r l) = level n := by
  have hl : Ideal.ofBits .f32 (IntOp.addi 1008981770#32 (BitVec.ofNat 32 n)) = level n := by
    unfold level
    rw [BitVec.ofNat_add base]
    rfl
  have h0 : Ideal.ofBits .f32 1008981770#32 = level 0 := rfl
  pointwise [k0_pay3]
  rw [ho, hl, h0]
  exact max_eq_left (level_le (Nat.zero_le n) hn)

/-! ## The result -/

/-- Each row's threshold, in all the lanes. -/
def found (v : Vec Ideal S160x20000 .f32) : Vec Ideal S160x16 .f32 := fun i => level (lastBelow (scoreOf v (i 0)))

theorem found_at (v : Vec Ideal S160x20000 .f32) {i : S160x16.Idx} {r : Fin 160} (h : (i 0).val = r.val) : found v i = level (lastBelow (scoreOf v r)) :=
  congrArg (fun r => level (lastBelow (scoreOf v r))) (Fin.ext h : i 0 = r)

/-- The call reads all the scores at once. -/
theorem whole_load (a : Memref sig .tc .vmem S160x20000 .f32) (h : a.IsWhole) (v : Vec Ideal S160x20000 .f32) :
    a.view.readAt (Elt Ideal) (Rect.unit (s := S160x20000) ![0, 0] S160x20000.size inb_S160x20000_S160x20000_0_0).toLoadRect (h.unread v) = v := by
  funext x
  rw [View.readAt_apply, h.read_unread]
  refine congrArg v (funext fun a => Fin.ext ?_)
  match a with
  | ⟨0, _⟩ =>
    show 0 + 1 * (x 0).val = (x 0).val
    omega
  | ⟨1, _⟩ =>
    show 0 + 1 * (x 1).val = (x 1).val
    omega

/-- What it stores. -/
theorem stored (v : Vec Ideal S160x20000 .f32) (x : S160x16.Idx) :
    (k0_pay3 (Scf.fold (fun t o => k0_pay2 v t o) k0_pay1) : FVec Ideal S160x16 .f32) x
      = found v ((Rect.unit (s := S160x16) ![0, 0] S160x16.size inb_S160x16_S160x16_0_0).emb x) := by
  obtain ⟨r, l, rfl⟩ : ∃ (r : Fin 160) (l : Fin 16), x = ix2 r l := ⟨x 0, x 1, funext fun a => by match a with | ⟨0, _⟩ => rfl | ⟨1, _⟩ => rfl⟩
  refine (pay3_at _ r l _ (fold_at v r) (lastBelow_lt _)).trans (found_at v ?_).symm
  show 0 + 1 * r.val = r.val
  omega

/-- It stores once, over the whole result. -/
theorem pieces (c : Dev nD) (a0 : Memref sig .tc .vmem S160x20000 .f32) (h0 : a0.IsWhole) (a1 : Memref sig .tc .vmem S160x16 .f32) (h1 : a1.IsWhole)
    (v : Vec Ideal S160x20000 .f32) :
    (kernelRun0_A c a0 h0 a1 h1 v).1 = [⟨Rect.unit (s := S160x16) ![0, 0] S160x16.size inb_S160x16_S160x16_0_0,
      k0_pay3 (F := Ideal) (Scf.fold (fun t o => k0_pay2 (F := Ideal) v t o) k0_pay1)⟩] := by
  have e : kernelRun0_A.sl.r (F := Ideal) c a0 h0 v = Scf.fold (fun t o => k0_pay2 (F := Ideal) v t o) k0_pay1 :=
    congrArg (fun w => Scf.fold (fun t o => k0_pay2 (F := Ideal) w t o) k0_pay1) (whole_load a0 h0 v)
  rw [← e]
  rfl

/-- What the call leaves of its block. -/
theorem out_eq (c : Dev nD) (a0 : Memref sig .tc .vmem S160x20000 .f32) (h0 : a0.IsWhole) (a1 : Memref sig .tc .vmem S160x16 .f32) (h1 : a1.IsWhole)
    (v : Vec Ideal S160x20000 .f32) : out0_A_1 c a0 h0 a1 h1 v = found v := by
  funext y
  unfold out0_A_1
  refine View.read_writes_apply_of_pieces _ _ (found v) _ (fun p hp x => ?_) y (cover0_A_1 c a0 h0 a1 h1 v y)
  rw [pieces] at hp
  cases List.mem_singleton.1 hp
  exact stored v x

variable (m : (ℓ : Loc nD τ sig) → Buf (Elt Ideal) ℓ) (c : Dev nD)

/-- The scores. -/
abbrev arg0 : Vec Ideal S160x20000 .f32 := m ((c.tc : Thread nD τ).loc main_arg0)

/-- The two windows at the one grid point: the whole arrays. -/
theorem idx_all : ∀ t : Fin cfg0.N, win0_0.index t = ![0, 0] ∧ win0_1.index t = ![0, 0] :=
  (by decide +kernel : ∀ t : Fin grid0.N, win0_0.index t = ![0, 0] ∧ win0_1.index t = ![0, 0])

theorem block0 (t : Fin cfg0.N) : iblk m c 0 t = arg0 m c := by
  funext y
  obtain ⟨r, k, rfl⟩ : ∃ (r : Fin 160) (k : Fin 20000), y = ix2 r k := ⟨y 0, y 1, funext fun a => by match a with | ⟨0, _⟩ => rfl | ⟨1, _⟩ => rfl⟩
  blk_ext [iblk, V, idx_all t]

/-- What the call leaves. -/
theorem final1 : (dats m 0 c).arrAt 1 cfg0.N = found (arg0 m c) := by
  refine (dats m 0 c).arrAt_eq_of_covers 1 _ (by decide +kernel) fun t hf y => ?_
  blk_simp
  rw [after0_1]
  unfold outsAt0
  rw [out_eq, block0]
  refine congrArg _ ?_
  blk_ext [idx_all t]

end Cert.Proof.Thr

end
-- ==== Proof.RefLevels.lean ====
/-
  The thresholds' reference, entry by entry: a row's 200th greatest score, and the greatest of the levels below it.
-/
module

public import proofs.«01_k».proof.Proof.Levels
public import proofs.«01_k».proof.Proof.Gen.ThreshReferenceIdeal.Run
public import Idealize.ShloMosaic.PureOps.Ideal.Laws
public import Idealize.ShloMosaic.PureOps.Reduce
public import Idealize.ShloMosaic.Lib.Pointwise

@[expose] public section

noncomputable section

namespace Cert.Proof.RefThr

open Cert.ThreshReferenceIdeal Cert.ThreshReferenceIdeal.Gen
open Idealize.ShloMosaic
open Cert.Proof.Ord (atPlace)
open Cert.Proof.Thr

variable (X : Vec Ideal S160x20000 .f32)

/-- Row `r` of the scores. -/
abbrev rowAt (r : Fin 160) : Fin 20000 → EReal := fun k => X (ix2 r k)

/-- The host's comparison. -/
abbrev greaterThan : Ideal .f32 → Ideal .f32 → BitVec 1 := FloatOps.cmpfTotal .gt

/-- The 200 greatest scores of each row. -/
def top : Vec Ideal S160x200 .f32 := (Host.topK S160x200 1 greaterThan X sliceFits_S160x20000_S160x200).1

theorem along_row (r : Fin 160) (k k' : Fin 20000) : (ix2 r k : S160x20000.Idx).along 1 k' = ix2 r k' :=
  funext fun a => by match a with | ⟨0, _⟩ => rfl | ⟨1, _⟩ => rfl

/-- It is the order of the scores. -/
theorem greater (a b : Ideal .f32) : (greaterThan a b == 1#1) = decide ((b : EReal) < a) := by
  show (BitVec.ofBool (decide ((b : EReal) < a)) == 1#1) = _
  by_cases h : (b : EReal) < a <;> simp [h]

/-- The position that the sort of a row puts at place `k`. -/
theorem sorted_at (r : Fin 160) (k : Fin 20000) :
    sortedFrom (fun a b : Fin 20000 => greaterThan (X ((ix2 r k : S160x20000.Idx).along 1 a)) (X ((ix2 r k : S160x20000.Idx).along 1 b)) == 1#1) k
      = atPlace (rowAt X r) k := by
  unfold atPlace
  refine congrArg (fun f => sortedFrom f k) (funext fun a => funext fun b => ?_)
  rw [along_row, along_row]
  exact greater _ _

/-- A slice that starts at the array's first entry has the array's entries. -/
theorem first_slice {α : Type} (x : S160x20000.Idx → α) (h : S160x20000.Slices (fun _ => 0) S160x200) (r : Fin 160) (k : Fin 200) :
    extractStridedSlice S160x200 (fun _ => 0) x h (ix2 r k) = x (ix2 r ⟨k.val, by omega⟩) :=
  congrArg x (funext fun a => Fin.ext (by match a with | ⟨0, _⟩ => exact Nat.zero_add _ | ⟨1, _⟩ => exact Nat.zero_add _))

/-- The greatest scores in order. -/
theorem top_ap (r : Fin 160) (k : Fin 200) : top X (ix2 r k) = X (ix2 r (atPlace (rowAt X r) ⟨k.val, by omega⟩)) := by
  unfold top Host.topK
  dsimp only
  rw [first_slice]
  generalize (⟨k.val, by omega⟩ : Fin 20000) = k
  show X ((ix2 r k : S160x20000.Idx).along 1 (sortedFrom (fun a b : Fin 20000 => greaterThan (X ((ix2 r k : S160x20000.Idx).along 1 a)) (X ((ix2 r k : S160x20000.Idx).along 1 b)) == 1#1) k)) = _
  exact (congrArg (fun p : Fin 20000 => X ((ix2 r k : S160x20000.Idx).along 1 p)) (sorted_at X r k)).trans (congrArg X (along_row r k _))

/-- The levels. -/
def levels : Vec Ideal S67108864 .f32 :=
  bitcastToFloat (F := Ideal) .f32 (addi (broadcastInDim S67108864 ![] bcast_S_S67108864 (constantI S_ 32 1008981770#32)) (iotaInDim S67108864 32 0))

/-- The last of the greatest scores of each row. -/
def last : Vec Ideal S160x1 .f32 := extractStridedSlice S160x1 ![0, 199] (top X) slices_S160x200_S160x1_0_199

/-- The levels below it, and the first level for the others. -/
def chosen : Vec Ideal S160x67108864 .f32 :=
  select (cmpf (F := Ideal) (φ := .f32) .olt (broadcastInDim S160x67108864 ![0, 1] bcast_S1x67108864_S160x67108864_0_1 (broadcastInDim S1x67108864 ![1] bcast_S67108864_S1x67108864_1 levels))
      (broadcastInDim S160x67108864 ![0, 1] bcast_S160x1_S160x67108864_0_1 (last X)))
    (broadcastInDim S160x67108864 ![0, 1] bcast_S1x67108864_S160x67108864_0_1 (broadcastInDim S1x67108864 ![1] bcast_S67108864_S1x67108864_1 levels))
    (broadcastInDim S160x67108864 ![] bcast_S_S160x67108864 (id (constant (F := Ideal) S_ .f32 0x3C23D70A#32)))

theorem levels_ap (i : S67108864.Idx) : levels i = level (i 0).val := by
  unfold level
  show Ideal.ofBits .f32 (1008981770#32 + BitVec.ofNat 32 (i 0).val) = _
  rw [BitVec.ofNat_add]

theorem last_ap (r : Fin 160) : last X (ix2 r 0) = X (ix2 r (atPlace (rowAt X r) 199)) := by
  refine Eq.trans ?_ (top_ap X r 199)
  exact congrArg (top X) (funext fun a => Fin.ext (by match a with | ⟨0, _⟩ => exact Nat.zero_add _ | ⟨1, _⟩ => rfl))

theorem cmp_lt (a b : Ideal .f32) : FloatOps.cmpf .olt a b = 1#1 ↔ (a : EReal) < b := by
  show BitVec.ofBool (decide ((a : EReal) < b)) = 1#1 ↔ _
  by_cases h : (a : EReal) < b <;> simp [h]

theorem chosen_ap (r : Fin 160) (n : Fin 67108864) :
    chosen X (ix2 r n) = if level n.val < X (ix2 r (atPlace (rowAt X r) 199)) then level n.val else level 0 := by
  rw [← last_ap X r]
  have hl : ∀ i : S67108864.Idx, (i 0).val = n.val → levels i = level n.val := fun i h => by rw [levels_ap, h]
  unfold chosen
  generalize last X = T
  revert hl
  generalize levels = L
  intro hl
  pointwise
  rw [hl (ix1 n) rfl]
  rfl

/-- The row's maximum over the levels chosen. -/
theorem best_ap (r : Fin 160) :
    Host.reduce (FloatOps.maximumf : Ideal .f32 → Ideal .f32 → Ideal .f32) (chosen X) (constant (F := Ideal) S_ .f32 0xFF800000#32) reducesTo_S160x67108864_S160_d1 h_S_ (ix1 r)
      = level (lastBelow (X (ix2 r (atPlace (rowAt X r) 199)))) := by
  have h : S160x67108864.Reduces [1] S160 := by decide
  have hm : ∀ n : Fin 67108864, chosen X (h.lift (ix1 r) n) = if level n.val < X (ix2 r (atPlace (rowAt X r) 199)) then level n.val else level 0 := fun n =>
    (congrArg (chosen X) (funext fun a => by match a with | ⟨0, _⟩ => rfl | ⟨1, _⟩ => rfl)).trans (chosen_ap X r n)
  have hb : Ideal.ofBits .f32 0xFF800000#32 = (⊥ : EReal) := by simp [Ideal.ofBits, Ideal.ieee]
  rw [← best_eq, Host.reduce_eq_fold_single _ _ _ _ h]
  show (Finset.univ : Finset (Fin 67108864)).fold max (Ideal.ofBits .f32 0xFF800000#32) (fun n => chosen X (h.lift (ix1 r) n)) = _
  rw [hb]
  exact Finset.fold_congr fun n _ => hm n

/-- The reference's result. -/
def best : Vec Ideal S160x16 .f32 :=
  broadcastInDim S160x16 ![0, 1] bcast_S160x1_S160x16_0_1 (broadcastInDim S160x1 ![0] bcast_S160_S160x1_0
    (Host.reduce (FloatOps.maximumf : Ideal .f32 → Ideal .f32 → Ideal .f32) (chosen X) (constant (F := Ideal) S_ .f32 0xFF800000#32) reducesTo_S160x67108864_S160_d1 h_S_))

theorem best_at (r : Fin 160) (l : Fin 16) : best X (ix2 r l) = level (lastBelow (X (ix2 r (atPlace (rowAt X r) 199)))) := by
  refine Eq.trans ?_ (best_ap X r)
  unfold best
  generalize Host.reduce (FloatOps.maximumf : Ideal .f32 → Ideal .f32 → Ideal .f32) (chosen X) (constant (F := Ideal) S_ .f32 0xFF800000#32) reducesTo_S160x67108864_S160_d1 h_S_ = w
  pointwise

end Cert.Proof.RefThr

end
-- ==== Proof.Thresholds.lean ====
/-
  The thresholds' call's claims: the three frames, and that the call and its reference end with the same thresholds.
-/
module

public import proofs.«01_k».proof.Defs
public import proofs.«01_k».proof.Proof.Gen.Thresh
public import proofs.«01_k».proof.Proof.Gen.Thresh.Frame
public import proofs.«01_k».proof.Proof.Seek
public import proofs.«01_k».proof.Proof.RefLevels
public import Idealize.ShloMosaic.Lib.Quiescent

@[expose] public section

noncomputable section

namespace Cert.Proof

open Idealize.ShloMosaic Idealize.ShloMosaic.TcCoe Idealize.SL.Sem

/-! ## The frames -/

/-- The call's frame on the machine's own floats, -/
theorem frame_thresh : Cert.quiescent_Thresh (hThresh := Cert.Thresh.Gen.facts) := fun m ρ _ => Cert.Thresh.Gen.frame m ρ

/-- and on the ideal ones. -/
theorem frame_thresh_ideal : Cert.quiescent_ThreshIdeal (hThreshIdeal := Cert.ThreshIdeal.Gen.facts) := fun m ρ _ => Cert.ThreshIdeal.Gen.frame m ρ

/-- Its reference's frame. -/
theorem frame_thresh_reference : Cert.quiescent_ThreshReferenceIdeal (hThreshReferenceIdeal := Cert.ThreshReferenceIdeal.Gen.facts) := fun m ρ _ =>
  (θ_run (Cert.ThreshReferenceIdeal.defs (F := Ideal)) _ _).mono
    (fun r h => ⟨fun c => (h c).2, sem_eq_zero_of_no_sems (by decide) r.2⟩) (Cert.ThreshReferenceIdeal.Value.run (F := Ideal) m ρ)

/-! ## The values -/

/-- The reference's thresholds are the call's. -/
theorem best_found (X : Vec Ideal Cert.ThreshIdeal.S160x20000 .f32) : RefThr.best X = Thr.found X := by
  funext y
  obtain ⟨r, l, rfl⟩ : ∃ (r : Fin 160) (l : Fin 16), y = ix2 r l := ⟨y 0, y 1, funext fun a => by match a with | ⟨0, _⟩ => rfl | ⟨1, _⟩ => rfl⟩
  have h : Thr.found X (ix2 r l) = Thr.level (Thr.lastBelow (Thr.scoreOf X r)) := Thr.found_at X (i := ix2 r l) (r := r) rfl
  rw [h]
  exact RefThr.best_at X r l

/-- The value claim. -/
theorem agree_thresh : Cert.algebraic_ThreshIdeal_ThreshReferenceIdeal (hThreshIdeal := Cert.ThreshIdeal.Gen.facts)
    (hThreshReferenceIdeal := Cert.ThreshReferenceIdeal.Gen.facts) := fun m ρ m' ρ' _ hin =>
  ⟨fun c => Thr.found (Thr.arg0 m c),
    (θ_run (Cert.ThreshIdeal.defs (F := Ideal)) _ _).mono (fun _ h c => ⟨(h c).1.trans (Thr.final1 m c), (h c).2⟩)
      (Cert.ThreshIdeal.Value.run_blocks (F := Ideal) m ρ),
    (θ_run (Cert.ThreshReferenceIdeal.defs (F := Ideal)) _ _).mono (fun r h c =>
      ⟨(h c).1.trans ((best_found _).trans (congrArg Thr.found (hin c))), (h c).2⟩) (Cert.ThreshReferenceIdeal.Value.run (F := Ideal) m' ρ')⟩

end Cert.Proof

end
-- ==== Proof.Sorted.lean ====
/-
  The ordering's reference, entry by entry: the greatest scores of a row in order, the positions they come from, and what is
  read at those positions.
-/
module

public import proofs.«01_k».proof.Proof.Placed
public import proofs.«01_k».proof.Proof.Gen.OrderReferenceIdeal.Run
public import Idealize.ShloMosaic.Lib.StableHlo.Predicate
public import Idealize.ShloMosaic.Lib.ValueIdxCore

@[expose] public section

noncomputable section

namespace Cert.Proof.RefOrd

open Cert.OrderReferenceIdeal Cert.OrderReferenceIdeal.Gen
open Idealize.ShloMosaic
open Idealize.ShloMosaic.ValueIdx (gather_take_apply)
open Cert.Proof.Ord (atPlace placed)

variable (X Y : Vec Ideal S160x256 .f32)

/-- Row `r` of an array. -/
abbrev rowAt (r : Fin 160) : Fin 256 → EReal := fun k => X (ix2 r k)

/-- The host's comparison. -/
abbrev greaterThan : Ideal .f32 → Ideal .f32 → BitVec 1 := FloatOps.cmpfTotal .gt

/-- The greatest scores of each row, and where they are. -/
def sorted : Vec Ideal S160x256 .f32 × IVec S160x256 32 := Host.topK S160x256 1 greaterThan X sliceFits_S160x256_S160x256

theorem along_row (r : Fin 160) (k k' : Fin 256) : (ix2 r k : S160x256.Idx).along 1 k' = ix2 r k' :=
  funext fun a => by match a with | ⟨0, _⟩ => rfl | ⟨1, _⟩ => rfl

/-- It is the order of the scores. -/
theorem greater (a b : Ideal .f32) : (greaterThan a b == 1#1) = decide ((b : EReal) < a) := by
  show (BitVec.ofBool (decide ((b : EReal) < a)) == 1#1) = _
  by_cases h : (b : EReal) < a <;> simp [h]

/-- The position that the sort of a row puts at place `k`. -/
theorem sorted_at (r : Fin 160) (k : Fin 256) :
    sortedFrom (fun a b : Fin 256 => greaterThan (X ((ix2 r k : S160x256.Idx).along 1 a)) (X ((ix2 r k : S160x256.Idx).along 1 b)) == 1#1) k
      = atPlace (rowAt X r) k := by
  unfold atPlace
  refine congrArg (fun f => sortedFrom f k) (funext fun a => funext fun b => ?_)
  rw [along_row, along_row]
  exact greater _ _

/-- A slice that starts at the array's first entry and is as large is the array. -/
theorem whole_slice {α : Type} (x : S160x256.Idx → α) (h : S160x256.Slices (fun _ => 0) S160x256) (i : S160x256.Idx) :
    extractStridedSlice S160x256 (fun _ => 0) x h i = x i :=
  congrArg x (funext fun a => Fin.ext (Nat.zero_add _))

/-- The sorted scores. -/
theorem top_ap (r : Fin 160) (k : Fin 256) :
    (sorted X).1 (ix2 r k) = X (ix2 r (atPlace (rowAt X r) k)) := by
  unfold sorted Host.topK
  dsimp only
  rw [whole_slice]
  show X ((ix2 r k : S160x256.Idx).along 1 (sortedFrom (fun a b : Fin 256 => greaterThan (X ((ix2 r k : S160x256.Idx).along 1 a)) (X ((ix2 r k : S160x256.Idx).along 1 b)) == 1#1) k)) = _
  exact (congrArg (fun p : Fin 256 => X ((ix2 r k : S160x256.Idx).along 1 p)) (sorted_at X r k)).trans (congrArg X (along_row r k _))

/-- The positions they come from. -/
theorem at_ap (r : Fin 160) (k : Fin 256) :
    (sorted X).2 (ix2 r k) = BitVec.ofNat 32 (atPlace (rowAt X r) k).val := by
  unfold sorted Host.topK
  dsimp only
  rw [whole_slice]
  show BitVec.ofNat 32 (((ix2 r k : S160x256.Idx).along 1 (sortedFrom (fun a b : Fin 256 => greaterThan (X ((ix2 r k : S160x256.Idx).along 1 a)) (X ((ix2 r k : S160x256.Idx).along 1 b)) == 1#1) k)) 1).val = _
  have h : ∀ p : Fin 256, (((ix2 r k : S160x256.Idx).along 1 p) 1).val = p.val := fun p =>
    congrArg (fun i : S160x256.Idx => (i 1).val) (along_row r k p)
  exact congrArg (BitVec.ofNat 32) ((h _).trans (congrArg Fin.val (sorted_at X r k)))

/-- The positions in the rows laid end to end. -/
def flats : IVec S160x256 32 :=
  addi (broadcastInDim S160x256 ![0, 1] bcast_S160x1_S160x256_0_1
      (muli (broadcastInDim S160x1 ![0] bcast_S160_S160x1_0 (iotaInDim S160 32 0))
        (broadcastInDim S160x1 ![] bcast_S_S160x1 (constantI S_ 32 256#32))))
    (sorted X).2

theorem flats_ap (r : Fin 160) (k : Fin 256) : flats X (ix2 r k) = BitVec.ofNat 32 (r.val * 256 + (atPlace (rowAt X r) k).val) := by
  show BitVec.ofNat 32 r.val * 256#32 + (sorted X).2 (ix2 r k) = _
  rw [at_ap, BitVec.ofNat_add, BitVec.ofNat_mul]

/-- What an array holds there. -/
def picks : Vec Ideal S160x256 .f32 :=
  Host.gather gather_S40960_S160x256x1_S160x256_n_0_n_n_0_2_1 (shapeCast S40960 Y shapeCasts_S160x256_S40960)
    (broadcastInDim S160x256x1 ![0, 1] bcast_S160x256_S160x256x1_0_1 (flats X))

theorem picks_ap (r : Fin 160) (k : Fin 256) : picks X Y (ix2 r k) = Y (ix2 r (atPlace (rowAt X r) k)) := by
  have hfl := flats_ap X r k
  revert hfl
  generalize atPlace (rowAt X r) k = p
  intro hfl
  have hr := r.isLt
  have hp := p.isLt
  unfold picks
  refine (gather_take_apply (N := 40960) (R := 160) (C := 256) (by decide) _ _ _ (ix2 r k)).trans ?_
  refine shapeCast_apply _ _ _ (ix2 r p) ?_
  have e : ∀ z : S160x256.Idx, z = ix2 r k → min ((flats X z).toInt.toNat) (40960 - 1) = r.val * 256 + p.val := fun z hz => by
    have hs : (BitVec.ofNat 32 (r.val * 256 + p.val)).toNat = r.val * 256 + p.val := by
      rw [BitVec.toNat_ofNat]
      exact Nat.mod_eq_of_lt (by omega)
    rw [hz, hfl, StableHlo.Predicate.toInt_eq_toNat_of_lt (by rw [hs]; omega), hs]
    omega
  rw [Shape.rowMajor_val_one, Shape.rowMajor_val_two]
  exact (e _ (funext fun a => by match a with | ⟨0, _⟩ => rfl | ⟨1, _⟩ => rfl)).symm

/-! ## The results are the call's -/

theorem placed_ap (r : Fin 160) (k : Fin 256) : placed X Y (ix2 r k) = Y (ix2 r (atPlace (rowAt X r) k)) := rfl

theorem top_eq : (sorted X).1 = placed X X := by
  funext y
  obtain ⟨r, k, rfl⟩ : ∃ r k, y = ix2 r k := ⟨y 0, y 1, funext fun a => by match a with | ⟨0, _⟩ => rfl | ⟨1, _⟩ => rfl⟩
  rw [top_ap]
  exact (placed_ap X X r k).symm

theorem picks_eq : picks X Y = placed X Y := by
  funext y
  obtain ⟨r, k, rfl⟩ : ∃ r k, y = ix2 r k := ⟨y 0, y 1, funext fun a => by match a with | ⟨0, _⟩ => rfl | ⟨1, _⟩ => rfl⟩
  rw [picks_ap]
  exact (placed_ap X Y r k).symm

end Cert.Proof.RefOrd

end
-- ==== Proof.Ordered.lean ====
/-
  The ordering call's claims: the three frames, and that the call and its reference end with the same three results.
-/
module

public import proofs.«01_k».proof.Defs
public import proofs.«01_k».proof.Proof.Gen.Order
public import proofs.«01_k».proof.Proof.Gen.Order.Frame
public import proofs.«01_k».proof.Proof.Placed
public import proofs.«01_k».proof.Proof.Sorted
public import Idealize.ShloMosaic.Lib.Quiescent

@[expose] public section

noncomputable section

namespace Cert.Proof

open Idealize.ShloMosaic Idealize.ShloMosaic.TcCoe Idealize.SL.Sem

/-! ## The frames -/

/-- The call's frame on the machine's own floats, -/
theorem frame_order : Cert.quiescent_Order (hOrder := Cert.Order.Gen.facts) := fun m ρ _ => Cert.Order.Gen.frame m ρ

/-- and on the ideal ones. -/
theorem frame_order_ideal : Cert.quiescent_OrderIdeal (hOrderIdeal := Cert.OrderIdeal.Gen.facts) := fun m ρ _ => Cert.OrderIdeal.Gen.frame m ρ

/-- Its reference's frame. -/
theorem frame_order_reference : Cert.quiescent_OrderReferenceIdeal (hOrderReferenceIdeal := Cert.OrderReferenceIdeal.Gen.facts) := fun m ρ _ =>
  (θ_run (Cert.OrderReferenceIdeal.defs (F := Ideal)) _ _).mono
    (fun r h => ⟨fun c => (h c).2.2.2, sem_eq_zero_of_no_sems (by decide) r.2⟩) (Cert.OrderReferenceIdeal.Value.run (F := Ideal) m ρ)

/-! ## The values -/

/-- The value claim. -/
theorem agree_order : Cert.algebraic_OrderIdeal_OrderReferenceIdeal (hOrderIdeal := Cert.OrderIdeal.Gen.facts)
    (hOrderReferenceIdeal := Cert.OrderReferenceIdeal.Gen.facts) := fun m ρ m' ρ' _ hin =>
  ⟨fun c => Ord.placed (Ord.arg0 m c) (Ord.arg0 m c), fun c => Ord.placed (Ord.arg0 m c) (Ord.arg1 m c),
    fun c => Ord.placed (Ord.arg0 m c) (Ord.arg2 m c),
    (θ_run (Cert.OrderIdeal.defs (F := Ideal)) _ _).mono (fun _ h c => by
      obtain ⟨h0, h1, h2, ha⟩ := h c
      exact ⟨h0.trans (Ord.final3 m c), h1.trans (Ord.final4 m c), h2.trans (Ord.final5 m c), ha⟩)
      (Cert.OrderIdeal.Value.run_blocks (F := Ideal) m ρ),
    (θ_run (Cert.OrderReferenceIdeal.defs (F := Ideal)) _ _).mono (fun r h c => by
      obtain ⟨h0, h1, h2, ha⟩ := h c
      obtain ⟨e0, e1, e2⟩ := hin c
      have e : ∀ v v' y y' : Vec Ideal Cert.OrderIdeal.S160x256 .f32, v = v' → y = y' → Ord.placed v y = Ord.placed v' y' :=
        fun _ _ _ _ hv hy => by rw [hv, hy]
      exact ⟨h0.trans ((RefOrd.top_eq _).trans (e _ _ _ _ e0 e0)), h1.trans ((RefOrd.picks_eq _ _).trans (e _ _ _ _ e0 e1)),
        h2.trans ((RefOrd.picks_eq _ _).trans (e _ _ _ _ e0 e2)), ha⟩) (Cert.OrderReferenceIdeal.Value.run (F := Ideal) m' ρ')⟩

end Cert.Proof

end
-- ==== Proof.Block.lean ====
/-
  The suppression call's body, told once for all of its 25 blocks. A block is eight candidates, `lo … lo + 7`, and works on
  the rows from `lo` on; the printed text has a copy of it per block, each at its own row count. Here the block is a function of
  `lo`, and the body is shown to be the blocks one after another.
-/
module

public import proofs.«01_k».proof.Proof.Gen.NmsIdeal.Frame.Runs

@[expose] public section

noncomputable section

namespace Cert.Proof.Sup

open Cert.NmsIdeal Cert.NmsIdeal.Gen
open Idealize.ShloMosaic
open Idealize.SL.Sem

variable {F : FTy → Type} [FloatOps F]

/-- The program fragments of this call. -/
abbrev Frag (F : FTy → Type) [FloatOps F] (α : Type) := Prog (TpuEff nD τ sig (Elt F) Λ₀ .tc) α

/-- The whole (200,160) arrays the body works on. -/
abbrev Whole200 := Memref sig .tc .vmem S200x160 .f32

/-- The rows from `lo` on. -/
abbrev Tail (lo : ℕ) : Shape := ⟨2, ![200 - lo, 160]⟩

/-- A block's eight trips. -/
abbrev eight : Scf.Loop 32 := ⟨0#32, Scalar.addi 0#32 8#32, 1#32⟩

theorem eight_ok : eight.OK := k0_t1_ok

theorem eight_trips : eight.trips = 8 := by decide

/-- The candidate of trip `k` of the block at `lo`, as the body computes it. -/
abbrev cand (lo k : ℕ) : BitVec 32 := Scalar.addi (BitVec.ofNat 32 lo) (Scf.iv 0#32 1#32 k)

/-- Where its row begins. -/
abbrev candOff (lo k : ℕ) : Fin 2 → ℕ := ![(Scalar.indexCast (cand lo k)).toNat, 0]

theorem cand_toNat {lo k : ℕ} (hl : lo ≤ 192) (hk : k < 8) : (cand lo k).toNat = lo + k := by
  show (BitVec.ofNat 32 lo + (0#32 + BitVec.ofNat 32 k * 1#32)).toNat = lo + k
  simp only [BitVec.toNat_add, BitVec.toNat_mul, BitVec.toNat_ofNat]
  omega

theorem candOff_eq {lo k : ℕ} (hl : lo ≤ 192) (hk : k < 8) : candOff lo k = ![lo + k, 0] := by
  have h : (Scalar.indexCast (cand lo k)).toNat = lo + k := cand_toNat hl hk
  rw [candOff, h]

theorem candOff_inb {lo : ℕ} (hl : lo ≤ 192) (k : Fin eight.trips) : ∀ a : Fin 2, candOff lo k.val a + S1x160.size a ≤ S200x160.size a := by
  have hk : k.val < 8 := Nat.lt_of_lt_of_eq k.isLt eight_trips
  rw [candOff_eq hl hk]
  refine Fin.forall_fin_two.mpr ⟨?_, Nat.le_refl 160⟩
  show lo + k.val + 1 ≤ 200
  omega

theorem tail_inb {lo : ℕ} (hl : lo ≤ 192) : ∀ a : Fin 2, (![lo, 0] : Fin 2 → ℕ) a + (Tail lo).size a ≤ S200x160.size a :=
  Fin.forall_fin_two.mpr ⟨show lo + (200 - lo) ≤ 200 by omega, Nat.le_refl 160⟩

/-- The rectangle of the candidate's row, -/
abbrev candRow {lo : ℕ} (hl : lo ≤ 192) (k : Fin eight.trips) : Rect S200x160 := Rect.unit (s := S200x160) (candOff lo k.val) S1x160.size (candOff_inb hl k)

/-- and of the rows from `lo` on. -/
abbrev tailRows {lo : ℕ} (hl : lo ≤ 192) : Rect S200x160 := Rect.unit (s := S200x160) ![lo, 0] (Tail lo).size (tail_inb hl)

theorem tail_pos {lo : ℕ} (hl : lo ≤ 192) : 0 < (Tail lo).numel := by
  show 0 < ∏ a : Fin 2, (Tail lo).size a
  rw [Fin.prod_univ_two]
  show 0 < (200 - lo) * 160
  omega

theorem row_broadcasts (lo : ℕ) : S1x160.Broadcasts (Tail lo) :=
  ⟨Nat.le_refl 2, Fin.forall_fin_two.mpr ⟨.inl rfl, .inr fun _ => rfl⟩⟩

theorem tail_iotas (lo : ℕ) : (Tail lo).Iotas .tc 32 [0] :=
  ⟨List.nodup_singleton _, fun _ => ⟨.inr rfl, Nat.le_refl 2⟩, fun h => absurd rfl h⟩

theorem tail_casts (lo : ℕ) : (Tail lo).ShapeCasts (Tail lo) := rfl

/-- What a trip stores in the rows from `lo` on: the kept marks, cleared where candidate `ii`, itself kept, overlaps a later row
    too much. `s`, `e`, `kept` are the rows' starts, ends and marks, `si`, `ei`, `cur` the candidate's. -/
def marked (lo : ℕ) (ii : BitVec 32) (s e : Vec F (Tail lo) .f32) (si ei cur : Vec F S1x160 .f32) (kept : Vec F (Tail lo) .f32) : FVec F (Tail lo) .f32 :=
  let zero : FVec F (Tail lo) .f32 := broadcast (Tail lo) (Scalar.ofBits .f32 0x00000000#32)
  let len : FVec F (Tail lo) .f32 := maximumf (subf e s) zero
  let row : IVec (Tail lo) 32 := addi (broadcast (Tail lo) (BitVec.ofNat 32 lo)) (iota .tc (Tail lo) 32 [0] (tail_iotas lo))
  let li : FVec F S1x160 .f32 := maximumf (subf ei si) (broadcast S1x160 (Scalar.ofBits .f32 0x00000000#32))
  let inter : FVec F (Tail lo) .f32 :=
    maximumf (subf (minimumf e (broadcastTo (Tail lo) ei (row_broadcasts lo))) (maximumf s (broadcastTo (Tail lo) si (row_broadcasts lo)))) zero
  let union : FVec F (Tail lo) .f32 := subf (addf len (broadcastTo (Tail lo) li (row_broadcasts lo))) inter
  let iou : FVec F (Tail lo) .f32 := divf inter (addf union (broadcast (Tail lo) (Scalar.ofBits .f32 0x3089705F#32)))
  let hit : IVec (Tail lo) 1 := andi (cmpf .ogt iou (broadcast (Tail lo) (Scalar.ofBits .f32 0x3EE66666#32))) (cmpi .sgt row (broadcast (Tail lo) ii))
  let supp : FVec F (Tail lo) .f32 := sitofp .f32 (extui 32 hit natLt_1_32)
  let new : FVec F (Tail lo) .f32 :=
    mulf kept (subf (broadcast (Tail lo) (Scalar.ofBits .f32 0x3F800000#32)) (mulf (broadcastTo (Tail lo) cur (row_broadcasts lo)) supp))
  shapeCast (Tail lo) new (tail_casts lo)

variable (starts ends keep : Whole200)

/-- One trip. -/
def trip {lo : ℕ} (hl : lo ≤ 192) (s e : Vec F (Tail lo) .f32) (k : Fin eight.trips) (_ : Unit) : Frag F Unit := do
  let si : Vec F S1x160 .f32 ← Prog.lift (.load starts (candRow hl k).toLoadRect (View.loadsAt_vmem h_S1x160))
  let ei : Vec F S1x160 .f32 ← Prog.lift (.load ends (candRow hl k).toLoadRect (View.loadsAt_vmem h_S1x160))
  let cur : Vec F S1x160 .f32 ← Prog.lift (.load keep (candRow hl k).toLoadRect (View.loadsAt_vmem h_S1x160))
  let kept : Vec F (Tail lo) .f32 ← Prog.lift (.load keep (tailRows hl).toLoadRect (View.loadsAt_vmem (tail_pos hl)))
  let _ : Vec F (Tail lo) .f32 ← Prog.lift (.load keep (tailRows hl).toLoadRect (View.loadsAt_vmem (tail_pos hl)))
  Prog.lift (.store keep (tailRows hl) (marked lo (cand lo k.val) s e si ei cur kept) Finset.univ (View.stores_vmem_bits_univ (tail_pos hl) rfl) (.inl rfl))
  pure ⟨⟩

/-- One block. -/
def block {lo : ℕ} (hl : lo ≤ 192) : Frag F Unit := do
  let s : Vec F (Tail lo) .f32 ← Prog.lift (.load starts (tailRows hl).toLoadRect (View.loadsAt_vmem (tail_pos hl)))
  let e : Vec F (Tail lo) .f32 ← Prog.lift (.load ends (tailRows hl).toLoadRect (View.loadsAt_vmem (tail_pos hl)))
  Scf.Loop.for eight eight_ok ⟨⟩ (trip starts ends keep hl s e)

/-- `n` blocks, the first at `lo`. -/
def blocks : (n lo : ℕ) → lo + 8 * n = 200 → Frag F Unit
  | 0, _, _ => pure ⟨⟩
  | n + 1, lo, h => do
    block starts ends keep (lo := lo) (by omega)
    blocks n (lo + 8) (by omega)

/-- The whole rectangle. -/
abbrev allRows : Rect S200x160 := Rect.unit (s := S200x160) ![0, 0] S200x160.size inb_S200x160_S200x160_0_0

/-- The body: which candidates score enough, the blocks, and the three results masked by what is kept. -/
def body (scores out0 out1 out2 : Whole200) : Frag F PUnit := do
  let v : Vec F S200x160 .f32 ← Prog.lift (.load scores allRows.toLoadRect (View.loadsAt_vmem h_S200x160))
  let _ : Vec F S200x160 .f32 ← Prog.lift (.load keep allRows.toLoadRect (View.loadsAt_vmem h_S200x160))
  Prog.lift (.store keep allRows (k0_pay1 v) Finset.univ (View.stores_vmem_bits_univ h_S200x160 rfl) (.inl rfl))
  blocks starts ends keep 25 0 rfl
  let k : Vec F S200x160 .f32 ← Prog.lift (.load keep allRows.toLoadRect (View.loadsAt_vmem h_S200x160))
  let s : Vec F S200x160 .f32 ← Prog.lift (.load starts allRows.toLoadRect (View.loadsAt_vmem h_S200x160))
  let _ : Vec F S200x160 .f32 ← Prog.lift (.load out0 allRows.toLoadRect (View.loadsAt_vmem h_S200x160))
  Prog.lift (.store out0 allRows (mulf s k : FVec F S200x160 .f32) Finset.univ (View.stores_vmem_bits_univ h_S200x160 rfl) (.inl rfl))
  let e : Vec F S200x160 .f32 ← Prog.lift (.load ends allRows.toLoadRect (View.loadsAt_vmem h_S200x160))
  let _ : Vec F S200x160 .f32 ← Prog.lift (.load out1 allRows.toLoadRect (View.loadsAt_vmem h_S200x160))
  Prog.lift (.store out1 allRows (mulf e k : FVec F S200x160 .f32) Finset.univ (View.stores_vmem_bits_univ h_S200x160 rfl) (.inl rfl))
  let p : Vec F S200x160 .f32 ← Prog.lift (.load scores allRows.toLoadRect (View.loadsAt_vmem h_S200x160))
  let _ : Vec F S200x160 .f32 ← Prog.lift (.load out2 allRows.toLoadRect (View.loadsAt_vmem h_S200x160))
  Prog.lift (.store out2 allRows (mulf p k : FVec F S200x160 .f32) Finset.univ (View.stores_vmem_bits_univ h_S200x160 rfl) (.inl rfl))
  pure ⟨⟩

set_option maxRecDepth 65536 in
/-- The printed body is this one. -/
theorem body_eq (arg0 : Whole200) (harg0 : arg0.IsWhole) (arg1 : Whole200) (harg1 : arg1.IsWhole) (arg2 : Whole200) (harg2 : arg2.IsWhole)
    (arg3 : Whole200) (harg3 : arg3.IsWhole) (arg4 : Whole200) (harg4 : arg4.IsWhole) (arg5 : Whole200) (harg5 : arg5.IsWhole)
    (arg6 : Whole200) (harg6 : arg6.IsWhole) :
    cc0__nms_body (F := F) arg0 harg0 arg1 harg1 arg2 harg2 arg3 harg3 arg4 harg4 arg5 harg5 arg6 harg6 = body arg0 arg1 arg6 arg2 arg3 arg4 arg5 := by
  rw [cc0__nms_body_eq_skeleton]
  unfold cc0__nms_body_skel body
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [blocks, block, bind_assoc, pure_bind]
  rfl

end Cert.Proof.Sup

end
-- ==== Proof.Marks.lean ====
/-
  What the suppression call's body computes, as a value (`keepAt`), and that the body computes it: each block takes the marks from
  before its first candidate to after its last, and the results are the arguments masked by the last marks.
-/
module

public import proofs.«01_k».proof.Proof.Block
public import Idealize.ShloMosaic.Lib.VecWindow

@[expose] public section

noncomputable section

namespace Cert.Proof.Sup

open Cert.NmsIdeal Cert.NmsIdeal.Gen
open Idealize.ShloMosaic Idealize.ShloMosaic.TcCoe
open Idealize.ShloMosaic.VecWindow (window put)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The value -/

theorem one_inb {i : ℕ} (hi : i < 200) : ∀ a : Fin 2, (![i, 0] : Fin 2 → ℕ) a + S1x160.size a ≤ S200x160.size a :=
  Fin.forall_fin_two.mpr ⟨show i + 1 ≤ 200 by omega, Nat.le_refl 160⟩

/-- The rows from `lo` on, -/
abbrev tailOf {lo : ℕ} (hl : lo ≤ 192) (x : Vec F S200x160 .f32) : Vec F (Tail lo) .f32 :=
  window (s := S200x160) x ![lo, 0] (Tail lo).size (tail_inb hl)

/-- and row `i`. -/
abbrev oneOf {i : ℕ} (hi : i < 200) (x : Vec F S200x160 .f32) : Vec F S1x160 .f32 :=
  window (s := S200x160) x ![i, 0] S1x160.size (one_inb hi)

/-- The marks after candidate `i` of the block at `lo`. -/
def step {lo i : ℕ} (hl : lo ≤ 192) (hi : i < 200) (s e k : Vec F S200x160 .f32) : Vec F S200x160 .f32 :=
  put (s := S200x160) k ![lo, 0] (Tail lo).size
    (marked lo (BitVec.ofNat 32 i) (tailOf hl s) (tailOf hl e) (oneOf hi s) (oneOf hi e) (oneOf hi k) (tailOf hl k))

/-- The marks before candidate `i`. -/
def keepAt (s e v : Vec F S200x160 .f32) : ℕ → Vec F S200x160 .f32
  | 0 => k0_pay1 v
  | i + 1 => if h : i < 200 then step (lo := 8 * (i / 8)) (by omega) h s e (keepAt s e v i) else keepAt s e v i

theorem keepAt_succ (s e v : Vec F S200x160 .f32) {lo i : ℕ} (hl : lo ≤ 192) (hi : i < 200) (h : lo = 8 * (i / 8)) :
    keepAt s e v (i + 1) = step hl hi s e (keepAt s e v i) := by
  subst h
  rw [keepAt, dif_pos hi]

/-! ## The rules -/

variable (c : Dev nD) {α : Type} {Q : α → sProp (MT nD τ sig Unit (Elt F) ℕ (UR sig nD τ) ℕ)}

/-- A load through a rectangle of a held array reads that window. -/
theorem wp_read {m : Whole200} {off size : Fin 2 → ℕ} {inb} {hl} {k : ((Rect.unit (s := S200x160) off size inb).shape.Idx → Elt F .f32) → Frag F α}
    {X : Vec F S200x160 .f32} :
    owns (c : Thread nD τ) m fullShare X
      ⊢ iprop((owns (c : Thread nD τ) m fullShare X -∗ wp frame (wpE (defs₀ (F := F)) Variants.none c none) Set.univ (k (window (s := S200x160) X off size inb)) Q)
        -∗ wp frame (wpE (defs₀ (F := F)) Variants.none c none) Set.univ (.op (.load m (Rect.unit (s := S200x160) off size inb).toLoadRect hl) k) Q) := by
  unfold owns
  iintro ⟨%f, %hf, H⟩ Hk
  iapply (wp_load_rect (defs := defs₀) Variants.none (c : Thread nD τ) none Set.univ (Q := Q) (m := m) (r := Rect.unit (s := S200x160) off size inb)
    (hl := hl) (k := k) (q := fullShare) (f := f) (View.set_slice_subset _ _)) $$ H
  iintro H
  have hv : (m.access (Rect.unit (s := S200x160) off size inb)).read (Elt F) f = window (s := S200x160) X off size inb := by
    rw [← hf]
    rfl
  rw [hv]
  iapply Hk
  iexists f
  isplitr
  · ipureintro
    exact hf
  iexact H

/-- A store through a rectangle of a held array puts its payload there. -/
theorem wp_put {m : Whole200} {off size : Fin 2 → ℕ} {inb} {w : (Rect.unit (s := S200x160) off size inb).shape.Idx → Elt F .f32} {hx} {hm}
    {k : PUnit → Frag F α} {X : Vec F S200x160 .f32} :
    owns (c : Thread nD τ) m fullShare X
      ⊢ iprop((owns (c : Thread nD τ) m fullShare (put (s := S200x160) X off size w) -∗ wp frame (wpE (defs₀ (F := F)) Variants.none c none) Set.univ (k ⟨⟩) Q)
        -∗ wp frame (wpE (defs₀ (F := F)) Variants.none c none) Set.univ
          (.op (.store m (Rect.unit (s := S200x160) off size inb) w Finset.univ hx hm) k) Q) := by
  unfold owns
  iintro ⟨%f, %hf, H⟩ Hk
  iapply (wp_store (defs := defs₀) Variants.none (c : Thread nD τ) none Set.univ (Q := Q) (m := m) (r := Rect.unit (s := S200x160) off size inb)
    (w := w) (Mk := Finset.univ) (hx := hx) (hm := hm) (k := k) (f := f) (by rw [View.setOn_univ]; exact View.set_slice_subset _ _)) $$ H
  iintro H
  iapply Hk
  iexists (m.access (Rect.unit (s := S200x160) off size inb)).write (Elt F) f w Finset.univ
  isplitr
  · ipureintro
    rw [← hf]
    exact View.read_writes_cons_put m.view f inb w [] rfl
  iexact H

/-- The arrays the blocks work on: the starts, the ends and the marks. -/
abbrev three (starts ends keep : Whole200) (s e k : Vec F S200x160 .f32) : sProp 𝕄 :=
  iprop(owns (c : Thread nD τ) starts fullShare s ∗ owns (c : Thread nD τ) ends fullShare e ∗ owns (c : Thread nD τ) keep fullShare k)

variable {starts ends keep : Whole200} {s e v : Vec F S200x160 .f32}

/-- One trip. -/
theorem wp_trip {lo : ℕ} (hl : lo ≤ 192) (h8 : lo % 8 = 0) (k : Fin eight.trips) :
    three c starts ends keep s e (keepAt s e v (lo + k.val))
      ⊢ wp frame (wpE (defs₀ (F := F)) Variants.none c none) Set.univ (trip starts ends keep hl (tailOf hl s) (tailOf hl e) k ⟨⟩)
          (fun _ => three c starts ends keep s e (keepAt s e v (lo + (k.val + 1)))) := by
  have hk : k.val < 8 := Nat.lt_of_lt_of_eq k.isLt eight_trips
  have hi : lo + k.val < 200 := by omega
  have hrow : ∀ x : Vec F S200x160 .f32, window (s := S200x160) x (candOff lo k.val) S1x160.size (candOff_inb hl k) = oneOf hi x := fun x => by
    have h := candOff_eq hl hk
    funext y
    refine congrArg x (funext fun a => Fin.ext ?_)
    exact congrArg (fun o : Fin 2 → ℕ => o a + 1 * (y a).val) h
  have hc : cand lo k.val = BitVec.ofNat 32 (lo + k.val) := by
    apply BitVec.eq_of_toNat_eq
    rw [cand_toNat hl hk, BitVec.toNat_ofNat]
    omega
  unfold trip
  simp only [Prog.lift, Prog.bind_op, Prog.bind_ret, Prog.pure_eq_ret, Prog.bind_assoc]
  iintro ⟨Hs, He, Hk⟩
  iapply (wp_read c) $$ Hs
  iintro Hs
  iapply (wp_read c) $$ He
  iintro He
  iapply (wp_read c) $$ Hk
  iintro Hk
  iapply (wp_read c) $$ Hk
  iintro Hk
  iapply (wp_read c) $$ Hk
  iintro Hk
  iapply (wp_put c) $$ Hk
  iintro Hk
  rw [wp_ret]
  imodintro
  isplitl [Hs]
  · iexact Hs
  isplitl [He]
  · iexact He
  rw [← Nat.add_assoc, keepAt_succ s e v hl hi (by omega), hrow, hrow, hrow, hc]
  iexact Hk

/-- One block. -/
theorem wp_block {lo : ℕ} (hl : lo ≤ 192) (h8 : lo % 8 = 0) :
    three c starts ends keep s e (keepAt s e v lo)
      ⊢ wp frame (wpE (defs₀ (F := F)) Variants.none c none) Set.univ (block starts ends keep hl)
          (fun _ => three c starts ends keep s e (keepAt s e v (lo + 8))) := by
  unfold block
  simp only [Prog.lift, Prog.bind_op, Prog.bind_ret, Prog.pure_eq_ret, Prog.bind_assoc]
  iintro ⟨Hs, He, Hk⟩
  iapply (wp_read c) $$ Hs
  iintro Hs
  iapply (wp_read c) $$ He
  iintro He
  iapply (Scf.wp_for frame (wpE (defs₀ (F := F)) Variants.none c none) Set.univ _ _ _ eight_ok _ _
    (fun n _ => three c starts ends keep s e (keepAt s e v (lo + n))) (fun k _ => wp_trip c hl h8 k))
  isplitl [Hs He Hk]
  · isplitl [Hs]
    · iexact Hs
    isplitl [He]
    · iexact He
    iexact Hk
  iintro %_ H
  have h : Scf.trips eight.lb eight.ub eight.st = 8 := eight_trips
  rw [h]
  iexact H

/-- The blocks from `lo` on. -/
theorem wp_blocks : ∀ (n lo : ℕ) (h : lo + 8 * n = 200), lo % 8 = 0 →
    (three c starts ends keep s e (keepAt s e v lo)
      ⊢ wp frame (wpE (defs₀ (F := F)) Variants.none c none) Set.univ (blocks starts ends keep n lo h)
          (fun _ => three c starts ends keep s e (keepAt s e v 200)))
  | 0, lo, h, h8 => by
    obtain rfl : lo = 200 := by omega
    unfold blocks
    rw [Prog.pure_eq_ret, wp_ret]
    iintro H
    imodintro
    iexact H
  | n + 1, lo, h, h8 => by
    unfold blocks
    rw [wp_bind]
    iintro H
    iapply (wp_wand_r frame (wpE (defs₀ (F := F)) Variants.none c none) Set.univ)
    isplitl [H]
    · iapply (wp_block c _ h8)
      iexact H
    · iintro %_ H
      iapply (wp_blocks n (lo + 8) _ (by omega))
      iexact H

end Cert.Proof.Sup

end
-- ==== Proof.Masked.lean ====
/-
  The suppression call's run: the body's triple, the launch, and what the three results hold at the end.
-/
module

public import proofs.«01_k».proof.Proof.Marks
public import Idealize.ShloMosaic.Lib.Claim

@[expose] public section

set_option maxRecDepth 16384

noncomputable section

namespace Cert.Proof.Sup

open Cert.NmsIdeal Cert.NmsIdeal.Gen
open Idealize.ShloMosaic Idealize.ShloMosaic.TcCoe
open Idealize.ShloMosaic.VecWindow (window put)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The body -/

/-- The window that is everything. -/
theorem window_all (X : Vec F S200x160 .f32) : window (s := S200x160) X ![0, 0] S200x160.size inb_S200x160_S200x160_0_0 = X := by
  funext y
  refine congrArg X (funext fun a => Fin.ext ?_)
  show (![0, 0] : Fin 2 → ℕ) a + 1 * (y a).val = (y a).val
  match a with
  | ⟨0, _⟩ => show 0 + 1 * _ = _; omega
  | ⟨1, _⟩ => show 0 + 1 * _ = _; omega

/-- Putting everything. -/
theorem put_all (X w : Vec F S200x160 .f32) : put (s := S200x160) X ![0, 0] S200x160.size w = w := by
  have h := VecWindow.window_put_same (s := S200x160) X ![0, 0] S200x160.size inb_S200x160_S200x160_0_0 w
  rw [window_all] at h
  exact h

/-- An argument masked by the last marks. -/
abbrev masked (s e v x : Vec F S200x160 .f32) : Vec F S200x160 .f32 := (mulf x (keepAt s e v 200) : FVec F S200x160 .f32)

/-- The arrays the body works on, held: the three arguments, the three results and the marks. -/
abbrev seven (c : Dev nD) (starts ends scores out0 out1 out2 keep : Whole200) (s e v x0 x1 x2 k : Vec F S200x160 .f32) : sProp 𝕄 :=
  iprop(owns (c : Thread nD τ) starts fullShare s ∗ owns (c : Thread nD τ) ends fullShare e ∗ owns (c : Thread nD τ) scores fullShare v
    ∗ owns (c : Thread nD τ) out0 fullShare x0 ∗ owns (c : Thread nD τ) out1 fullShare x1 ∗ owns (c : Thread nD τ) out2 fullShare x2
    ∗ owns (c : Thread nD τ) keep fullShare k)

/-- The body: the results are the arguments masked by the last marks. -/
theorem wp_body (c : Dev nD) {starts ends keep scores out0 out1 out2 : Whole200} {s e v x0 x1 x2 k : Vec F S200x160 .f32} :
    seven c starts ends scores out0 out1 out2 keep s e v x0 x1 x2 k
      ⊢ wp frame (wpE (defs₀ (F := F)) Variants.none c none) Set.univ (body starts ends keep scores out0 out1 out2)
          (fun _ => seven c starts ends scores out0 out1 out2 keep s e v (masked s e v s) (masked s e v e) (masked s e v v) (keepAt s e v 200)) := by
  unfold body
  simp only [Prog.lift, Prog.bind_op, Prog.bind_ret, Prog.pure_eq_ret, Prog.bind_assoc]
  iintro ⟨Hs, He, Hv, H0, H1, H2, Hk⟩
  iapply (wp_read c) $$ Hv
  iintro Hv
  iapply (wp_read c) $$ Hk
  iintro Hk
  iapply (wp_put c) $$ Hk
  iintro Hk
  rw [window_all, put_all, wp_bind]
  iapply (wp_wand_r frame (wpE (defs₀ (F := F)) Variants.none c none) Set.univ)
  isplitl [Hs He Hk]
  · iapply (wp_blocks c (s := s) (e := e) (v := v) 25 0 rfl rfl)
    isplitl [Hs]
    · iexact Hs
    isplitl [He]
    · iexact He
    iexact Hk
  iintro %_ ⟨Hs, He, Hk⟩
  iapply (wp_read c) $$ Hk
  iintro Hk
  iapply (wp_read c) $$ Hs
  iintro Hs
  iapply (wp_read c) $$ H0
  iintro H0
  iapply (wp_put c) $$ H0
  iintro H0
  iapply (wp_read c) $$ He
  iintro He
  iapply (wp_read c) $$ H1
  iintro H1
  iapply (wp_put c) $$ H1
  iintro H1
  iapply (wp_read c) $$ Hv
  iintro Hv
  iapply (wp_read c) $$ H2
  iintro H2
  iapply (wp_put c) $$ H2
  iintro H2
  rw [wp_ret]
  imodintro
  rw [window_all (keepAt s e v 200), window_all s, window_all e, window_all v, put_all, put_all, put_all]
  isplitl [Hs]
  · iexact Hs
  isplitl [He]
  · iexact He
  isplitl [Hv]
  · iexact Hv
  isplitl [H0]
  · iexact H0
  isplitl [H1]
  · iexact H1
  isplitl [H2]
  · iexact H2
  iexact Hk

/-! ## The launch -/

variable (m : (ℓ : Loc nD τ sig) → Buf (Elt F) ℓ) (ρ : Dev nD → PrngReg)

/-- A result after the body at point `t`. -/
abbrev resultAt (c : Dev nD) (t : Fin cfg0.N) (x : Vec F S200x160 .f32) : Vec F S200x160 .f32 := masked (iblk m c 0 t) (iblk m c 1 t) (iblk m c 2 t) x

/-- The launch's data: the arguments are left in place, the results hold what the body leaves. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => resultAt m c t (iblk m c 0 t)
    | ⟨4, _⟩ => resultAt m c t (iblk m c 1 t)
    | ⟨5, _⟩ => resultAt m c t (iblk m c 2 t)
  Φ _ := Pipeline.ΦA spec0 c
  q _ := fullShare
  owed _ := 0

theorem data_A (c : Dev nD) (w : Fin cfg0.W) : (data m 0 c).A w = V m c (Pipeline.arrRef spec0 w) := by
  dsimp only [data]

/-- What the body is given at point `t`, the windows one by one, -/
def given (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d)))

/-- and what it gives back. -/
def returned (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t))

theorem sound (c : Dev nD) (t : Fin cfg0.N) :
    given m c t ⊢ wp frame (wpE (defs₀ (F := F)) Variants.none c none) Set.univ (bodyAt0 t) (fun _ => returned m c t) := by
  unfold given returned bodyAt0
  simp only [before0_0_of m (data m 0 c) (data_A m c 0) (fun _ => rfl), before0_1_of m (data m 0 c) (data_A m c 1) (fun _ => rfl),
    before0_2_of m (data m 0 c) (data_A m c 2) (fun _ => rfl)]
  rw [show (data m 0 c).Φ t.succ = (data m 0 c).Φ t.castSucc from rfl, show (data m 0 c).owesAt () t.succ = (data m 0 c).owesAt () t.castSucc from rfl,
    show (data m 0 c).Φ t.castSucc = Pipeline.ΦA spec0 c from rfl, PhiA0_eq, body_eq]
  iintro ⟨⟨⟨%dk, Hk⟩, Hg⟩, Ho, ⟨%d0, H0⟩, ⟨%d1, H1⟩, ⟨%d2, H2⟩, ⟨%d3, H3⟩, ⟨%d4, H4⟩, ⟨%d5, H5⟩⟩
  iapply (wp_wand_r frame (wpE (defs₀ (F := F)) Variants.none c none) Set.univ)
  isplitl [Hk H0 H1 H2 H3 H4 H5]
  · iapply (wp_body c)
    isplitl [H0]; · iexact H0
    isplitl [H1]; · iexact H1
    isplitl [H2]; · iexact H2
    isplitl [H3]; · iexact H3
    isplitl [H4]; · iexact H4
    isplitl [H5]; · iexact H5
    iexact Hk
  iintro %_ ⟨H0, H1, H2, H3, H4, H5, Hk⟩
  isplitl [Hk Hg]
  · isplitl [Hk]
    · iexists _
      iexact Hk
    iexact Hg
  isplitl [Ho]; · iexact Ho
  isplitl [H0]; · iexact H0
  isplitl [H1]; · iexact H1
  isplitl [H2]; · iexact H2
  isplitl [H3]; · iexact H3
  isplitl [H4]; · iexact H4
  iexact H5

theorem obligation (c : Dev nD) : BodyObligation (data (F := F) m 0 c) (defs₀ (F := F)) Variants.none () Set.univ := fun t => by
  have hrow : defs₀ (F := F) .tc cfg0.body (cfg0.bodyArgs t (cfg0.slots t)) = bodyAt0 t := by
    unfold defs₀
    rw [Defs.onTc_tc]
  rw [bigSep_W0, bigSep_W0, hrow]
  exact triple_restated (sound m c t) rfl .rfl fun _ => .rfl

set_option backward.isDefEq.respectTransparency.types false in
/-- The run: every array as the data says, every semaphore at zero. -/
theorem run_arrays : θ_run defs (onTc (τ := τ) (main (F := F))) (s₀ m ρ) (fun r => Pipeline.FramePost cfgs (data m) 0 (V m) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-! ## What the arrays hold -/

/-- A window's one block is its whole array, so a result at the end is what the body left in it. -/
theorem final {c : Dev nD} {w : Fin cfg0.W} {X : Buf (Elt F) ((cfg0.win w).arr.view.loc (c.tc : Thread nD τ))}
    (hf : (cfg0.win w).flush (0 : Fin 1) = true)
    (hX : ((cfg0.win w).blk (0 : Fin 1)).view.read (Elt F) X = (data m 0 c).flushed w (0 : Fin 1)) (hr : ∀ G G',
      ((cfg0.win w).blk (0 : Fin 1)).view.read (Elt F) G = ((cfg0.win w).blk (0 : Fin 1)).view.read (Elt F) G' → G = G') :
    (data m 0 c).arrAt w cfg0.N = X := by
  refine hr _ _ ?_
  rw [hX, show cfg0.N = ((0 : Fin 1) : Fin cfg0.N).val + 1 from rfl, (data m 0 c).arrAt_succ w (0 : Fin 1), hf, if_pos rfl]
  exact View.read_write_univ _ _

/-- Reading a whole array through its window's block. -/
theorem read_arg0 (f) : (win0_0.blk (0 : Fin 1)).view.read (Elt F) f = f :=
  Memref.read_access_unit_zero (Elt F) main_arg0 (funext fun _ => Nat.zero_mul _) _ f
theorem read_arg1 (f) : (win0_1.blk (0 : Fin 1)).view.read (Elt F) f = f :=
  Memref.read_access_unit_zero (Elt F) main_arg1 (funext fun _ => Nat.zero_mul _) _ f
theorem read_arg2 (f) : (win0_2.blk (0 : Fin 1)).view.read (Elt F) f = f :=
  Memref.read_access_unit_zero (Elt F) main_arg2 (funext fun _ => Nat.zero_mul _) _ f
theorem read_out0 (f) : (win0_3.blk (0 : Fin 1)).view.read (Elt F) f = f :=
  Memref.read_access_unit_zero (Elt F) main_v0_0 (funext fun _ => Nat.zero_mul _) _ f
theorem read_out1 (f) : (win0_4.blk (0 : Fin 1)).view.read (Elt F) f = f :=
  Memref.read_access_unit_zero (Elt F) main_v0_1 (funext fun _ => Nat.zero_mul _) _ f
theorem read_out2 (f) : (win0_5.blk (0 : Fin 1)).view.read (Elt F) f = f :=
  Memref.read_access_unit_zero (Elt F) main_v0_2 (funext fun _ => Nat.zero_mul _) _ f

/-- The three arguments as launched. -/
abbrev arg0 (c : Dev nD) : Vec F S200x160 .f32 := m ((c : Thread nD τ).loc main_arg0)
abbrev arg1 (c : Dev nD) : Vec F S200x160 .f32 := m ((c : Thread nD τ).loc main_arg1)
abbrev arg2 (c : Dev nD) : Vec F S200x160 .f32 := m ((c : Thread nD τ).loc main_arg2)

theorem iblk0 (c : Dev nD) : iblk m c 0 (0 : Fin 1) = arg0 m c := read_arg0 _
theorem iblk1 (c : Dev nD) : iblk m c 1 (0 : Fin 1) = arg1 m c := read_arg1 _
theorem iblk2 (c : Dev nD) : iblk m c 2 (0 : Fin 1) = arg2 m c := read_arg2 _

/-- What the three results hold. -/
abbrev result (c : Dev nD) (x : Vec F S200x160 .f32) : Vec F S200x160 .f32 := masked (arg0 m c) (arg1 m c) (arg2 m c) x

theorem resultAt_eq (c : Dev nD) (x : Vec F S200x160 .f32) : resultAt m c (0 : Fin 1) x = result m c x := by
  show masked (iblk m c 0 (0 : Fin 1)) (iblk m c 1 (0 : Fin 1)) (iblk m c 2 (0 : Fin 1)) x = _
  rw [iblk0, iblk1, iblk2]

/-- The run: the results are the arguments masked by the last marks, the arguments are as they were, every semaphore at zero. -/
theorem run_nms : θ_run defs (onTc (τ := τ) (main (F := F))) (s₀ m ρ) (fun r => (∀ c : Dev nD,
      (r.2.mem ((c : Thread nD τ).loc main_v0_0) = result m c (arg0 m c)
        ∧ r.2.mem ((c : Thread nD τ).loc main_v0_1) = result m c (arg1 m c)
        ∧ r.2.mem ((c : Thread nD τ).loc main_v0_2) = result m c (arg2 m c))
      ∧ (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)))
      ∧ r.2.sem = fun _ => 0) := by
  refine (θ_run defs _ _).mono (fun r h => ⟨fun c => ?_, h.2⟩) (run_arrays m ρ)
  have ha := fun w => (h.1 c).1 w
  refine ⟨⟨(ha 3).trans (final m rfl ?_ ?_), (ha 4).trans (final m rfl ?_ ?_), (ha 5).trans (final m rfl ?_ ?_)⟩,
    (ha 0).trans (((data m 0 c).arrAt_in 0 rfl _).trans (data_A m c 0)), (ha 1).trans (((data m 0 c).arrAt_in 1 rfl _).trans (data_A m c 1)),
    (ha 2).trans (((data m 0 c).arrAt_in 2 rfl _).trans (data_A m c 2))⟩
  · refine (read_out0 _).trans ?_
    rw [← resultAt_eq, ← iblk0]
    rfl
  · exact fun G G' hG => (read_out0 G).symm.trans (hG.trans (read_out0 G'))
  · refine (read_out1 _).trans ?_
    rw [← resultAt_eq, ← iblk1]
    rfl
  · exact fun G G' hG => (read_out1 G).symm.trans (hG.trans (read_out1 G'))
  · refine (read_out2 _).trans ?_
    rw [← resultAt_eq, ← iblk2]
    rfl
  · exact fun G G' hG => (read_out2 G).symm.trans (hG.trans (read_out2 G'))

end Cert.Proof.Sup

end
-- ==== Proof.Kept.lean ====
/-
  Which candidates are kept, as a recursion on the candidates (`Kept`), and that the marks of the suppression call's body are
  those at the ideal floats: one where a candidate is kept, zero where it is not.
-/
module

public import proofs.«01_k».proof.Proof.Marks
public import Idealize.ShloMosaic.Lib.ValueIdxCore
public import Idealize.ShloMosaic.Lib.ValueLayout
public import Idealize.ShloMosaic.Lib.StableHlo.Predicate
public import Idealize.ShloMosaic.Lib.IdealHost

@[expose] public section

noncomputable section

namespace Cert.Proof.Sup

open Cert.NmsIdeal Cert.NmsIdeal.Gen
open Idealize.ShloMosaic
open Idealize.ShloMosaic.ValueIdx
open Idealize.ShloMosaic.VecWindow (window put)

/-! ## The mathematics -/

section Math

variable (s e v : Vec Ideal S200x160 .f32) (p : Fin 160)

/-- A candidate's length. -/
def len (r : Fin 200) : EReal := max (e (ix2 r p) - s (ix2 r p)) (Ideal.ofBits .f32 0x00000000#32)

/-- How much of two candidates is common. -/
def common (i r : Fin 200) : EReal :=
  max (min (e (ix2 r p)) (e (ix2 i p)) - max (s (ix2 r p)) (s (ix2 i p))) (Ideal.ofBits .f32 0x00000000#32)

/-- Whether the common part is too large a share of both together. -/
def clash (i r : Fin 200) : BitVec 1 :=
  Ideal.cmp .ogt (Ideal.div (common s e p i r) (len s e p r + len s e p i - common s e p i r + Ideal.ofBits .f32 0x3089705F#32))
    (Ideal.ofBits .f32 0x3EE66666#32)

/-- Candidate `r` is kept when the candidates before `n` have had their turns. -/
def Kept : ℕ → Fin 200 → Prop
  | 0, r => Ideal.cmp .ogt (v (ix2 r p)) (Ideal.ofBits .f32 0x3C23D70A#32) = 1#1
  | n + 1, r => Kept n r ∧ ¬ ∃ h : n < 200, Kept n ⟨n, h⟩ ∧ clash s e p ⟨n, h⟩ r = 1#1 ∧ n < r.val

/-- A candidate's turn is nothing to it or to those before it. -/
theorem kept_before {n : ℕ} {r : Fin 200} (h : r.val ≤ n) : Kept s e v p (n + 1) r ↔ Kept s e v p n r :=
  ⟨fun k => k.1, fun k => ⟨k, fun ⟨_, _, _, hl⟩ => absurd hl (by omega)⟩⟩

end Math

/-! ## The body's marks -/

/-- A bit as a number. -/
theorem bit_value (b : BitVec 1) : (FloatOps.sitofp .f32 (b.setWidth 32) : Ideal .f32) = if b = 1#1 then (1 : EReal) else 0 := by
  show (((b.setWidth 32).toInt : ℝ) : EReal) = _
  rcases (show b = 0#1 ∨ b = 1#1 by revert b; decide) with rfl | rfl
  · rw [if_neg (by decide)]
    norm_num
  · rw [if_pos rfl]
    norm_num

theorem one_less_one : (1 : EReal) - 1 = 0 := by
  rw [← EReal.coe_one, ← EReal.coe_sub, sub_self, EReal.coe_zero]

theorem and_bits (a b : BitVec 1) : a &&& b = 1#1 ↔ a = 1#1 ∧ b = 1#1 := by revert a b; decide

variable (s e v : Vec Ideal S200x160 .f32)

theorem tail_at {lo : ℕ} (hl : lo ≤ 192) (x : Vec Ideal S200x160 .f32) (q : (Tail lo).Idx) (r : Fin 200) (p : Fin 160) (hr : r.val = lo + (q 0).val)
    (hp : p.val = (q 1).val) : tailOf hl x q = x (ix2 r p) := by
  refine congrArg x (funext fun a => Fin.ext ?_)
  show (![lo, 0] : Fin 2 → ℕ) a + 1 * (q a).val = (ix2 r p a).val
  match a with
  | ⟨0, _⟩ => show lo + 1 * (q 0).val = r.val; omega
  | ⟨1, _⟩ => show 0 + 1 * (q 1).val = p.val; omega

theorem one_at {i : ℕ} (hi : i < 200) (x : Vec Ideal S200x160 .f32) (p : Fin 160) : oneOf hi x (ix2 (0 : Fin 1) p) = x (ix2 ⟨i, hi⟩ p) := by
  refine congrArg x (funext fun a => Fin.ext ?_)
  match a with
  | ⟨0, _⟩ => rfl
  | ⟨1, _⟩ => show 0 + 1 * p.val = p.val; omega

theorem spread_at (lo : ℕ) (x : Vec Ideal S1x160 .f32) (q : (Tail lo).Idx) (p : Fin 160) (hp : p.val = (q 1).val) :
    broadcastTo (Tail lo) x (row_broadcasts lo) q = x (ix2 (0 : Fin 1) p) := by
  refine congrArg x (funext fun a => Fin.ext ?_)
  match a with
  | ⟨0, _⟩ => rfl
  | ⟨1, _⟩ => exact hp.symm

/-- A trip's payload at a row. -/
theorem marked_at {lo i : ℕ} (hl : lo ≤ 192) (hi : i < 200) (k : Vec Ideal S200x160 .f32) (q : (Tail lo).Idx) (r : Fin 200) (p : Fin 160)
    (hr : r.val = lo + (q 0).val) (hp : p.val = (q 1).val) :
    marked lo (BitVec.ofNat 32 i) (tailOf hl s) (tailOf hl e) (oneOf hi s) (oneOf hi e) (oneOf hi k) (tailOf hl k) q
      = k (ix2 r p) * (1 - k (ix2 ⟨i, hi⟩ p) * if clash s e p ⟨i, hi⟩ r = 1#1 ∧ i < r.val then (1 : EReal) else 0) := by
  have hT := fun x => tail_at hl x q r p hr hp
  have hB := fun x => spread_at lo x q p hp
  have hO := fun x => one_at hi x p
  have hrow : IntOp.cmpi .sgt (BitVec.ofNat 32 lo + BitVec.ofNat 32 (0 * (200 - lo) + (q 0).val)) (BitVec.ofNat 32 i) = 1#1 ↔ i < r.val := by
    have := r.isLt
    have e1 : (BitVec.ofNat 32 lo + BitVec.ofNat 32 (0 * (200 - lo) + (q 0).val)).toNat = r.val := by
      simp only [BitVec.toNat_add, BitVec.toNat_ofNat]
      omega
    have e2 : (BitVec.ofNat 32 i).toNat = i := by
      simp only [BitVec.toNat_ofNat]
      omega
    rw [StableHlo.Predicate.sgt_iff_toNat (by omega) (by omega), e1, e2]
  unfold marked
  refine (shapeCast_apply _ _ _ q rfl).trans ?_
  show tailOf hl k q * (Ideal.ofBits .f32 0x3F800000#32 - broadcastTo (Tail lo) (oneOf hi k) (row_broadcasts lo) q
    * FloatOps.sitofp (F := Ideal) .f32 (BitVec.setWidth 32 (Ideal.cmp .ogt (Ideal.div
          (max (min (tailOf hl e q) (broadcastTo (Tail lo) (oneOf hi e) (row_broadcasts lo) q)
            - max (tailOf hl s q) (broadcastTo (Tail lo) (oneOf hi s) (row_broadcasts lo) q)) (Ideal.ofBits .f32 0x00000000#32))
          (max (tailOf hl e q - tailOf hl s q) (Ideal.ofBits .f32 0x00000000#32)
            + broadcastTo (Tail lo) (maximumf (subf (oneOf hi e) (oneOf hi s)) (broadcast S1x160 (Scalar.ofBits .f32 0x00000000#32)) : FVec Ideal S1x160 .f32)
                (row_broadcasts lo) q
            - max (min (tailOf hl e q) (broadcastTo (Tail lo) (oneOf hi e) (row_broadcasts lo) q)
            - max (tailOf hl s q) (broadcastTo (Tail lo) (oneOf hi s) (row_broadcasts lo) q)) (Ideal.ofBits .f32 0x00000000#32)
            + Ideal.ofBits .f32 0x3089705F#32)) (Ideal.ofBits .f32 0x3EE66666#32)
        &&& IntOp.cmpi .sgt (BitVec.ofNat 32 lo + BitVec.ofNat 32 (0 * (200 - lo) + (q 0).val)) (BitVec.ofNat 32 i)))) = _
  have hlen : (maximumf (subf (oneOf hi e) (oneOf hi s)) (broadcast S1x160 (Scalar.ofBits .f32 0x00000000#32)) : FVec Ideal S1x160 .f32)
      (ix2 (0 : Fin 1) p) = len s e p ⟨i, hi⟩ := by
    show max (oneOf hi e (ix2 (0 : Fin 1) p) - oneOf hi s (ix2 (0 : Fin 1) p)) (Ideal.ofBits .f32 0x00000000#32) = _
    rw [hO, hO, len]
  rw [bit_value, hB, hB, hB, hB, hlen, hT, hT, hT, hO, hO, hO, Ideal.ofBits_one_f32]
  refine congrArg (fun z : EReal => _ * (1 - _ * z)) (if_congr ?_ rfl rfl)
  rw [and_bits, hrow]
  rfl

/-- The marks before candidate `n`. -/
theorem keepAt_eq (p : Fin 160) [∀ n r, Decidable (Kept s e v p n r)] : ∀ n, n ≤ 200 → ∀ r : Fin 200,
    keepAt s e v n (ix2 r p) = if Kept s e v p n r then (1 : EReal) else 0
  | 0, _, r => by
    rw [keepAt]
    unfold k0_pay1
    refine (shapeCast_apply _ _ _ (ix2 r p) rfl).trans ((bit_value _).trans (if_congr Iff.rfl rfl rfl))
  | n + 1, h, r => by
    have hn : n < 200 := h
    have hl : 8 * (n / 8) ≤ 192 := by omega
    have ih := keepAt_eq p n (by omega)
    rw [keepAt_succ s e v hl hn rfl]
    by_cases hr : 8 * (n / 8) ≤ r.val
    · have hin : ∀ a : Fin 2, (![8 * (n / 8), 0] : Fin 2 → ℕ) a ≤ (ix2 r p a).val
          ∧ (ix2 r p a).val < (![8 * (n / 8), 0] : Fin 2 → ℕ) a + (Tail (8 * (n / 8))).size a := by
        have h0 := r.isLt
        have h1 := p.isLt
        refine Fin.forall_fin_two.mpr ⟨⟨hr, ?_⟩, ⟨Nat.zero_le _, ?_⟩⟩
        · show r.val < 8 * (n / 8) + (200 - 8 * (n / 8))
          omega
        · show p.val < 0 + 160
          omega
      refine (show step hl hn s e (keepAt s e v n) (ix2 r p) = _ from dif_pos hin).trans ?_
      rw [marked_at s e hl hn (keepAt s e v n) _ r p (show r.val = 8 * (n / 8) + (r.val - 8 * (n / 8)) by omega) rfl, ih, ih]
      by_cases hk : Kept s e v p n r
      · by_cases hc : Kept s e v p n ⟨n, hn⟩ ∧ clash s e p ⟨n, hn⟩ r = 1#1 ∧ n < r.val
        · rw [if_pos hk, if_pos hc.1, if_pos hc.2, if_neg fun hh : Kept s e v p (n + 1) r => hh.2 ⟨hn, hc⟩, one_mul, one_mul, one_less_one]
        · rw [if_pos hk, if_pos (show Kept s e v p (n + 1) r from ⟨hk, fun ⟨_, hh⟩ => hc hh⟩)]
          by_cases h1 : Kept s e v p n ⟨n, hn⟩
          · rw [if_neg fun h2 => hc ⟨h1, h2⟩]
            norm_num
          · rw [if_neg h1]
            norm_num
      · rw [if_neg hk, if_neg fun hh : Kept s e v p (n + 1) r => hk hh.1, zero_mul]
    · refine (show step hl hn s e (keepAt s e v n) (ix2 r p) = _ from dif_neg fun hh => hr (hh 0).1).trans ?_
      rw [ih]
      exact if_congr (kept_before s e v p (by omega)).symm rfl rfl

end Cert.Proof.Sup

end
-- ==== Proof.RefKept.lean ====
/-
  The suppression reference's loop: before trip `n` its mask is set exactly at the candidates kept then (`Kept`).
-/
module

public import proofs.«01_k».proof.Proof.Kept
public import proofs.«01_k».proof.Proof.Gen.NmsReferenceIdeal.Run
public import Idealize.ShloMosaic.Lib.DynamicIndex

@[expose] public section

noncomputable section

namespace Cert.Proof.RefSup

open Cert.NmsReferenceIdeal Cert.NmsReferenceIdeal.Gen Cert.NmsReferenceIdeal.Value
open Idealize.ShloMosaic Idealize.ShloMosaic.TcCoe
open Idealize.ShloMosaic.ValueIdx
open Idealize.ShloMosaic.StableHlo
open Cert.Proof.Sup (len common clash Kept and_bits)

/-! ## One trip's operations at a row and a column -/

section Ops

variable {α : Type}

/-- Where a trip's row starts, of its counter. -/
abbrev startAt (i : IVec S_ 32) : Fin 2 → ℤ := fun k =>
  (((![select (cmpi .slt i (constantI S_ 32 0#32)) (addi (id i) (constantI S_ 32 200#32)) i, constantI S_ 32 0#32] : Fin 2 → IVec S_ 32)) k
    (Shape.Idx.first h_S_)).toInt

/-- The trip's row, repeated down every row. -/
abbrev rowOf (i : IVec S_ 32) (x : S200x160.Idx → α) : S200x160.Idx → α :=
  broadcastInDim S200x160 ![0, 1] bcast_S1x160_S200x160_0_1 (Host.dynamicSlice S1x160 x (startAt i) sliceFits_S200x160_S1x160)

theorem rowOf_at (n : Fin 200) (i : IVec S_ 32) (hi : i = fun _ => BitVec.ofNat 32 n.val) (x : S200x160.Idx → α) (r : Fin 200) (p : Fin 160) :
    rowOf i x (ix2 r p) = x (ix2 n p) := by
  subst hi
  have hn := n.isLt
  have hoff : S200x160.Slices ![n.val, 0] S1x160 := ⟨rfl, Fin.forall_fin_two.mpr ⟨show n.val + 1 ≤ 200 by omega, Nat.le_refl 160⟩⟩
  have hs : ∀ a, startAt (fun _ => BitVec.ofNat 32 n.val) a = ((![n.val, 0] : Fin 2 → ℕ) a : ℤ) :=
    Fin.forall_fin_two.mpr ⟨toInt_wrap_ofNat n.val (by omega), rfl⟩
  rw [rowOf, Host.dynamicSlice_eq_extractStridedSlice S1x160 x _ ![n.val, 0] sliceFits_S200x160_S1x160 hoff hs]
  refine (StableHlo.Predicate.bcast_of_row bcast_S1x160_S200x160_0_1 _ r p).trans (congrArg x (funext fun a => Fin.ext ?_))
  match a with
  | ⟨0, _⟩ => rfl
  | ⟨1, _⟩ => exact Nat.zero_add _

end Ops

/-- The mask after a trip, of the arrays, the counter and the mask before it. -/
def turn (s e l : FVec Ideal S200x160 .f32) (j : IVec S200 32) (i : IVec S_ 32) (k : IVec S200x160 1) : IVec S200x160 1 :=
  let inter : FVec Ideal S200x160 .f32 :=
    maximumf (subf (minimumf (rowOf i e) e) (maximumf (rowOf i s) s)) (broadcastInDim S200x160 ![] bcast_S_S200x160 (constant S_ .f32 0x00000000#32))
  let iou : FVec Ideal S200x160 .f32 :=
    Host.divf inter (addf (subf (addf (rowOf i l) l) inter) (broadcastInDim S200x160 ![] bcast_S_S200x160 (constant S_ .f32 0x3089705F#32)))
  andi k (noti (andi (rowOf i k) (andi (cmpf .ogt iou (broadcastInDim S200x160 ![] bcast_S_S200x160 (constant S_ .f32 0x3EE66666#32)))
    (broadcastInDim S200x160 ![0, 1] bcast_S200x1_S200x160_0_1 (broadcastInDim S200x1 ![0] bcast_S200_S200x1_0
      (cmpi .sgt j (broadcastInDim S200 ![] bcast_S_S200 i)))))))

theorem step_eq (V : Valuation τ sig (Elt Ideal)) : step_main_v6_6 V
    = turn (V (Proc.devRef .tc main_v6_0)) (V (Proc.devRef .tc main_v6_1)) (V (Proc.devRef .tc main_v6_2)) (V (Proc.devRef .tc main_v6_3))
        (V (Proc.devRef .tc main_v6_5)) (V (Proc.devRef .tc main_v6_6)) := rfl

theorem clear_bits (a b c : BitVec 1) : a &&& ~~~(b &&& c) = 1#1 ↔ a = 1#1 ∧ ¬(b = 1#1 ∧ c = 1#1) := by revert a b c; decide

theorem turn_at (s e l : FVec Ideal S200x160 .f32) (j : IVec S200 32) (i : IVec S_ 32) (k : IVec S200x160 1) (n r : Fin 200) (p : Fin 160)
    (hl : ∀ r, l (ix2 r p) = len s e p r) (hj : j = iotaInDim S200 32 0) (hi : i = fun _ => BitVec.ofNat 32 n.val) :
    turn s e l j i k (ix2 r p) = 1#1 ↔ k (ix2 r p) = 1#1 ∧ ¬(k (ix2 n p) = 1#1 ∧ clash s e p n r = 1#1 ∧ n.val < r.val) := by
  have hr := r.isLt
  have hn := n.isLt
  have hsgt : broadcastInDim S200x160 ![0, 1] bcast_S200x1_S200x160_0_1 (broadcastInDim S200x1 ![0] bcast_S200_S200x1_0
      (cmpi .sgt j (broadcastInDim S200 ![] bcast_S_S200 i))) (ix2 r p) = 1#1 ↔ n.val < r.val := by
    rw [show broadcastInDim S200x160 ![0, 1] bcast_S200x1_S200x160_0_1 (broadcastInDim S200x1 ![0] bcast_S200_S200x1_0
      (cmpi .sgt j (broadcastInDim S200 ![] bcast_S_S200 i))) (ix2 r p) = IntOp.cmpi .sgt (BitVec.ofNat 32 r.val) (BitVec.ofNat 32 n.val) from
      (StableHlo.Predicate.bcast_rows bcast_S200_S200x1_0 bcast_S200x1_S200x160_0_1 _ r p).trans (by rw [hj, hi]; rfl)]
    have e1 : (BitVec.ofNat 32 r.val).toNat = r.val := by
      simp only [BitVec.toNat_ofNat]
      omega
    have e2 : (BitVec.ofNat 32 n.val).toNat = n.val := by
      simp only [BitVec.toNat_ofNat]
      omega
    rw [StableHlo.Predicate.sgt_iff_toNat (by omega) (by omega), e1, e2]
  have hinter : max (min (rowOf i e (ix2 r p)) (e (ix2 r p)) - max (rowOf i s (ix2 r p)) (s (ix2 r p))) (Ideal.ofBits .f32 0x00000000#32)
      = common s e p n r := by
    rw [rowOf_at n i hi, rowOf_at n i hi, min_comm, max_comm (s (ix2 n p)), common]
  have hclash : Ideal.cmp .ogt (Ideal.div
        (max (min (rowOf i e (ix2 r p)) (e (ix2 r p)) - max (rowOf i s (ix2 r p)) (s (ix2 r p))) (Ideal.ofBits .f32 0x00000000#32))
        (rowOf i l (ix2 r p) + l (ix2 r p)
          - max (min (rowOf i e (ix2 r p)) (e (ix2 r p)) - max (rowOf i s (ix2 r p)) (s (ix2 r p))) (Ideal.ofBits .f32 0x00000000#32)
          + Ideal.ofBits .f32 0x3089705F#32)) (Ideal.ofBits .f32 0x3EE66666#32) = clash s e p n r := by
    rw [hinter, rowOf_at n i hi, hl, hl, add_comm (len s e p n), clash]
  refine (clear_bits _ _ _).trans (and_congr Iff.rfl (not_congr (and_congr (by rw [rowOf_at n i hi]) ((and_bits _ _).trans (and_congr ?_ hsgt)))))
  rw [← hclash]
  rfl

/-! ## The trips -/

variable (m : (ℓ : Loc nD τ sig) → Buf (Elt Ideal) ℓ) (c : Dev nD)

/-- What the loop holds before trip `n`. -/
abbrev held (n : ℕ) : Valuation τ sig (Elt Ideal) := STEP^[n] (entryContents preI m c)

abbrev arg0 : FVec Ideal S200x160 .f32 := m ((c.tc : Thread nD τ).loc main_arg0)
abbrev arg1 : FVec Ideal S200x160 .f32 := m ((c.tc : Thread nD τ).loc main_arg1)
abbrev arg2 : FVec Ideal S200x160 .f32 := m ((c.tc : Thread nD τ).loc main_arg2)

theorem entry_starts : entryContents preI m c (Proc.devRef .tc main_v6_0) = arg0 m c := by
  simp only [entryContents, afterL_cons, afterL_nil]
  after_reads_simp
  rfl

theorem entry_ends : entryContents preI m c (Proc.devRef .tc main_v6_1) = arg1 m c := by
  simp only [entryContents, afterL_cons, afterL_nil]
  after_reads_simp
  rfl

theorem entry_lens : entryContents preI m c (Proc.devRef .tc main_v6_2) = (maximumf (subf (arg1 m c) (arg0 m c))
    (broadcastInDim S200x160 ![] bcast_S_S200x160 (constant S_ .f32 0x00000000#32)) : FVec Ideal S200x160 .f32) := by
  simp only [entryContents, afterL_cons, afterL_nil]
  after_reads_simp
  rfl

theorem entry_rows : entryContents preI m c (Proc.devRef .tc main_v6_3) = iotaInDim S200 32 0 := by
  simp only [entryContents, afterL_cons, afterL_nil]
  after_reads_simp
  rfl

theorem entry_count : entryContents preI m c (Proc.devRef .tc main_v6_5) = fun _ => (0#32 : BitVec 32) := by
  simp only [entryContents, afterL_cons, afterL_nil]
  after_reads_simp
  rfl

theorem entry_mask : entryContents preI m c (Proc.devRef .tc main_v6_6)
    = cmpf (F := Ideal) .ogt (arg2 m c) (broadcastInDim S200x160 ![] bcast_S_S200x160 (constant S_ .f32 0x3C23D70A#32)) := by
  simp only [entryContents, afterL_cons, afterL_nil]
  after_reads_simp
  rfl

/-- The arrays the loop carries along do not change. -/
theorem held_same (n : ℕ) : held m c n (Proc.devRef .tc main_v6_0) = arg0 m c ∧ held m c n (Proc.devRef .tc main_v6_1) = arg1 m c
    ∧ held m c n (Proc.devRef .tc main_v6_2) = (maximumf (subf (arg1 m c) (arg0 m c))
        (broadcastInDim S200x160 ![] bcast_S_S200x160 (constant S_ .f32 0x00000000#32)) : FVec Ideal S200x160 .f32)
    ∧ held m c n (Proc.devRef .tc main_v6_3) = iotaInDim S200 32 0 := by
  induction n with
  | zero => exact ⟨entry_starts m c, entry_ends m c, entry_lens m c, entry_rows m c⟩
  | succ n ih =>
    rw [held, Function.iterate_succ_apply', STEP_main_v6_0, STEP_main_v6_1, STEP_main_v6_2, STEP_main_v6_3]
    exact ih

/-- The counter counts. -/
theorem held_count (n : ℕ) : held m c n (Proc.devRef .tc main_v6_5) = fun _ => BitVec.ofNat 32 n := by
  induction n with
  | zero => exact entry_count m c
  | succ n ih =>
    rw [held, Function.iterate_succ_apply', STEP_main_v6_5, step_main_v6_5,
      show (STEP^[n] (entryContents preI m c)) (Proc.devRef .tc main_v6_5) = _ from ih]
    funext y
    exact BitVec.ofNat_add_ofNat n 1

/-- The mask. -/
theorem held_mask (p : Fin 160) : ∀ n, n ≤ 200 → ∀ r : Fin 200,
    (held m c n (Proc.devRef .tc main_v6_6) : IVec S200x160 1) (ix2 r p) = 1#1 ↔ Kept (arg0 m c) (arg1 m c) (arg2 m c) p n r
  | 0, _, r => by
    rw [show held m c 0 (Proc.devRef .tc main_v6_6) = _ from entry_mask m c]
    rfl
  | n + 1, h, r => by
    obtain ⟨h0, h1, h2, h3⟩ := held_same m c n
    have ih := held_mask p n (by omega)
    rw [show held m c (n + 1) (Proc.devRef .tc main_v6_6) = step_main_v6_6 (held m c n) from by
      rw [held, Function.iterate_succ_apply', STEP_main_v6_6], step_eq, h0, h1, h2, h3]
    refine (turn_at _ _ _ _ _ _ (⟨n, h⟩ : Fin 200) r p (fun _ => rfl) rfl (held_count m c n)).trans ?_
    rw [ih, ih]
    exact and_congr Iff.rfl (not_congr ⟨fun k => ⟨h, k⟩, fun ⟨_, k⟩ => k⟩)

end Cert.Proof.RefSup

end
-- ==== Proof.Suppress.lean ====
/-
  The suppression call's claims: the three frames, and that the call and its reference end with the same three results.
-/
module

public import proofs.«01_k».proof.Defs
public import proofs.«01_k».proof.Proof.Gen.Nms
public import proofs.«01_k».proof.Proof.Masked
public import proofs.«01_k».proof.Proof.RefKept
public import Idealize.ShloMosaic.Lib.Quiescent

@[expose] public section

noncomputable section

namespace Cert.Proof

open Idealize.ShloMosaic Idealize.ShloMosaic.TcCoe Idealize.ShloMosaic.ValueIdx Idealize.SL.Sem

/-! ## The frames -/

section Text

set_option maxRecDepth 65536

/-- The call's two texts are one program: its body, -/
theorem bodies_eq : @Cert.NmsIdeal.cc0__nms_body Bits _ Cert.NmsIdeal.Gen.facts = @Cert.Nms.cc0__nms_body Bits _ Cert.Nms.Gen.facts := rfl

/-- its table of bodies, -/
theorem tables_eq : @Cert.NmsIdeal.defs₀ Bits _ Cert.NmsIdeal.Gen.facts = @Cert.Nms.defs₀ Bits _ Cert.Nms.Gen.facts := by
  unfold Cert.Nms.defs₀ Cert.NmsIdeal.defs₀
  refine congrArg Defs.onTc (funext fun l => ?_)
  match l with
  | 0 =>
    funext x
    obtain ⟨t, s⟩ := x
    rfl

/-- and the table with the call's pipeline. -/
theorem defs_eq : @Cert.NmsIdeal.defs Bits _ Cert.NmsIdeal.Gen.facts = @Cert.Nms.defs Bits _ Cert.Nms.Gen.facts :=
  congrArg (Pipeline.defs (Cert.NmsIdeal.pcfgs (F := Bits))) tables_eq

end Text

/-- The call's frame on the machine's own floats. -/
theorem frame_nms : Cert.quiescent_Nms (hNms := Cert.Nms.Gen.facts) := fun m ρ _ => by
  have h := (θ_run (Cert.NmsIdeal.defs (F := Bits)) _ _).mono (fun _ h => And.intro (fun c => (h.1 c).2) h.2) (Sup.run_nms (F := Bits) m ρ)
  rw [defs_eq] at h
  exact h

/-- The call's frame on the ideal ones. -/
theorem frame_nms_ideal : Cert.quiescent_NmsIdeal (hNmsIdeal := Cert.NmsIdeal.Gen.facts) := fun m ρ _ =>
  (θ_run (Cert.NmsIdeal.defs (F := Ideal)) _ _).mono (fun _ h => ⟨fun c => (h.1 c).2, h.2⟩) (Sup.run_nms (F := Ideal) m ρ)

/-- Its reference's frame. -/
theorem frame_nms_reference : Cert.quiescent_NmsReferenceIdeal (hNmsReferenceIdeal := Cert.NmsReferenceIdeal.Gen.facts) := fun m ρ _ =>
  (θ_run (Cert.NmsReferenceIdeal.defs (F := Ideal)) _ _).mono
    (fun r h => ⟨fun c => (h c).2.2.2, sem_eq_zero_of_no_sems (by decide) r.2⟩) (Cert.NmsReferenceIdeal.Value.run (F := Ideal) m ρ)

/-! ## The values -/

section Values

open Cert.NmsReferenceIdeal

variable (m : (ℓ : Loc nD τ sig) → Buf (Elt Ideal) ℓ) (c : Dev nD)

/-- The mask as numbers. -/
theorem mask_value (b : BitVec 1) : (FloatOps.uitofp .f32 b : Ideal .f32) = if b = 1#1 then (1 : EReal) else 0 := by
  show ((b.toNat : ℝ) : EReal) = _
  rcases (show b = 0#1 ∨ b = 1#1 by revert b; decide) with rfl | rfl
  · rw [if_neg (by decide)]
    norm_num
  · rw [if_pos rfl]
    norm_num

/-- The reference's results are the call's: an array masked by what is kept at the end. -/
theorem masked_eq (x : FVec Ideal S200x160 .f32) :
    (mulf x (uitofp .f32 (RefSup.held m c 200 (Proc.devRef .tc main_v6_6) : IVec S200x160 1)) : FVec Ideal S200x160 .f32)
      = Sup.masked (F := Ideal) (RefSup.arg0 m c) (RefSup.arg1 m c) (RefSup.arg2 m c) x := by
  classical
  funext y
  rw [eq_ix2 y]
  refine congrArg (fun z : EReal => x (ix2 (y 0) (y 1)) * z) ?_
  refine (mask_value _).trans ((if_congr (RefSup.held_mask m c (y 1) 200 le_rfl (y 0)) rfl rfl).trans ?_)
  exact (Sup.keepAt_eq _ _ _ (y 1) 200 le_rfl (y 0)).symm

theorem out0_eq : Value.out_main_v8 (RefSup.held m c 200) = Sup.masked (RefSup.arg0 m c) (RefSup.arg1 m c) (RefSup.arg2 m c) (RefSup.arg0 m c) := by
  rw [Value.out_main_v8, show RefSup.held m c 200 (Proc.devRef .tc main_arg0) = _ from Value.iter_main_arg0 m c 200]
  exact masked_eq m c _

theorem out1_eq : Value.out_main_v9 (RefSup.held m c 200) = Sup.masked (RefSup.arg0 m c) (RefSup.arg1 m c) (RefSup.arg2 m c) (RefSup.arg1 m c) := by
  rw [Value.out_main_v9, show RefSup.held m c 200 (Proc.devRef .tc main_arg1) = _ from Value.iter_main_arg1 m c 200]
  exact masked_eq m c _

theorem out2_eq : Value.out_main_v10 (RefSup.held m c 200) = Sup.masked (RefSup.arg0 m c) (RefSup.arg1 m c) (RefSup.arg2 m c) (RefSup.arg2 m c) := by
  rw [Value.out_main_v10, show RefSup.held m c 200 (Proc.devRef .tc main_arg2) = _ from Value.iter_main_arg2 m c 200]
  exact masked_eq m c _

end Values

/-- The value claim. -/
theorem agree_nms : Cert.algebraic_NmsIdeal_NmsReferenceIdeal (hNmsIdeal := Cert.NmsIdeal.Gen.facts)
    (hNmsReferenceIdeal := Cert.NmsReferenceIdeal.Gen.facts) := fun m ρ m' ρ' _ hin =>
  ⟨fun c => Sup.result m c (Sup.arg0 m c), fun c => Sup.result m c (Sup.arg1 m c), fun c => Sup.result m c (Sup.arg2 m c),
    (θ_run (Cert.NmsIdeal.defs (F := Ideal)) _ _).mono (fun _ h c => ⟨(h.1 c).1.1, (h.1 c).1.2.1, (h.1 c).1.2.2, (h.1 c).2⟩)
      (Sup.run_nms (F := Ideal) m ρ),
    (θ_run (Cert.NmsReferenceIdeal.defs (F := Ideal)) _ _).mono (fun r h c => by
      obtain ⟨h0, h1, h2, ha⟩ := h c
      obtain ⟨e0, e1, e2⟩ := hin c
      have e : ∀ x x' : Vec Ideal Cert.NmsIdeal.S200x160 .f32, x = x' →
          Sup.masked (RefSup.arg0 m' c) (RefSup.arg1 m' c) (RefSup.arg2 m' c) x = Sup.result m c x' := fun x x' hx => by
        rw [show RefSup.arg0 m' c = Sup.arg0 m c from e0, show RefSup.arg1 m' c = Sup.arg1 m c from e1,
          show RefSup.arg2 m' c = Sup.arg2 m c from e2, hx]
      exact ⟨h0.trans ((out0_eq m' c).trans (e _ _ e0)), h1.trans ((out1_eq m' c).trans (e _ _ e1)),
        h2.trans ((out2_eq m' c).trans (e _ _ e2)), ha⟩) (Cert.NmsReferenceIdeal.Value.run (F := Ideal) m' ρ')⟩

end Cert.Proof

end
-- ==== Proof.lean ====
/- The claims, assembled from the modules under `Proof/`. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Nms
public import proofs.«01_k».proof.Proof.Gen.NmsIdeal
public import proofs.«01_k».proof.Proof.Gen.NmsReferenceIdeal
public import proofs.«01_k».proof.Proof.Gen.NmsReferenceIdeal.Run
public import proofs.«01_k».proof.Proof.Gen.Thresh
public import proofs.«01_k».proof.Proof.Gen.Thresh.Frame
public import proofs.«01_k».proof.Proof.Gen.ThreshIdeal
public import proofs.«01_k».proof.Proof.Gen.ThreshIdeal.Frame
public import proofs.«01_k».proof.Proof.Gen.ThreshIdeal.Value
public import proofs.«01_k».proof.Proof.Gen.ThreshReferenceIdeal
public import proofs.«01_k».proof.Proof.Gen.ThreshReferenceIdeal.Run
public import proofs.«01_k».proof.Proof.Gen.Order
public import proofs.«01_k».proof.Proof.Gen.Order.Frame
public import proofs.«01_k».proof.Proof.Gen.OrderIdeal
public import proofs.«01_k».proof.Proof.Gen.OrderIdeal.Value
public import proofs.«01_k».proof.Proof.Gen.OrderReferenceIdeal
public import proofs.«01_k».proof.Proof.Gen.OrderReferenceIdeal.Run
public import proofs.«01_k».proof.Proof.Frames
public import proofs.«01_k».proof.Proof.Agree
public import proofs.«01_k».proof.Proof.Thresholds
public import proofs.«01_k».proof.Proof.Ordered
public import proofs.«01_k».proof.Proof.Suppress

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Thresh.Gen.facts, Cert.ThreshIdeal.Gen.facts, Cert.ThreshReferenceIdeal.Gen.facts,
  Cert.Order.Gen.facts, Cert.OrderIdeal.Gen.facts, Cert.OrderReferenceIdeal.Gen.facts,
  Cert.Nms.Gen.facts, Cert.NmsIdeal.Gen.facts, Cert.NmsReferenceIdeal.Gen.facts,
  frame_kernel, frame_ideal, frame_reference, frame_thresh, frame_thresh_ideal, frame_thresh_reference,
  frame_order, frame_order_ideal, frame_order_reference, frame_nms, frame_nms_ideal, frame_nms_reference,
  trivial, agree, trivial, agree_thresh, trivial, agree_order, trivial, agree_nms⟩

end Cert.Proof

end
